-- ==== Defs.lean ====
def Pre_Kernel [hPre_chars_in_vocab : Cert.Pre_chars_in_vocab.Facts] (m : (ℓ : Loc Cert.Kernel.nD Cert.Kernel.τ Cert.Kernel.sig) → Buf (Elt Bits) ℓ) : Prop :=
  ∀ c : Dev Cert.Kernel.nD,
    (Cert.Pre_chars_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_chars_in_vocab : Cert.Pre_chars_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_chars_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_chars_and_finite [hPre_chars_and_finite : Cert.Pre_chars_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_chars_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chars_and_finite [hPre_chars_and_finite : Cert.Pre_chars_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chars_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_chars_in_vocab : Cert.Pre_chars_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_chars_in_vocab : Cert.Pre_chars_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_chars_and_finite [hKernelIdeal : Cert.KernelIdeal.Facts] [hPre_chars_and_finite : Cert.Pre_chars_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chars_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_chars_and_finite [hReferenceIdeal : Cert.ReferenceIdeal.Facts] [hPre_chars_and_finite : Cert.Pre_chars_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chars_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_chars_and_finite [hKernelIdeal : Cert.KernelIdeal.Facts] [hReferenceIdeal : Cert.ReferenceIdeal.Facts] [hPre_chars_and_finite : Cert.Pre_chars_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chars_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_3) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_chars_in_vocab : Cert.Pre_chars_in_vocab.Facts) (hPre_chars_and_finite : Cert.Pre_chars_and_finite.Facts),
    quiescent_Kernel (hKernel := hKernel) (hPre_chars_in_vocab := hPre_chars_in_vocab)
    ∧ quiescent_KernelIdeal (hKernelIdeal := hKernelIdeal) (hPre_chars_in_vocab := hPre_chars_in_vocab)
    ∧ quiescent_KernelIdeal_pre_chars_and_finite (hKernelIdeal := hKernelIdeal) (hPre_chars_and_finite := hPre_chars_and_finite)
    ∧ quiescent_ReferenceIdeal (hReferenceIdeal := hReferenceIdeal)
    ∧ quiescent_ReferenceIdeal_pre_chars_and_finite (hReferenceIdeal := hReferenceIdeal) (hPre_chars_and_finite := hPre_chars_and_finite)
    ∧ preserves_Kernel_KernelIdeal
    ∧ algebraic_KernelIdeal_ReferenceIdeal_pre_chars_and_finite (hKernelIdeal := hKernelIdeal) (hReferenceIdeal := hReferenceIdeal) (hPre_chars_and_finite := hPre_chars_and_finite)
-- ==== Pre_chars_and_finite.lean ====
abbrev S16x2048x16 : Shape := ⟨3, ![16, 2048, 16]⟩
abbrev S16 : Shape := ⟨1, ![16]⟩
abbrev S1 : Shape := ⟨1, ![1]⟩
abbrev S_ : Shape := ⟨0, ![]⟩

class Facts : Prop where
  bcast_S_S16x2048x16 : S_.BroadcastsInDim S16x2048x16 (![] : Fin 0 → Fin S16x2048x16.rank)
  reducesTo_S16x2048x16_S_d0_1_2 : S16x2048x16.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S16x2048x16 32) (main_arg1 : IVec S16 32) (main_arg2 : FVec F S1 .f32) : IVec S_ 1 :=
  let main_c : IVec S_ 32 := constantI S_ 32 0#32
  let main_v0 : IVec S16x2048x16 32 := broadcastInDim S16x2048x16 ![] bcast_S_S16x2048x16 main_c
  let main_v1 : IVec S16x2048x16 1 := cmpi .sge main_arg0 main_v0
  let main_c_0 : IVec S_ 1 := constantI S_ 1 1#1
  let main_v2 : IVec S_ 1 := (fun x v => Host.reduce IntOp.andi x v reducesTo_S16x2048x16_S_d0_1_2 h_S_) main_v1 main_c_0
  let main_c_1 : IVec S_ 32 := constantI S_ 32 128#32
  let main_v3 : IVec S16x2048x16 32 := broadcastInDim S16x2048x16 ![] bcast_S_S16x2048x16 main_c_1
  let main_v4 : IVec S16x2048x16 1 := cmpi .slt main_arg0 main_v3
  let main_c_2 : IVec S_ 1 := constantI S_ 1 1#1
  let main_v5 : IVec S_ 1 := (fun x v => Host.reduce IntOp.andi x v reducesTo_S16x2048x16_S_d0_1_2 h_S_) main_v4 main_c_2
  let main_v6 : IVec S_ 1 := andi main_v2 main_v5
  let main_v7 : FVec F S1 .f32 := Host.absf main_arg2
  let main_cst : FVec F S_ .f32 := constant S_ .f32 0x7F800000#32
  let main_v8 : FVec F S1 .f32 := broadcastInDim S1 ![] bcast_S_S1 main_cst
  let main_v9 : IVec S1 1 := cmpf .olt main_v7 main_v8
  let main_c_3 : IVec S_ 1 := constantI S_ 1 1#1
  let main_v10 : IVec S_ 1 := (fun x v => Host.reduce IntOp.andi x v reducesTo_S1_S_d0 h_S_) main_v9 main_c_3
  let main_v11 : IVec S_ 1 := andi main_v6 main_v10
  main_v11
-- ==== Pre_chars_in_vocab.lean ====
abbrev S16x2048x16 : Shape := ⟨3, ![16, 2048, 16]⟩
abbrev S16 : Shape := ⟨1, ![16]⟩
abbrev S1 : Shape := ⟨1, ![1]⟩
abbrev S_ : Shape := ⟨0, ![]⟩

class Facts : Prop where
  bcast_S_S16x2048x16 : S_.BroadcastsInDim S16x2048x16 (![] : Fin 0 → Fin S16x2048x16.rank)
  reducesTo_S16x2048x16_S_d0_1_2 : S16x2048x16.ReducesTo [0, 1, 2] S_
  h_S_ : 0 < S_.numel

variable [Facts]

def fn {F : FTy → Type} [FloatOps F] (main_arg0 : IVec S16x2048x16 32) (main_arg1 : IVec S16 32) (main_arg2 : FVec F S1 .f32) : IVec S_ 1 :=
  let main_c : IVec S_ 32 := constantI S_ 32 0#32
  let main_v0 : IVec S16x2048x16 32 := broadcastInDim S16x2048x16 ![] bcast_S_S16x2048x16 main_c
  let main_v1 : IVec S16x2048x16 1 := cmpi .sge main_arg0 main_v0
  let main_c_0 : IVec S_ 1 := constantI S_ 1 1#1
  let main_v2 : IVec S_ 1 := (fun x v => Host.reduce IntOp.andi x v reducesTo_S16x2048x16_S_d0_1_2 h_S_) main_v1 main_c_0
  let main_c_1 : IVec S_ 32 := constantI S_ 32 128#32
  let main_v3 : IVec S16x2048x16 32 := broadcastInDim S16x2048x16 ![] bcast_S_S16x2048x16 main_c_1
  let main_v4 : IVec S16x2048x16 1 := cmpi .slt main_arg0 main_v3
  let main_c_2 : IVec S_ 1 := constantI S_ 1 1#1
  let main_v5 : IVec S_ 1 := (fun x v => Host.reduce IntOp.andi x v reducesTo_S16x2048x16_S_d0_1_2 h_S_) main_v4 main_c_2
  let main_v6 : IVec S_ 1 := andi main_v2 main_v5
  main_v6
-- ==== Kernel.lean ====
abbrev S16x2048x16 : Shape := ⟨3, ![16, 2048, 16]⟩
abbrev S16 : Shape := ⟨1, ![16]⟩
abbrev S1 : Shape := ⟨1, ![1]⟩
abbrev S16x16x2048 : Shape := ⟨3, ![16, 16, 2048]⟩
abbrev S4194304 : Shape := ⟨1, ![4194304]⟩
abbrev S16x1024 : Shape := ⟨2, ![16, 1024]⟩
abbrev S32768 : Shape := ⟨1, ![32768]⟩
abbrev S_ : Shape := ⟨0, ![]⟩
abbrev S1x16x1024 : Shape := ⟨3, ![1, 16, 1024]⟩
abbrev S16x2048x128 : Shape := ⟨3, ![16, 2048, 128]⟩

abbrev nBuf : Table → Nat
  | .hbm => 7
  | .local .scVector .vmem => 4
  | _ => 0

abbrev bufTy : (tb : Table) → Fin (nBuf tb) → BufTy
  | .hbm, ⟨0, _⟩ => ⟨S16x2048x16, .i32⟩
  | .hbm, ⟨1, _⟩ => ⟨S16, .i32⟩
  | .hbm, ⟨2, _⟩ => ⟨S1, .f32⟩
  | .hbm, ⟨3, _⟩ => ⟨S16x16x2048, .i32⟩
  | .hbm, ⟨4, _⟩ => ⟨S16, .f32⟩
  | .hbm, ⟨5, _⟩ => ⟨S4194304, .f32⟩
  | .hbm, ⟨6, _⟩ => ⟨S16x2048x128, .f32⟩
  | .local .scVector .vmem, ⟨0, _⟩ => ⟨S16, .f32⟩
  | .local .scVector .vmem, ⟨1, _⟩ => ⟨S16x1024, .i32⟩
  | .local .scVector .vmem, ⟨2, _⟩ => ⟨S32768, .f32⟩
  | .local .scVector .vmem, ⟨3, _⟩ => ⟨S32768, .f32⟩
  | _, _ => ⟨S16x2048x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2_i32_0 : BitVec 32 := 2#32
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v1 c2_i32_0
  let c0_i32_4 : BitVec 32 := 0#32
  let v16 : BitVec 1 := Scalar.cmpi .ne v15 c0_i32_4
  let v17 : BitVec 1 := Scalar.andi v14 v16
  let v3 : BitVec 32 := Scalar.divsi v1 c2_i32_0
  let c1_i32 : BitVec 32 := 1#32
  let v18 : BitVec 32 := Scalar.subi v3 c1_i32
  let v19 : BitVec 32 := Scalar.select v17 v18 v3
  let c0_i32_56_r1 : BitVec 32 := 0#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v1 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1024_i32_11 : BitVec 32 := 1024#32
  let v30 : BitVec 32 := Scalar.muli v29 c1024_i32_11
  ![v19.toNat, 0, v30.toNat]
@[reducible] def k0_t1_loop : Scf.Loop 32 :=
  let c0_i32_17 : BitVec 32 := 0#32
  let c256_i32 : BitVec 32 := 256#32
  let v53 : BitVec 32 := Scalar.addi c0_i32_17 c256_i32
  let c1_i32_18 : BitVec 32 := 1#32
  ⟨c0_i32_17, v53, c1_i32_18⟩
def k0_off2 (k0_t1 : Fin k0_t1_loop.trips) (c0_i32_57 : BitVec 32) : Fin 1 → Nat :=
  let c0_i32_17 : BitVec 32 := 0#32
  let c1_i32_18 : BitVec 32 := 1#32
  let arg11 : BitVec 32 := Scf.iv c0_i32_17 c1_i32_18 k0_t1
  let c128_i32_56 : BitVec 32 := 128#32
  let v84 : BitVec 32 := Scalar.muli arg11 c128_i32_56
  let v85 : BitVec 32 := Scalar.addi v84 c0_i32_57
  let v86 : Index := Scalar.indexCast v85
  ![v86.toNat]
@[reducible] def k0_t2_loop : Scf.Loop 32 :=
  let c0_i32_21 : BitVec 32 := 0#32
  let c8_i32_22 : BitVec 32 := 8#32
  let v54 : BitVec 32 := Scalar.addi c0_i32_21 c8_i32_22
  let c1_i32_23 : BitVec 32 := 1#32
  ⟨c0_i32_21, v54, c1_i32_23⟩

def k0_chk2 (v98 : IVec S16 32) : Prop :=
  (∀ a x, ((![v98] : Fin 1 → IVec S16 32) a x).toNat < S32768.size a)
theorem k0_idx2_inb : ∀ (v98 : IVec S16 32) (k0_hw2 : k0_chk2 v98), ∀ a x, ((![v98] : Fin 1 → IVec S16 32) a x).toNat < S32768.size a := fun v98 k0_hw2 => k0_hw2

def k0_chk3 (v106 : IVec S16 32) : Prop :=
  (∀ a x, ((![v106] : Fin 1 → IVec S16 32) a x).toNat < S32768.size a)
theorem k0_idx4_inb : ∀ (v106 : IVec S16 32) (k0_hw3 : k0_chk3 v106), ∀ a x, ((![v106] : Fin 1 → IVec S16 32) a x).toNat < S32768.size a := fun v106 k0_hw3 => k0_hw3

def k0_chk4 (v114 : IVec S16 32) : Prop :=
  (∀ a x, ((![v114] : Fin 1 → IVec S16 32) a x).toNat < S32768.size a)
theorem k0_idx6_inb : ∀ (v114 : IVec S16 32) (k0_hw4 : k0_chk4 v114), ∀ a x, ((![v114] : Fin 1 → IVec S16 32) a x).toNat < S32768.size a := fun v114 k0_hw4 => k0_hw4

def k0_chk5 (v122 : IVec S16 32) : Prop :=
  (∀ a x, ((![v122] : Fin 1 → IVec S16 32) a x).toNat < S32768.size a)
theorem k0_idx8_inb : ∀ (v122 : IVec S16 32) (k0_hw5 : k0_chk5 v122), ∀ a x, ((![v122] : Fin 1 → IVec S16 32) a x).toNat < S32768.size a := fun v122 k0_hw5 => k0_hw5

def k0_chk6 (v130 : IVec S16 32) : Prop :=
  (∀ a x, ((![v130] : Fin 1 → IVec S16 32) a x).toNat < S32768.size a)
theorem k0_idx10_inb : ∀ (v130 : IVec S16 32) (k0_hw6 : k0_chk6 v130), ∀ a x, ((![v130] : Fin 1 → IVec S16 32) a x).toNat < S32768.size a := fun v130 k0_hw6 => k0_hw6

def k0_chk7 (v138 : IVec S16 32) : Prop :=
  (∀ a x, ((![v138] : Fin 1 → IVec S16 32) a x).toNat < S32768.size a)
theorem k0_idx12_inb : ∀ (v138 : IVec S16 32) (k0_hw7 : k0_chk7 v138), ∀ a x, ((![v138] : Fin 1 → IVec S16 32) a x).toNat < S32768.size a := fun v138 k0_hw7 => k0_hw7

def k0_chk8 (v146 : IVec S16 32) : Prop :=
  (∀ a x, ((![v146] : Fin 1 → IVec S16 32) a x).toNat < S32768.size a)
theorem k0_idx14_inb : ∀ (v146 : IVec S16 32) (k0_hw8 : k0_chk8 v146), ∀ a x, ((![v146] : Fin 1 → IVec S16 32) a x).toNat < S32768.size a := fun v146 k0_hw8 => k0_hw8

def k0_chk9 (v154 : IVec S16 32) : Prop :=
  (∀ a x, ((![v154] : Fin 1 → IVec S16 32) a x).toNat < S32768.size a)
theorem k0_idx16_inb : ∀ (v154 : IVec S16 32) (k0_hw9 : k0_chk9 v154), ∀ a x, ((![v154] : Fin 1 → IVec S16 32) a x).toNat < S32768.size a := fun v154 k0_hw9 => k0_hw9

def k0_chk10 (v162 : IVec S16 32) : Prop :=
  (∀ a x, ((![v162] : Fin 1 → IVec S16 32) a x).toNat < S32768.size a)
theorem k0_idx18_inb : ∀ (v162 : IVec S16 32) (k0_hw10 : k0_chk10 v162), ∀ a x, ((![v162] : Fin 1 → IVec S16 32) a x).toNat < S32768.size a := fun v162 k0_hw10 => k0_hw10

def k0_chk11 (v170 : IVec S16 32) : Prop :=
  (∀ a x, ((![v170] : Fin 1 → IVec S16 32) a x).toNat < S32768.size a)
theorem k0_idx20_inb : ∀ (v170 : IVec S16 32) (k0_hw11 : k0_chk11 v170), ∀ a x, ((![v170] : Fin 1 → IVec S16 32) a x).toNat < S32768.size a := fun v170 k0_hw11 => k0_hw11

def k0_chk12 (v178 : IVec S16 32) : Prop :=
  (∀ a x, ((![v178] : Fin 1 → IVec S16 32) a x).toNat < S32768.size a)
theorem k0_idx22_inb : ∀ (v178 : IVec S16 32) (k0_hw12 : k0_chk12 v178), ∀ a x, ((![v178] : Fin 1 → IVec S16 32) a x).toNat < S32768.size a := fun v178 k0_hw12 => k0_hw12

def k0_chk13 (v186 : IVec S16 32) : Prop :=
  (∀ a x, ((![v186] : Fin 1 → IVec S16 32) a x).toNat < S32768.size a)
theorem k0_idx24_inb : ∀ (v186 : IVec S16 32) (k0_hw13 : k0_chk13 v186), ∀ a x, ((![v186] : Fin 1 → IVec S16 32) a x).toNat < S32768.size a := fun v186 k0_hw13 => k0_hw13

def k0_chk14 (v194 : IVec S16 32) : Prop :=
  (∀ a x, ((![v194] : Fin 1 → IVec S16 32) a x).toNat < S32768.size a)
theorem k0_idx26_inb : ∀ (v194 : IVec S16 32) (k0_hw14 : k0_chk14 v194), ∀ a x, ((![v194] : Fin 1 → IVec S16 32) a x).toNat < S32768.size a := fun v194 k0_hw14 => k0_hw14

def k0_chk15 (v202 : IVec S16 32) : Prop :=
  (∀ a x, ((![v202] : Fin 1 → IVec S16 32) a x).toNat < S32768.size a)
theorem k0_idx28_inb : ∀ (v202 : IVec S16 32) (k0_hw15 : k0_chk15 v202), ∀ a x, ((![v202] : Fin 1 → IVec S16 32) a x).toNat < S32768.size a := fun v202 k0_hw15 => k0_hw15

def k0_chk16 (v210 : IVec S16 32) : Prop :=
  (∀ a x, ((![v210] : Fin 1 → IVec S16 32) a x).toNat < S32768.size a)
theorem k0_idx30_inb : ∀ (v210 : IVec S16 32) (k0_hw16 : k0_chk16 v210), ∀ a x, ((![v210] : Fin 1 → IVec S16 32) a x).toNat < S32768.size a := fun v210 k0_hw16 => k0_hw16

def k0_chk1 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) : Prop :=
  (∀ a x, ((![v52, v89] : Fin 2 → IVec S16 32) a x).toNat < S16x1024.size a) ∧
  (∀ a x, ((![v51, v89] : Fin 2 → IVec S16 32) a x).toNat < S16x1024.size a) ∧
  (∀ a x, ((![v50, v89] : Fin 2 → IVec S16 32) a x).toNat < S16x1024.size a) ∧
  (∀ a x, ((![v49, v89] : Fin 2 → IVec S16 32) a x).toNat < S16x1024.size a) ∧
  (∀ a x, ((![v48, v89] : Fin 2 → IVec S16 32) a x).toNat < S16x1024.size a) ∧
  (∀ a x, ((![v47, v89] : Fin 2 → IVec S16 32) a x).toNat < S16x1024.size a) ∧
  (∀ a x, ((![v46, v89] : Fin 2 → IVec S16 32) a x).toNat < S16x1024.size a) ∧
  (∀ a x, ((![v45, v89] : Fin 2 → IVec S16 32) a x).toNat < S16x1024.size a) ∧
  (∀ a x, ((![v44, v89] : Fin 2 → IVec S16 32) a x).toNat < S16x1024.size a) ∧
  (∀ a x, ((![v43, v89] : Fin 2 → IVec S16 32) a x).toNat < S16x1024.size a) ∧
  (∀ a x, ((![v42, v89] : Fin 2 → IVec S16 32) a x).toNat < S16x1024.size a) ∧
  (∀ a x, ((![v41, v89] : Fin 2 → IVec S16 32) a x).toNat < S16x1024.size a) ∧
  (∀ a x, ((![v40, v89] : Fin 2 → IVec S16 32) a x).toNat < S16x1024.size a) ∧
  (∀ a x, ((![v39, v89] : Fin 2 → IVec S16 32) a x).toNat < S16x1024.size a) ∧
  (∀ a x, ((![v38, v89] : Fin 2 → IVec S16 32) a x).toNat < S16x1024.size a) ∧
  (∀ a x, ((![v37, v89] : Fin 2 → IVec S16 32) a x).toNat < S16x1024.size a)
theorem k0_idx1_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v52, v89] : Fin 2 → IVec S16 32) a x).toNat < S16x1024.size a := fun v37 v38 v39 v40 v41 v42 v43 v44 v45 v46 v47 v48 v49 v50 v51 v52 v89 k0_hw1 => k0_hw1.1
theorem k0_idx3_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v51, v89] : Fin 2 → IVec S16 32) a x).toNat < S16x1024.size a := fun v37 v38 v39 v40 v41 v42 v43 v44 v45 v46 v47 v48 v49 v50 v51 v52 v89 k0_hw1 => k0_hw1.2.1
theorem k0_idx5_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v50, v89] : Fin 2 → IVec S16 32) a x).toNat < S16x1024.size a := fun v37 v38 v39 v40 v41 v42 v43 v44 v45 v46 v47 v48 v49 v50 v51 v52 v89 k0_hw1 => k0_hw1.2.2.1
theorem k0_idx7_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v49, v89] : Fin 2 → IVec S16 32) a x).toNat < S16x1024.size a := fun v37 v38 v39 v40 v41 v42 v43 v44 v45 v46 v47 v48 v49 v50 v51 v52 v89 k0_hw1 => k0_hw1.2.2.2.1
theorem k0_idx9_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v48, v89] : Fin 2 → IVec S16 32) a x).toNat < S16x1024.size a := fun v37 v38 v39 v40 v41 v42 v43 v44 v45 v46 v47 v48 v49 v50 v51 v52 v89 k0_hw1 => k0_hw1.2.2.2.2.1
theorem k0_idx11_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v47, v89] : Fin 2 → IVec S16 32) a x).toNat < S16x1024.size a := fun v37 v38 v39 v40 v41 v42 v43 v44 v45 v46 v47 v48 v49 v50 v51 v52 v89 k0_hw1 => k0_hw1.2.2.2.2.2.1
theorem k0_idx13_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v46, v89] : Fin 2 → IVec S16 32) a x).toNat < S16x1024.size a := fun v37 v38 v39 v40 v41 v42 v43 v44 v45 v46 v47 v48 v49 v50 v51 v52 v89 k0_hw1 => k0_hw1.2.2.2.2.2.2.1
theorem k0_idx15_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v45, v89] : Fin 2 → IVec S16 32) a x).toNat < S16x1024.size a := fun v37 v38 v39 v40 v41 v42 v43 v44 v45 v46 v47 v48 v49 v50 v51 v52 v89 k0_hw1 => k0_hw1.2.2.2.2.2.2.2.1
theorem k0_idx17_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v44, v89] : Fin 2 → IVec S16 32) a x).toNat < S16x1024.size a := fun v37 v38 v39 v40 v41 v42 v43 v44 v45 v46 v47 v48 v49 v50 v51 v52 v89 k0_hw1 => k0_hw1.2.2.2.2.2.2.2.2.1
theorem k0_idx19_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v43, v89] : Fin 2 → IVec S16 32) a x).toNat < S16x1024.size a := fun v37 v38 v39 v40 v41 v42 v43 v44 v45 v46 v47 v48 v49 v50 v51 v52 v89 k0_hw1 => k0_hw1.2.2.2.2.2.2.2.2.2.1
theorem k0_idx21_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v42, v89] : Fin 2 → IVec S16 32) a x).toNat < S16x1024.size a := fun v37 v38 v39 v40 v41 v42 v43 v44 v45 v46 v47 v48 v49 v50 v51 v52 v89 k0_hw1 => k0_hw1.2.2.2.2.2.2.2.2.2.2.1
theorem k0_idx23_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v41, v89] : Fin 2 → IVec S16 32) a x).toNat < S16x1024.size a := fun v37 v38 v39 v40 v41 v42 v43 v44 v45 v46 v47 v48 v49 v50 v51 v52 v89 k0_hw1 => k0_hw1.2.2.2.2.2.2.2.2.2.2.2.1
theorem k0_idx25_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v40, v89] : Fin 2 → IVec S16 32) a x).toNat < S16x1024.size a := fun v37 v38 v39 v40 v41 v42 v43 v44 v45 v46 v47 v48 v49 v50 v51 v52 v89 k0_hw1 => k0_hw1.2.2.2.2.2.2.2.2.2.2.2.2.1
theorem k0_idx27_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v39, v89] : Fin 2 → IVec S16 32) a x).toNat < S16x1024.size a := fun v37 v38 v39 v40 v41 v42 v43 v44 v45 v46 v47 v48 v49 v50 v51 v52 v89 k0_hw1 => k0_hw1.2.2.2.2.2.2.2.2.2.2.2.2.2.1
theorem k0_idx29_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v38, v89] : Fin 2 → IVec S16 32) a x).toNat < S16x1024.size a := fun v37 v38 v39 v40 v41 v42 v43 v44 v45 v46 v47 v48 v49 v50 v51 v52 v89 k0_hw1 => k0_hw1.2.2.2.2.2.2.2.2.2.2.2.2.2.2.1
theorem k0_idx31_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw1 : k0_chk1 v37 v38 v39 v40 v41 v42 v43 v44 v45 v46 v47 v48 v49 v50 v51 v52 v89), ∀ a x, ((![v37, v89] : Fin 2 → IVec S16 32) a x).toNat < S16x1024.size a := fun v37 v38 v39 v40 v41 v42 v43 v44 v45 v46 v47 v48 v49 v50 v51 v52 v89 k0_hw1 => k0_hw1.2.2.2.2.2.2.2.2.2.2.2.2.2.2.2

def k0_chk17 (v218 : IVec S16 32) : Prop :=
  (∀ a x, ((![v218] : Fin 1 → IVec S16 32) a x).toNat < S32768.size a)
theorem k0_idx32_inb : ∀ (v218 : IVec S16 32) (k0_hw17 : k0_chk17 v218), ∀ a x, ((![v218] : Fin 1 → IVec S16 32) a x).toNat < S32768.size a := fun v218 k0_hw17 => k0_hw17

def k0_chk19 (v235 : IVec S16 32) : Prop :=
  (∀ a x, ((![v235] : Fin 1 → IVec S16 32) a x).toNat < S32768.size a)
theorem k0_idx34_inb : ∀ (v235 : IVec S16 32) (k0_hw19 : k0_chk19 v235), ∀ a x, ((![v235] : Fin 1 → IVec S16 32) a x).toNat < S32768.size a := fun v235 k0_hw19 => k0_hw19

def k0_chk20 (v243 : IVec S16 32) : Prop :=
  (∀ a x, ((![v243] : Fin 1 → IVec S16 32) a x).toNat < S32768.size a)
theorem k0_idx36_inb : ∀ (v243 : IVec S16 32) (k0_hw20 : k0_chk20 v243), ∀ a x, ((![v243] : Fin 1 → IVec S16 32) a x).toNat < S32768.size a := fun v243 k0_hw20 => k0_hw20

def k0_chk21 (v251 : IVec S16 32) : Prop :=
  (∀ a x, ((![v251] : Fin 1 → IVec S16 32) a x).toNat < S32768.size a)
theorem k0_idx38_inb : ∀ (v251 : IVec S16 32) (k0_hw21 : k0_chk21 v251), ∀ a x, ((![v251] : Fin 1 → IVec S16 32) a x).toNat < S32768.size a := fun v251 k0_hw21 => k0_hw21

def k0_chk22 (v259 : IVec S16 32) : Prop :=
  (∀ a x, ((![v259] : Fin 1 → IVec S16 32) a x).toNat < S32768.size a)
theorem k0_idx40_inb : ∀ (v259 : IVec S16 32) (k0_hw22 : k0_chk22 v259), ∀ a x, ((![v259] : Fin 1 → IVec S16 32) a x).toNat < S32768.size a := fun v259 k0_hw22 => k0_hw22

def k0_chk23 (v267 : IVec S16 32) : Prop :=
  (∀ a x, ((![v267] : Fin 1 → IVec S16 32) a x).toNat < S32768.size a)
theorem k0_idx42_inb : ∀ (v267 : IVec S16 32) (k0_hw23 : k0_chk23 v267), ∀ a x, ((![v267] : Fin 1 → IVec S16 32) a x).toNat < S32768.size a := fun v267 k0_hw23 => k0_hw23

def k0_chk24 (v275 : IVec S16 32) : Prop :=
  (∀ a x, ((![v275] : Fin 1 → IVec S16 32) a x).toNat < S32768.size a)
theorem k0_idx44_inb : ∀ (v275 : IVec S16 32) (k0_hw24 : k0_chk24 v275), ∀ a x, ((![v275] : Fin 1 → IVec S16 32) a x).toNat < S32768.size a := fun v275 k0_hw24 => k0_hw24

def k0_chk25 (v283 : IVec S16 32) : Prop :=
  (∀ a x, ((![v283] : Fin 1 → IVec S16 32) a x).toNat < S32768.size a)
theorem k0_idx46_inb : ∀ (v283 : IVec S16 32) (k0_hw25 : k0_chk25 v283), ∀ a x, ((![v283] : Fin 1 → IVec S16 32) a x).toNat < S32768.size a := fun v283 k0_hw25 => k0_hw25

def k0_chk26 (v291 : IVec S16 32) : Prop :=
  (∀ a x, ((![v291] : Fin 1 → IVec S16 32) a x).toNat < S32768.size a)
theorem k0_idx48_inb : ∀ (v291 : IVec S16 32) (k0_hw26 : k0_chk26 v291), ∀ a x, ((![v291] : Fin 1 → IVec S16 32) a x).toNat < S32768.size a := fun v291 k0_hw26 => k0_hw26

def k0_chk27 (v299 : IVec S16 32) : Prop :=
  (∀ a x, ((![v299] : Fin 1 → IVec S16 32) a x).toNat < S32768.size a)
theorem k0_idx50_inb : ∀ (v299 : IVec S16 32) (k0_hw27 : k0_chk27 v299), ∀ a x, ((![v299] : Fin 1 → IVec S16 32) a x).toNat < S32768.size a := fun v299 k0_hw27 => k0_hw27

def k0_chk28 (v307 : IVec S16 32) : Prop :=
  (∀ a x, ((![v307] : Fin 1 → IVec S16 32) a x).toNat < S32768.size a)
theorem k0_idx52_inb : ∀ (v307 : IVec S16 32) (k0_hw28 : k0_chk28 v307), ∀ a x, ((![v307] : Fin 1 → IVec S16 32) a x).toNat < S32768.size a := fun v307 k0_hw28 => k0_hw28

def k0_chk29 (v315 : IVec S16 32) : Prop :=
  (∀ a x, ((![v315] : Fin 1 → IVec S16 32) a x).toNat < S32768.size a)
theorem k0_idx54_inb : ∀ (v315 : IVec S16 32) (k0_hw29 : k0_chk29 v315), ∀ a x, ((![v315] : Fin 1 → IVec S16 32) a x).toNat < S32768.size a := fun v315 k0_hw29 => k0_hw29

def k0_chk30 (v323 : IVec S16 32) : Prop :=
  (∀ a x, ((![v323] : Fin 1 → IVec S16 32) a x).toNat < S32768.size a)
theorem k0_idx56_inb : ∀ (v323 : IVec S16 32) (k0_hw30 : k0_chk30 v323), ∀ a x, ((![v323] : Fin 1 → IVec S16 32) a x).toNat < S32768.size a := fun v323 k0_hw30 => k0_hw30

def k0_chk31 (v331 : IVec S16 32) : Prop :=
  (∀ a x, ((![v331] : Fin 1 → IVec S16 32) a x).toNat < S32768.size a)
theorem k0_idx58_inb : ∀ (v331 : IVec S16 32) (k0_hw31 : k0_chk31 v331), ∀ a x, ((![v331] : Fin 1 → IVec S16 32) a x).toNat < S32768.size a := fun v331 k0_hw31 => k0_hw31

def k0_chk32 (v339 : IVec S16 32) : Prop :=
  (∀ a x, ((![v339] : Fin 1 → IVec S16 32) a x).toNat < S32768.size a)
theorem k0_idx60_inb : ∀ (v339 : IVec S16 32) (k0_hw32 : k0_chk32 v339), ∀ a x, ((![v339] : Fin 1 → IVec S16 32) a x).toNat < S32768.size a := fun v339 k0_hw32 => k0_hw32

def k0_chk33 (v347 : IVec S16 32) : Prop :=
  (∀ a x, ((![v347] : Fin 1 → IVec S16 32) a x).toNat < S32768.size a)
theorem k0_idx62_inb : ∀ (v347 : IVec S16 32) (k0_hw33 : k0_chk33 v347), ∀ a x, ((![v347] : Fin 1 → IVec S16 32) a x).toNat < S32768.size a := fun v347 k0_hw33 => k0_hw33

def k0_chk18 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) : Prop :=
  (∀ a x, ((![v52, v226] : Fin 2 → IVec S16 32) a x).toNat < S16x1024.size a) ∧
  (∀ a x, ((![v51, v226] : Fin 2 → IVec S16 32) a x).toNat < S16x1024.size a) ∧
  (∀ a x, ((![v50, v226] : Fin 2 → IVec S16 32) a x).toNat < S16x1024.size a) ∧
  (∀ a x, ((![v49, v226] : Fin 2 → IVec S16 32) a x).toNat < S16x1024.size a) ∧
  (∀ a x, ((![v48, v226] : Fin 2 → IVec S16 32) a x).toNat < S16x1024.size a) ∧
  (∀ a x, ((![v47, v226] : Fin 2 → IVec S16 32) a x).toNat < S16x1024.size a) ∧
  (∀ a x, ((![v46, v226] : Fin 2 → IVec S16 32) a x).toNat < S16x1024.size a) ∧
  (∀ a x, ((![v45, v226] : Fin 2 → IVec S16 32) a x).toNat < S16x1024.size a) ∧
  (∀ a x, ((![v44, v226] : Fin 2 → IVec S16 32) a x).toNat < S16x1024.size a) ∧
  (∀ a x, ((![v43, v226] : Fin 2 → IVec S16 32) a x).toNat < S16x1024.size a) ∧
  (∀ a x, ((![v42, v226] : Fin 2 → IVec S16 32) a x).toNat < S16x1024.size a) ∧
  (∀ a x, ((![v41, v226] : Fin 2 → IVec S16 32) a x).toNat < S16x1024.size a) ∧
  (∀ a x, ((![v40, v226] : Fin 2 → IVec S16 32) a x).toNat < S16x1024.size a) ∧
  (∀ a x, ((![v39, v226] : Fin 2 → IVec S16 32) a x).toNat < S16x1024.size a) ∧
  (∀ a x, ((![v38, v226] : Fin 2 → IVec S16 32) a x).toNat < S16x1024.size a) ∧
  (∀ a x, ((![v37, v226] : Fin 2 → IVec S16 32) a x).toNat < S16x1024.size a)
theorem k0_idx33_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v52, v226] : Fin 2 → IVec S16 32) a x).toNat < S16x1024.size a := fun v37 v38 v39 v40 v41 v42 v43 v44 v45 v46 v47 v48 v49 v50 v51 v52 v226 k0_hw18 => k0_hw18.1
theorem k0_idx35_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v51, v226] : Fin 2 → IVec S16 32) a x).toNat < S16x1024.size a := fun v37 v38 v39 v40 v41 v42 v43 v44 v45 v46 v47 v48 v49 v50 v51 v52 v226 k0_hw18 => k0_hw18.2.1
theorem k0_idx37_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v50, v226] : Fin 2 → IVec S16 32) a x).toNat < S16x1024.size a := fun v37 v38 v39 v40 v41 v42 v43 v44 v45 v46 v47 v48 v49 v50 v51 v52 v226 k0_hw18 => k0_hw18.2.2.1
theorem k0_idx39_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v49, v226] : Fin 2 → IVec S16 32) a x).toNat < S16x1024.size a := fun v37 v38 v39 v40 v41 v42 v43 v44 v45 v46 v47 v48 v49 v50 v51 v52 v226 k0_hw18 => k0_hw18.2.2.2.1
theorem k0_idx41_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v48, v226] : Fin 2 → IVec S16 32) a x).toNat < S16x1024.size a := fun v37 v38 v39 v40 v41 v42 v43 v44 v45 v46 v47 v48 v49 v50 v51 v52 v226 k0_hw18 => k0_hw18.2.2.2.2.1
theorem k0_idx43_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v47, v226] : Fin 2 → IVec S16 32) a x).toNat < S16x1024.size a := fun v37 v38 v39 v40 v41 v42 v43 v44 v45 v46 v47 v48 v49 v50 v51 v52 v226 k0_hw18 => k0_hw18.2.2.2.2.2.1
theorem k0_idx45_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v46, v226] : Fin 2 → IVec S16 32) a x).toNat < S16x1024.size a := fun v37 v38 v39 v40 v41 v42 v43 v44 v45 v46 v47 v48 v49 v50 v51 v52 v226 k0_hw18 => k0_hw18.2.2.2.2.2.2.1
theorem k0_idx47_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v45, v226] : Fin 2 → IVec S16 32) a x).toNat < S16x1024.size a := fun v37 v38 v39 v40 v41 v42 v43 v44 v45 v46 v47 v48 v49 v50 v51 v52 v226 k0_hw18 => k0_hw18.2.2.2.2.2.2.2.1
theorem k0_idx49_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v44, v226] : Fin 2 → IVec S16 32) a x).toNat < S16x1024.size a := fun v37 v38 v39 v40 v41 v42 v43 v44 v45 v46 v47 v48 v49 v50 v51 v52 v226 k0_hw18 => k0_hw18.2.2.2.2.2.2.2.2.1
theorem k0_idx51_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v43, v226] : Fin 2 → IVec S16 32) a x).toNat < S16x1024.size a := fun v37 v38 v39 v40 v41 v42 v43 v44 v45 v46 v47 v48 v49 v50 v51 v52 v226 k0_hw18 => k0_hw18.2.2.2.2.2.2.2.2.2.1
theorem k0_idx53_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v42, v226] : Fin 2 → IVec S16 32) a x).toNat < S16x1024.size a := fun v37 v38 v39 v40 v41 v42 v43 v44 v45 v46 v47 v48 v49 v50 v51 v52 v226 k0_hw18 => k0_hw18.2.2.2.2.2.2.2.2.2.2.1
theorem k0_idx55_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v41, v226] : Fin 2 → IVec S16 32) a x).toNat < S16x1024.size a := fun v37 v38 v39 v40 v41 v42 v43 v44 v45 v46 v47 v48 v49 v50 v51 v52 v226 k0_hw18 => k0_hw18.2.2.2.2.2.2.2.2.2.2.2.1
theorem k0_idx57_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v40, v226] : Fin 2 → IVec S16 32) a x).toNat < S16x1024.size a := fun v37 v38 v39 v40 v41 v42 v43 v44 v45 v46 v47 v48 v49 v50 v51 v52 v226 k0_hw18 => k0_hw18.2.2.2.2.2.2.2.2.2.2.2.2.1
theorem k0_idx59_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v39, v226] : Fin 2 → IVec S16 32) a x).toNat < S16x1024.size a := fun v37 v38 v39 v40 v41 v42 v43 v44 v45 v46 v47 v48 v49 v50 v51 v52 v226 k0_hw18 => k0_hw18.2.2.2.2.2.2.2.2.2.2.2.2.2.1
theorem k0_idx61_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v38, v226] : Fin 2 → IVec S16 32) a x).toNat < S16x1024.size a := fun v37 v38 v39 v40 v41 v42 v43 v44 v45 v46 v47 v48 v49 v50 v51 v52 v226 k0_hw18 => k0_hw18.2.2.2.2.2.2.2.2.2.2.2.2.2.2.1
theorem k0_idx63_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw18 : k0_chk18 v37 v38 v39 v40 v41 v42 v43 v44 v45 v46 v47 v48 v49 v50 v51 v52 v226), ∀ a x, ((![v37, v226] : Fin 2 → IVec S16 32) a x).toNat < S16x1024.size a := fun v37 v38 v39 v40 v41 v42 v43 v44 v45 v46 v47 v48 v49 v50 v51 v52 v226 k0_hw18 => k0_hw18.2.2.2.2.2.2.2.2.2.2.2.2.2.2.2

def k0_chk34 (v355 : IVec S16 32) : Prop :=
  (∀ a x, ((![v355] : Fin 1 → IVec S16 32) a x).toNat < S32768.size a)
theorem k0_idx64_inb : ∀ (v355 : IVec S16 32) (k0_hw34 : k0_chk34 v355), ∀ a x, ((![v355] : Fin 1 → IVec S16 32) a x).toNat < S32768.size a := fun v355 k0_hw34 => k0_hw34
def k0_off3 (i : grid0.Coords) (c0_i32_25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v55 : BitVec 32 := Scalar.addi v2 c0_i32_25
  let c128_i32_26 : BitVec 32 := 128#32
  let v56 : BitVec 32 := Scalar.muli v55 c128_i32_26
  ![v56.toNat]
@[reducible] def k0_t3_loop : Scf.Loop 32 :=
  let c0_i32_28 : BitVec 32 := 0#32
  let c8_i32_29 : BitVec 32 := 8#32
  let v59 : BitVec 32 := Scalar.addi c0_i32_28 c8_i32_29
  let c1_i32_30 : BitVec 32 := 1#32
  ⟨c0_i32_28, v59, c1_i32_30⟩

def k0_chk36 (v98 : IVec S16 32) : Prop :=
  (∀ a x, ((![v98] : Fin 1 → IVec S16 32) a x).toNat < S32768.size a)
theorem k0_idx66_inb : ∀ (v98 : IVec S16 32) (k0_hw36 : k0_chk36 v98), ∀ a x, ((![v98] : Fin 1 → IVec S16 32) a x).toNat < S32768.size a := fun v98 k0_hw36 => k0_hw36

def k0_chk37 (v106 : IVec S16 32) : Prop :=
  (∀ a x, ((![v106] : Fin 1 → IVec S16 32) a x).toNat < S32768.size a)
theorem k0_idx68_inb : ∀ (v106 : IVec S16 32) (k0_hw37 : k0_chk37 v106), ∀ a x, ((![v106] : Fin 1 → IVec S16 32) a x).toNat < S32768.size a := fun v106 k0_hw37 => k0_hw37

def k0_chk38 (v114 : IVec S16 32) : Prop :=
  (∀ a x, ((![v114] : Fin 1 → IVec S16 32) a x).toNat < S32768.size a)
theorem k0_idx70_inb : ∀ (v114 : IVec S16 32) (k0_hw38 : k0_chk38 v114), ∀ a x, ((![v114] : Fin 1 → IVec S16 32) a x).toNat < S32768.size a := fun v114 k0_hw38 => k0_hw38

def k0_chk39 (v122 : IVec S16 32) : Prop :=
  (∀ a x, ((![v122] : Fin 1 → IVec S16 32) a x).toNat < S32768.size a)
theorem k0_idx72_inb : ∀ (v122 : IVec S16 32) (k0_hw39 : k0_chk39 v122), ∀ a x, ((![v122] : Fin 1 → IVec S16 32) a x).toNat < S32768.size a := fun v122 k0_hw39 => k0_hw39

def k0_chk40 (v130 : IVec S16 32) : Prop :=
  (∀ a x, ((![v130] : Fin 1 → IVec S16 32) a x).toNat < S32768.size a)
theorem k0_idx74_inb : ∀ (v130 : IVec S16 32) (k0_hw40 : k0_chk40 v130), ∀ a x, ((![v130] : Fin 1 → IVec S16 32) a x).toNat < S32768.size a := fun v130 k0_hw40 => k0_hw40

def k0_chk41 (v138 : IVec S16 32) : Prop :=
  (∀ a x, ((![v138] : Fin 1 → IVec S16 32) a x).toNat < S32768.size a)
theorem k0_idx76_inb : ∀ (v138 : IVec S16 32) (k0_hw41 : k0_chk41 v138), ∀ a x, ((![v138] : Fin 1 → IVec S16 32) a x).toNat < S32768.size a := fun v138 k0_hw41 => k0_hw41

def k0_chk42 (v146 : IVec S16 32) : Prop :=
  (∀ a x, ((![v146] : Fin 1 → IVec S16 32) a x).toNat < S32768.size a)
theorem k0_idx78_inb : ∀ (v146 : IVec S16 32) (k0_hw42 : k0_chk42 v146), ∀ a x, ((![v146] : Fin 1 → IVec S16 32) a x).toNat < S32768.size a := fun v146 k0_hw42 => k0_hw42

def k0_chk43 (v154 : IVec S16 32) : Prop :=
  (∀ a x, ((![v154] : Fin 1 → IVec S16 32) a x).toNat < S32768.size a)
theorem k0_idx80_inb : ∀ (v154 : IVec S16 32) (k0_hw43 : k0_chk43 v154), ∀ a x, ((![v154] : Fin 1 → IVec S16 32) a x).toNat < S32768.size a := fun v154 k0_hw43 => k0_hw43

def k0_chk44 (v162 : IVec S16 32) : Prop :=
  (∀ a x, ((![v162] : Fin 1 → IVec S16 32) a x).toNat < S32768.size a)
theorem k0_idx82_inb : ∀ (v162 : IVec S16 32) (k0_hw44 : k0_chk44 v162), ∀ a x, ((![v162] : Fin 1 → IVec S16 32) a x).toNat < S32768.size a := fun v162 k0_hw44 => k0_hw44

def k0_chk45 (v170 : IVec S16 32) : Prop :=
  (∀ a x, ((![v170] : Fin 1 → IVec S16 32) a x).toNat < S32768.size a)
theorem k0_idx84_inb : ∀ (v170 : IVec S16 32) (k0_hw45 : k0_chk45 v170), ∀ a x, ((![v170] : Fin 1 → IVec S16 32) a x).toNat < S32768.size a := fun v170 k0_hw45 => k0_hw45

def k0_chk46 (v178 : IVec S16 32) : Prop :=
  (∀ a x, ((![v178] : Fin 1 → IVec S16 32) a x).toNat < S32768.size a)
theorem k0_idx86_inb : ∀ (v178 : IVec S16 32) (k0_hw46 : k0_chk46 v178), ∀ a x, ((![v178] : Fin 1 → IVec S16 32) a x).toNat < S32768.size a := fun v178 k0_hw46 => k0_hw46

def k0_chk47 (v186 : IVec S16 32) : Prop :=
  (∀ a x, ((![v186] : Fin 1 → IVec S16 32) a x).toNat < S32768.size a)
theorem k0_idx88_inb : ∀ (v186 : IVec S16 32) (k0_hw47 : k0_chk47 v186), ∀ a x, ((![v186] : Fin 1 → IVec S16 32) a x).toNat < S32768.size a := fun v186 k0_hw47 => k0_hw47

def k0_chk48 (v194 : IVec S16 32) : Prop :=
  (∀ a x, ((![v194] : Fin 1 → IVec S16 32) a x).toNat < S32768.size a)
theorem k0_idx90_inb : ∀ (v194 : IVec S16 32) (k0_hw48 : k0_chk48 v194), ∀ a x, ((![v194] : Fin 1 → IVec S16 32) a x).toNat < S32768.size a := fun v194 k0_hw48 => k0_hw48

def k0_chk49 (v202 : IVec S16 32) : Prop :=
  (∀ a x, ((![v202] : Fin 1 → IVec S16 32) a x).toNat < S32768.size a)
theorem k0_idx92_inb : ∀ (v202 : IVec S16 32) (k0_hw49 : k0_chk49 v202), ∀ a x, ((![v202] : Fin 1 → IVec S16 32) a x).toNat < S32768.size a := fun v202 k0_hw49 => k0_hw49

def k0_chk50 (v210 : IVec S16 32) : Prop :=
  (∀ a x, ((![v210] : Fin 1 → IVec S16 32) a x).toNat < S32768.size a)
theorem k0_idx94_inb : ∀ (v210 : IVec S16 32) (k0_hw50 : k0_chk50 v210), ∀ a x, ((![v210] : Fin 1 → IVec S16 32) a x).toNat < S32768.size a := fun v210 k0_hw50 => k0_hw50

def k0_chk35 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) : Prop :=
  (∀ a x, ((![v52, v89] : Fin 2 → IVec S16 32) a x).toNat < S16x1024.size a) ∧
  (∀ a x, ((![v51, v89] : Fin 2 → IVec S16 32) a x).toNat < S16x1024.size a) ∧
  (∀ a x, ((![v50, v89] : Fin 2 → IVec S16 32) a x).toNat < S16x1024.size a) ∧
  (∀ a x, ((![v49, v89] : Fin 2 → IVec S16 32) a x).toNat < S16x1024.size a) ∧
  (∀ a x, ((![v48, v89] : Fin 2 → IVec S16 32) a x).toNat < S16x1024.size a) ∧
  (∀ a x, ((![v47, v89] : Fin 2 → IVec S16 32) a x).toNat < S16x1024.size a) ∧
  (∀ a x, ((![v46, v89] : Fin 2 → IVec S16 32) a x).toNat < S16x1024.size a) ∧
  (∀ a x, ((![v45, v89] : Fin 2 → IVec S16 32) a x).toNat < S16x1024.size a) ∧
  (∀ a x, ((![v44, v89] : Fin 2 → IVec S16 32) a x).toNat < S16x1024.size a) ∧
  (∀ a x, ((![v43, v89] : Fin 2 → IVec S16 32) a x).toNat < S16x1024.size a) ∧
  (∀ a x, ((![v42, v89] : Fin 2 → IVec S16 32) a x).toNat < S16x1024.size a) ∧
  (∀ a x, ((![v41, v89] : Fin 2 → IVec S16 32) a x).toNat < S16x1024.size a) ∧
  (∀ a x, ((![v40, v89] : Fin 2 → IVec S16 32) a x).toNat < S16x1024.size a) ∧
  (∀ a x, ((![v39, v89] : Fin 2 → IVec S16 32) a x).toNat < S16x1024.size a) ∧
  (∀ a x, ((![v38, v89] : Fin 2 → IVec S16 32) a x).toNat < S16x1024.size a) ∧
  (∀ a x, ((![v37, v89] : Fin 2 → IVec S16 32) a x).toNat < S16x1024.size a)
theorem k0_idx65_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v52, v89] : Fin 2 → IVec S16 32) a x).toNat < S16x1024.size a := fun v37 v38 v39 v40 v41 v42 v43 v44 v45 v46 v47 v48 v49 v50 v51 v52 v89 k0_hw35 => k0_hw35.1
theorem k0_idx67_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v51, v89] : Fin 2 → IVec S16 32) a x).toNat < S16x1024.size a := fun v37 v38 v39 v40 v41 v42 v43 v44 v45 v46 v47 v48 v49 v50 v51 v52 v89 k0_hw35 => k0_hw35.2.1
theorem k0_idx69_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v50, v89] : Fin 2 → IVec S16 32) a x).toNat < S16x1024.size a := fun v37 v38 v39 v40 v41 v42 v43 v44 v45 v46 v47 v48 v49 v50 v51 v52 v89 k0_hw35 => k0_hw35.2.2.1
theorem k0_idx71_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v49, v89] : Fin 2 → IVec S16 32) a x).toNat < S16x1024.size a := fun v37 v38 v39 v40 v41 v42 v43 v44 v45 v46 v47 v48 v49 v50 v51 v52 v89 k0_hw35 => k0_hw35.2.2.2.1
theorem k0_idx73_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v48, v89] : Fin 2 → IVec S16 32) a x).toNat < S16x1024.size a := fun v37 v38 v39 v40 v41 v42 v43 v44 v45 v46 v47 v48 v49 v50 v51 v52 v89 k0_hw35 => k0_hw35.2.2.2.2.1
theorem k0_idx75_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v47, v89] : Fin 2 → IVec S16 32) a x).toNat < S16x1024.size a := fun v37 v38 v39 v40 v41 v42 v43 v44 v45 v46 v47 v48 v49 v50 v51 v52 v89 k0_hw35 => k0_hw35.2.2.2.2.2.1
theorem k0_idx77_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v46, v89] : Fin 2 → IVec S16 32) a x).toNat < S16x1024.size a := fun v37 v38 v39 v40 v41 v42 v43 v44 v45 v46 v47 v48 v49 v50 v51 v52 v89 k0_hw35 => k0_hw35.2.2.2.2.2.2.1
theorem k0_idx79_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v45, v89] : Fin 2 → IVec S16 32) a x).toNat < S16x1024.size a := fun v37 v38 v39 v40 v41 v42 v43 v44 v45 v46 v47 v48 v49 v50 v51 v52 v89 k0_hw35 => k0_hw35.2.2.2.2.2.2.2.1
theorem k0_idx81_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v44, v89] : Fin 2 → IVec S16 32) a x).toNat < S16x1024.size a := fun v37 v38 v39 v40 v41 v42 v43 v44 v45 v46 v47 v48 v49 v50 v51 v52 v89 k0_hw35 => k0_hw35.2.2.2.2.2.2.2.2.1
theorem k0_idx83_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v43, v89] : Fin 2 → IVec S16 32) a x).toNat < S16x1024.size a := fun v37 v38 v39 v40 v41 v42 v43 v44 v45 v46 v47 v48 v49 v50 v51 v52 v89 k0_hw35 => k0_hw35.2.2.2.2.2.2.2.2.2.1
theorem k0_idx85_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v42, v89] : Fin 2 → IVec S16 32) a x).toNat < S16x1024.size a := fun v37 v38 v39 v40 v41 v42 v43 v44 v45 v46 v47 v48 v49 v50 v51 v52 v89 k0_hw35 => k0_hw35.2.2.2.2.2.2.2.2.2.2.1
theorem k0_idx87_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v41, v89] : Fin 2 → IVec S16 32) a x).toNat < S16x1024.size a := fun v37 v38 v39 v40 v41 v42 v43 v44 v45 v46 v47 v48 v49 v50 v51 v52 v89 k0_hw35 => k0_hw35.2.2.2.2.2.2.2.2.2.2.2.1
theorem k0_idx89_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v40, v89] : Fin 2 → IVec S16 32) a x).toNat < S16x1024.size a := fun v37 v38 v39 v40 v41 v42 v43 v44 v45 v46 v47 v48 v49 v50 v51 v52 v89 k0_hw35 => k0_hw35.2.2.2.2.2.2.2.2.2.2.2.2.1
theorem k0_idx91_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v39, v89] : Fin 2 → IVec S16 32) a x).toNat < S16x1024.size a := fun v37 v38 v39 v40 v41 v42 v43 v44 v45 v46 v47 v48 v49 v50 v51 v52 v89 k0_hw35 => k0_hw35.2.2.2.2.2.2.2.2.2.2.2.2.2.1
theorem k0_idx93_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v38, v89] : Fin 2 → IVec S16 32) a x).toNat < S16x1024.size a := fun v37 v38 v39 v40 v41 v42 v43 v44 v45 v46 v47 v48 v49 v50 v51 v52 v89 k0_hw35 => k0_hw35.2.2.2.2.2.2.2.2.2.2.2.2.2.2.1
theorem k0_idx95_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw35 : k0_chk35 v37 v38 v39 v40 v41 v42 v43 v44 v45 v46 v47 v48 v49 v50 v51 v52 v89), ∀ a x, ((![v37, v89] : Fin 2 → IVec S16 32) a x).toNat < S16x1024.size a := fun v37 v38 v39 v40 v41 v42 v43 v44 v45 v46 v47 v48 v49 v50 v51 v52 v89 k0_hw35 => k0_hw35.2.2.2.2.2.2.2.2.2.2.2.2.2.2.2

def k0_chk51 (v218 : IVec S16 32) : Prop :=
  (∀ a x, ((![v218] : Fin 1 → IVec S16 32) a x).toNat < S32768.size a)
theorem k0_idx96_inb : ∀ (v218 : IVec S16 32) (k0_hw51 : k0_chk51 v218), ∀ a x, ((![v218] : Fin 1 → IVec S16 32) a x).toNat < S32768.size a := fun v218 k0_hw51 => k0_hw51

def k0_chk53 (v235 : IVec S16 32) : Prop :=
  (∀ a x, ((![v235] : Fin 1 → IVec S16 32) a x).toNat < S32768.size a)
theorem k0_idx98_inb : ∀ (v235 : IVec S16 32) (k0_hw53 : k0_chk53 v235), ∀ a x, ((![v235] : Fin 1 → IVec S16 32) a x).toNat < S32768.size a := fun v235 k0_hw53 => k0_hw53

def k0_chk54 (v243 : IVec S16 32) : Prop :=
  (∀ a x, ((![v243] : Fin 1 → IVec S16 32) a x).toNat < S32768.size a)
theorem k0_idx100_inb : ∀ (v243 : IVec S16 32) (k0_hw54 : k0_chk54 v243), ∀ a x, ((![v243] : Fin 1 → IVec S16 32) a x).toNat < S32768.size a := fun v243 k0_hw54 => k0_hw54

def k0_chk55 (v251 : IVec S16 32) : Prop :=
  (∀ a x, ((![v251] : Fin 1 → IVec S16 32) a x).toNat < S32768.size a)
theorem k0_idx102_inb : ∀ (v251 : IVec S16 32) (k0_hw55 : k0_chk55 v251), ∀ a x, ((![v251] : Fin 1 → IVec S16 32) a x).toNat < S32768.size a := fun v251 k0_hw55 => k0_hw55

def k0_chk56 (v259 : IVec S16 32) : Prop :=
  (∀ a x, ((![v259] : Fin 1 → IVec S16 32) a x).toNat < S32768.size a)
theorem k0_idx104_inb : ∀ (v259 : IVec S16 32) (k0_hw56 : k0_chk56 v259), ∀ a x, ((![v259] : Fin 1 → IVec S16 32) a x).toNat < S32768.size a := fun v259 k0_hw56 => k0_hw56

def k0_chk57 (v267 : IVec S16 32) : Prop :=
  (∀ a x, ((![v267] : Fin 1 → IVec S16 32) a x).toNat < S32768.size a)
theorem k0_idx106_inb : ∀ (v267 : IVec S16 32) (k0_hw57 : k0_chk57 v267), ∀ a x, ((![v267] : Fin 1 → IVec S16 32) a x).toNat < S32768.size a := fun v267 k0_hw57 => k0_hw57

def k0_chk58 (v275 : IVec S16 32) : Prop :=
  (∀ a x, ((![v275] : Fin 1 → IVec S16 32) a x).toNat < S32768.size a)
theorem k0_idx108_inb : ∀ (v275 : IVec S16 32) (k0_hw58 : k0_chk58 v275), ∀ a x, ((![v275] : Fin 1 → IVec S16 32) a x).toNat < S32768.size a := fun v275 k0_hw58 => k0_hw58

def k0_chk59 (v283 : IVec S16 32) : Prop :=
  (∀ a x, ((![v283] : Fin 1 → IVec S16 32) a x).toNat < S32768.size a)
theorem k0_idx110_inb : ∀ (v283 : IVec S16 32) (k0_hw59 : k0_chk59 v283), ∀ a x, ((![v283] : Fin 1 → IVec S16 32) a x).toNat < S32768.size a := fun v283 k0_hw59 => k0_hw59

def k0_chk60 (v291 : IVec S16 32) : Prop :=
  (∀ a x, ((![v291] : Fin 1 → IVec S16 32) a x).toNat < S32768.size a)
theorem k0_idx112_inb : ∀ (v291 : IVec S16 32) (k0_hw60 : k0_chk60 v291), ∀ a x, ((![v291] : Fin 1 → IVec S16 32) a x).toNat < S32768.size a := fun v291 k0_hw60 => k0_hw60

def k0_chk61 (v299 : IVec S16 32) : Prop :=
  (∀ a x, ((![v299] : Fin 1 → IVec S16 32) a x).toNat < S32768.size a)
theorem k0_idx114_inb : ∀ (v299 : IVec S16 32) (k0_hw61 : k0_chk61 v299), ∀ a x, ((![v299] : Fin 1 → IVec S16 32) a x).toNat < S32768.size a := fun v299 k0_hw61 => k0_hw61

def k0_chk62 (v307 : IVec S16 32) : Prop :=
  (∀ a x, ((![v307] : Fin 1 → IVec S16 32) a x).toNat < S32768.size a)
theorem k0_idx116_inb : ∀ (v307 : IVec S16 32) (k0_hw62 : k0_chk62 v307), ∀ a x, ((![v307] : Fin 1 → IVec S16 32) a x).toNat < S32768.size a := fun v307 k0_hw62 => k0_hw62

def k0_chk63 (v315 : IVec S16 32) : Prop :=
  (∀ a x, ((![v315] : Fin 1 → IVec S16 32) a x).toNat < S32768.size a)
theorem k0_idx118_inb : ∀ (v315 : IVec S16 32) (k0_hw63 : k0_chk63 v315), ∀ a x, ((![v315] : Fin 1 → IVec S16 32) a x).toNat < S32768.size a := fun v315 k0_hw63 => k0_hw63

def k0_chk64 (v323 : IVec S16 32) : Prop :=
  (∀ a x, ((![v323] : Fin 1 → IVec S16 32) a x).toNat < S32768.size a)
theorem k0_idx120_inb : ∀ (v323 : IVec S16 32) (k0_hw64 : k0_chk64 v323), ∀ a x, ((![v323] : Fin 1 → IVec S16 32) a x).toNat < S32768.size a := fun v323 k0_hw64 => k0_hw64

def k0_chk65 (v331 : IVec S16 32) : Prop :=
  (∀ a x, ((![v331] : Fin 1 → IVec S16 32) a x).toNat < S32768.size a)
theorem k0_idx122_inb : ∀ (v331 : IVec S16 32) (k0_hw65 : k0_chk65 v331), ∀ a x, ((![v331] : Fin 1 → IVec S16 32) a x).toNat < S32768.size a := fun v331 k0_hw65 => k0_hw65

def k0_chk66 (v339 : IVec S16 32) : Prop :=
  (∀ a x, ((![v339] : Fin 1 → IVec S16 32) a x).toNat < S32768.size a)
theorem k0_idx124_inb : ∀ (v339 : IVec S16 32) (k0_hw66 : k0_chk66 v339), ∀ a x, ((![v339] : Fin 1 → IVec S16 32) a x).toNat < S32768.size a := fun v339 k0_hw66 => k0_hw66

def k0_chk67 (v347 : IVec S16 32) : Prop :=
  (∀ a x, ((![v347] : Fin 1 → IVec S16 32) a x).toNat < S32768.size a)
theorem k0_idx126_inb : ∀ (v347 : IVec S16 32) (k0_hw67 : k0_chk67 v347), ∀ a x, ((![v347] : Fin 1 → IVec S16 32) a x).toNat < S32768.size a := fun v347 k0_hw67 => k0_hw67

def k0_chk52 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) : Prop :=
  (∀ a x, ((![v52, v226] : Fin 2 → IVec S16 32) a x).toNat < S16x1024.size a) ∧
  (∀ a x, ((![v51, v226] : Fin 2 → IVec S16 32) a x).toNat < S16x1024.size a) ∧
  (∀ a x, ((![v50, v226] : Fin 2 → IVec S16 32) a x).toNat < S16x1024.size a) ∧
  (∀ a x, ((![v49, v226] : Fin 2 → IVec S16 32) a x).toNat < S16x1024.size a) ∧
  (∀ a x, ((![v48, v226] : Fin 2 → IVec S16 32) a x).toNat < S16x1024.size a) ∧
  (∀ a x, ((![v47, v226] : Fin 2 → IVec S16 32) a x).toNat < S16x1024.size a) ∧
  (∀ a x, ((![v46, v226] : Fin 2 → IVec S16 32) a x).toNat < S16x1024.size a) ∧
  (∀ a x, ((![v45, v226] : Fin 2 → IVec S16 32) a x).toNat < S16x1024.size a) ∧
  (∀ a x, ((![v44, v226] : Fin 2 → IVec S16 32) a x).toNat < S16x1024.size a) ∧
  (∀ a x, ((![v43, v226] : Fin 2 → IVec S16 32) a x).toNat < S16x1024.size a) ∧
  (∀ a x, ((![v42, v226] : Fin 2 → IVec S16 32) a x).toNat < S16x1024.size a) ∧
  (∀ a x, ((![v41, v226] : Fin 2 → IVec S16 32) a x).toNat < S16x1024.size a) ∧
  (∀ a x, ((![v40, v226] : Fin 2 → IVec S16 32) a x).toNat < S16x1024.size a) ∧
  (∀ a x, ((![v39, v226] : Fin 2 → IVec S16 32) a x).toNat < S16x1024.size a) ∧
  (∀ a x, ((![v38, v226] : Fin 2 → IVec S16 32) a x).toNat < S16x1024.size a) ∧
  (∀ a x, ((![v37, v226] : Fin 2 → IVec S16 32) a x).toNat < S16x1024.size a)
theorem k0_idx97_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v52, v226] : Fin 2 → IVec S16 32) a x).toNat < S16x1024.size a := fun v37 v38 v39 v40 v41 v42 v43 v44 v45 v46 v47 v48 v49 v50 v51 v52 v226 k0_hw52 => k0_hw52.1
theorem k0_idx99_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v51, v226] : Fin 2 → IVec S16 32) a x).toNat < S16x1024.size a := fun v37 v38 v39 v40 v41 v42 v43 v44 v45 v46 v47 v48 v49 v50 v51 v52 v226 k0_hw52 => k0_hw52.2.1
theorem k0_idx101_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v50, v226] : Fin 2 → IVec S16 32) a x).toNat < S16x1024.size a := fun v37 v38 v39 v40 v41 v42 v43 v44 v45 v46 v47 v48 v49 v50 v51 v52 v226 k0_hw52 => k0_hw52.2.2.1
theorem k0_idx103_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v49, v226] : Fin 2 → IVec S16 32) a x).toNat < S16x1024.size a := fun v37 v38 v39 v40 v41 v42 v43 v44 v45 v46 v47 v48 v49 v50 v51 v52 v226 k0_hw52 => k0_hw52.2.2.2.1
theorem k0_idx105_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v48, v226] : Fin 2 → IVec S16 32) a x).toNat < S16x1024.size a := fun v37 v38 v39 v40 v41 v42 v43 v44 v45 v46 v47 v48 v49 v50 v51 v52 v226 k0_hw52 => k0_hw52.2.2.2.2.1
theorem k0_idx107_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v47, v226] : Fin 2 → IVec S16 32) a x).toNat < S16x1024.size a := fun v37 v38 v39 v40 v41 v42 v43 v44 v45 v46 v47 v48 v49 v50 v51 v52 v226 k0_hw52 => k0_hw52.2.2.2.2.2.1
theorem k0_idx109_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v46, v226] : Fin 2 → IVec S16 32) a x).toNat < S16x1024.size a := fun v37 v38 v39 v40 v41 v42 v43 v44 v45 v46 v47 v48 v49 v50 v51 v52 v226 k0_hw52 => k0_hw52.2.2.2.2.2.2.1
theorem k0_idx111_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v45, v226] : Fin 2 → IVec S16 32) a x).toNat < S16x1024.size a := fun v37 v38 v39 v40 v41 v42 v43 v44 v45 v46 v47 v48 v49 v50 v51 v52 v226 k0_hw52 => k0_hw52.2.2.2.2.2.2.2.1
theorem k0_idx113_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v44, v226] : Fin 2 → IVec S16 32) a x).toNat < S16x1024.size a := fun v37 v38 v39 v40 v41 v42 v43 v44 v45 v46 v47 v48 v49 v50 v51 v52 v226 k0_hw52 => k0_hw52.2.2.2.2.2.2.2.2.1
theorem k0_idx115_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v43, v226] : Fin 2 → IVec S16 32) a x).toNat < S16x1024.size a := fun v37 v38 v39 v40 v41 v42 v43 v44 v45 v46 v47 v48 v49 v50 v51 v52 v226 k0_hw52 => k0_hw52.2.2.2.2.2.2.2.2.2.1
theorem k0_idx117_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v42, v226] : Fin 2 → IVec S16 32) a x).toNat < S16x1024.size a := fun v37 v38 v39 v40 v41 v42 v43 v44 v45 v46 v47 v48 v49 v50 v51 v52 v226 k0_hw52 => k0_hw52.2.2.2.2.2.2.2.2.2.2.1
theorem k0_idx119_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v41, v226] : Fin 2 → IVec S16 32) a x).toNat < S16x1024.size a := fun v37 v38 v39 v40 v41 v42 v43 v44 v45 v46 v47 v48 v49 v50 v51 v52 v226 k0_hw52 => k0_hw52.2.2.2.2.2.2.2.2.2.2.2.1
theorem k0_idx121_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v40, v226] : Fin 2 → IVec S16 32) a x).toNat < S16x1024.size a := fun v37 v38 v39 v40 v41 v42 v43 v44 v45 v46 v47 v48 v49 v50 v51 v52 v226 k0_hw52 => k0_hw52.2.2.2.2.2.2.2.2.2.2.2.2.1
theorem k0_idx123_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v39, v226] : Fin 2 → IVec S16 32) a x).toNat < S16x1024.size a := fun v37 v38 v39 v40 v41 v42 v43 v44 v45 v46 v47 v48 v49 v50 v51 v52 v226 k0_hw52 => k0_hw52.2.2.2.2.2.2.2.2.2.2.2.2.2.1
theorem k0_idx125_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v38, v226] : Fin 2 → IVec S16 32) a x).toNat < S16x1024.size a := fun v37 v38 v39 v40 v41 v42 v43 v44 v45 v46 v47 v48 v49 v50 v51 v52 v226 k0_hw52 => k0_hw52.2.2.2.2.2.2.2.2.2.2.2.2.2.2.1
theorem k0_idx127_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw52 : k0_chk52 v37 v38 v39 v40 v41 v42 v43 v44 v45 v46 v47 v48 v49 v50 v51 v52 v226), ∀ a x, ((![v37, v226] : Fin 2 → IVec S16 32) a x).toNat < S16x1024.size a := fun v37 v38 v39 v40 v41 v42 v43 v44 v45 v46 v47 v48 v49 v50 v51 v52 v226 k0_hw52 => k0_hw52.2.2.2.2.2.2.2.2.2.2.2.2.2.2.2

def k0_chk68 (v355 : IVec S16 32) : Prop :=
  (∀ a x, ((![v355] : Fin 1 → IVec S16 32) a x).toNat < S32768.size a)
theorem k0_idx128_inb : ∀ (v355 : IVec S16 32) (k0_hw68 : k0_chk68 v355), ∀ a x, ((![v355] : Fin 1 → IVec S16 32) a x).toNat < S32768.size a := fun v355 k0_hw68 => k0_hw68
@[reducible] def k0_t4_loop : Scf.Loop 32 :=
  let c0_i32_35 : BitVec 32 := 0#32
  let c8_i32_36 : BitVec 32 := 8#32
  let v66 : BitVec 32 := Scalar.addi c0_i32_35 c8_i32_36
  let c1_i32_37 : BitVec 32 := 1#32
  ⟨c0_i32_35, v66, c1_i32_37⟩

def k0_chk70 (v94 : IVec S16 32) : Prop :=
  (∀ a x, ((![v94] : Fin 1 → IVec S16 32) a x).toNat < S32768.size a)
theorem k0_idx130_inb : ∀ (v94 : IVec S16 32) (k0_hw70 : k0_chk70 v94), ∀ a x, ((![v94] : Fin 1 → IVec S16 32) a x).toNat < S32768.size a := fun v94 k0_hw70 => k0_hw70

def k0_chk71 (v96 : IVec S16 32) : Prop :=
  (∀ a x, ((![v96] : Fin 1 → IVec S16 32) a x).toNat < S32768.size a)
theorem k0_idx132_inb : ∀ (v96 : IVec S16 32) (k0_hw71 : k0_chk71 v96), ∀ a x, ((![v96] : Fin 1 → IVec S16 32) a x).toNat < S32768.size a := fun v96 k0_hw71 => k0_hw71

def k0_chk72 (v98 : IVec S16 32) : Prop :=
  (∀ a x, ((![v98] : Fin 1 → IVec S16 32) a x).toNat < S32768.size a)
theorem k0_idx134_inb : ∀ (v98 : IVec S16 32) (k0_hw72 : k0_chk72 v98), ∀ a x, ((![v98] : Fin 1 → IVec S16 32) a x).toNat < S32768.size a := fun v98 k0_hw72 => k0_hw72

def k0_chk73 (v100 : IVec S16 32) : Prop :=
  (∀ a x, ((![v100] : Fin 1 → IVec S16 32) a x).toNat < S32768.size a)
theorem k0_idx136_inb : ∀ (v100 : IVec S16 32) (k0_hw73 : k0_chk73 v100), ∀ a x, ((![v100] : Fin 1 → IVec S16 32) a x).toNat < S32768.size a := fun v100 k0_hw73 => k0_hw73

def k0_chk74 (v102 : IVec S16 32) : Prop :=
  (∀ a x, ((![v102] : Fin 1 → IVec S16 32) a x).toNat < S32768.size a)
theorem k0_idx138_inb : ∀ (v102 : IVec S16 32) (k0_hw74 : k0_chk74 v102), ∀ a x, ((![v102] : Fin 1 → IVec S16 32) a x).toNat < S32768.size a := fun v102 k0_hw74 => k0_hw74

def k0_chk75 (v104 : IVec S16 32) : Prop :=
  (∀ a x, ((![v104] : Fin 1 → IVec S16 32) a x).toNat < S32768.size a)
theorem k0_idx140_inb : ∀ (v104 : IVec S16 32) (k0_hw75 : k0_chk75 v104), ∀ a x, ((![v104] : Fin 1 → IVec S16 32) a x).toNat < S32768.size a := fun v104 k0_hw75 => k0_hw75

def k0_chk76 (v106 : IVec S16 32) : Prop :=
  (∀ a x, ((![v106] : Fin 1 → IVec S16 32) a x).toNat < S32768.size a)
theorem k0_idx142_inb : ∀ (v106 : IVec S16 32) (k0_hw76 : k0_chk76 v106), ∀ a x, ((![v106] : Fin 1 → IVec S16 32) a x).toNat < S32768.size a := fun v106 k0_hw76 => k0_hw76

def k0_chk77 (v108 : IVec S16 32) : Prop :=
  (∀ a x, ((![v108] : Fin 1 → IVec S16 32) a x).toNat < S32768.size a)
theorem k0_idx144_inb : ∀ (v108 : IVec S16 32) (k0_hw77 : k0_chk77 v108), ∀ a x, ((![v108] : Fin 1 → IVec S16 32) a x).toNat < S32768.size a := fun v108 k0_hw77 => k0_hw77

def k0_chk78 (v110 : IVec S16 32) : Prop :=
  (∀ a x, ((![v110] : Fin 1 → IVec S16 32) a x).toNat < S32768.size a)
theorem k0_idx146_inb : ∀ (v110 : IVec S16 32) (k0_hw78 : k0_chk78 v110), ∀ a x, ((![v110] : Fin 1 → IVec S16 32) a x).toNat < S32768.size a := fun v110 k0_hw78 => k0_hw78

def k0_chk79 (v112 : IVec S16 32) : Prop :=
  (∀ a x, ((![v112] : Fin 1 → IVec S16 32) a x).toNat < S32768.size a)
theorem k0_idx148_inb : ∀ (v112 : IVec S16 32) (k0_hw79 : k0_chk79 v112), ∀ a x, ((![v112] : Fin 1 → IVec S16 32) a x).toNat < S32768.size a := fun v112 k0_hw79 => k0_hw79

def k0_chk80 (v114 : IVec S16 32) : Prop :=
  (∀ a x, ((![v114] : Fin 1 → IVec S16 32) a x).toNat < S32768.size a)
theorem k0_idx150_inb : ∀ (v114 : IVec S16 32) (k0_hw80 : k0_chk80 v114), ∀ a x, ((![v114] : Fin 1 → IVec S16 32) a x).toNat < S32768.size a := fun v114 k0_hw80 => k0_hw80

def k0_chk81 (v116 : IVec S16 32) : Prop :=
  (∀ a x, ((![v116] : Fin 1 → IVec S16 32) a x).toNat < S32768.size a)
theorem k0_idx152_inb : ∀ (v116 : IVec S16 32) (k0_hw81 : k0_chk81 v116), ∀ a x, ((![v116] : Fin 1 → IVec S16 32) a x).toNat < S32768.size a := fun v116 k0_hw81 => k0_hw81

def k0_chk82 (v118 : IVec S16 32) : Prop :=
  (∀ a x, ((![v118] : Fin 1 → IVec S16 32) a x).toNat < S32768.size a)
theorem k0_idx154_inb : ∀ (v118 : IVec S16 32) (k0_hw82 : k0_chk82 v118), ∀ a x, ((![v118] : Fin 1 → IVec S16 32) a x).toNat < S32768.size a := fun v118 k0_hw82 => k0_hw82

def k0_chk83 (v120 : IVec S16 32) : Prop :=
  (∀ a x, ((![v120] : Fin 1 → IVec S16 32) a x).toNat < S32768.size a)
theorem k0_idx156_inb : ∀ (v120 : IVec S16 32) (k0_hw83 : k0_chk83 v120), ∀ a x, ((![v120] : Fin 1 → IVec S16 32) a x).toNat < S32768.size a := fun v120 k0_hw83 => k0_hw83

def k0_chk84 (v122 : IVec S16 32) : Prop :=
  (∀ a x, ((![v122] : Fin 1 → IVec S16 32) a x).toNat < S32768.size a)
theorem k0_idx158_inb : ∀ (v122 : IVec S16 32) (k0_hw84 : k0_chk84 v122), ∀ a x, ((![v122] : Fin 1 → IVec S16 32) a x).toNat < S32768.size a := fun v122 k0_hw84 => k0_hw84

def k0_chk69 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) : Prop :=
  (∀ a x, ((![v37, v89] : Fin 2 → IVec S16 32) a x).toNat < S16x1024.size a) ∧
  (∀ a x, ((![v38, v89] : Fin 2 → IVec S16 32) a x).toNat < S16x1024.size a) ∧
  (∀ a x, ((![v39, v89] : Fin 2 → IVec S16 32) a x).toNat < S16x1024.size a) ∧
  (∀ a x, ((![v40, v89] : Fin 2 → IVec S16 32) a x).toNat < S16x1024.size a) ∧
  (∀ a x, ((![v41, v89] : Fin 2 → IVec S16 32) a x).toNat < S16x1024.size a) ∧
  (∀ a x, ((![v42, v89] : Fin 2 → IVec S16 32) a x).toNat < S16x1024.size a) ∧
  (∀ a x, ((![v43, v89] : Fin 2 → IVec S16 32) a x).toNat < S16x1024.size a) ∧
  (∀ a x, ((![v44, v89] : Fin 2 → IVec S16 32) a x).toNat < S16x1024.size a) ∧
  (∀ a x, ((![v45, v89] : Fin 2 → IVec S16 32) a x).toNat < S16x1024.size a) ∧
  (∀ a x, ((![v46, v89] : Fin 2 → IVec S16 32) a x).toNat < S16x1024.size a) ∧
  (∀ a x, ((![v47, v89] : Fin 2 → IVec S16 32) a x).toNat < S16x1024.size a) ∧
  (∀ a x, ((![v48, v89] : Fin 2 → IVec S16 32) a x).toNat < S16x1024.size a) ∧
  (∀ a x, ((![v49, v89] : Fin 2 → IVec S16 32) a x).toNat < S16x1024.size a) ∧
  (∀ a x, ((![v50, v89] : Fin 2 → IVec S16 32) a x).toNat < S16x1024.size a) ∧
  (∀ a x, ((![v51, v89] : Fin 2 → IVec S16 32) a x).toNat < S16x1024.size a) ∧
  (∀ a x, ((![v52, v89] : Fin 2 → IVec S16 32) a x).toNat < S16x1024.size a)
theorem k0_idx129_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v37, v89] : Fin 2 → IVec S16 32) a x).toNat < S16x1024.size a := fun v37 v38 v39 v40 v41 v42 v43 v44 v45 v46 v47 v48 v49 v50 v51 v52 v89 k0_hw69 => k0_hw69.1
theorem k0_idx131_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v38, v89] : Fin 2 → IVec S16 32) a x).toNat < S16x1024.size a := fun v37 v38 v39 v40 v41 v42 v43 v44 v45 v46 v47 v48 v49 v50 v51 v52 v89 k0_hw69 => k0_hw69.2.1
theorem k0_idx133_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v39, v89] : Fin 2 → IVec S16 32) a x).toNat < S16x1024.size a := fun v37 v38 v39 v40 v41 v42 v43 v44 v45 v46 v47 v48 v49 v50 v51 v52 v89 k0_hw69 => k0_hw69.2.2.1
theorem k0_idx135_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v40, v89] : Fin 2 → IVec S16 32) a x).toNat < S16x1024.size a := fun v37 v38 v39 v40 v41 v42 v43 v44 v45 v46 v47 v48 v49 v50 v51 v52 v89 k0_hw69 => k0_hw69.2.2.2.1
theorem k0_idx137_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v41, v89] : Fin 2 → IVec S16 32) a x).toNat < S16x1024.size a := fun v37 v38 v39 v40 v41 v42 v43 v44 v45 v46 v47 v48 v49 v50 v51 v52 v89 k0_hw69 => k0_hw69.2.2.2.2.1
theorem k0_idx139_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v42, v89] : Fin 2 → IVec S16 32) a x).toNat < S16x1024.size a := fun v37 v38 v39 v40 v41 v42 v43 v44 v45 v46 v47 v48 v49 v50 v51 v52 v89 k0_hw69 => k0_hw69.2.2.2.2.2.1
theorem k0_idx141_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v43, v89] : Fin 2 → IVec S16 32) a x).toNat < S16x1024.size a := fun v37 v38 v39 v40 v41 v42 v43 v44 v45 v46 v47 v48 v49 v50 v51 v52 v89 k0_hw69 => k0_hw69.2.2.2.2.2.2.1
theorem k0_idx143_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v44, v89] : Fin 2 → IVec S16 32) a x).toNat < S16x1024.size a := fun v37 v38 v39 v40 v41 v42 v43 v44 v45 v46 v47 v48 v49 v50 v51 v52 v89 k0_hw69 => k0_hw69.2.2.2.2.2.2.2.1
theorem k0_idx145_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v45, v89] : Fin 2 → IVec S16 32) a x).toNat < S16x1024.size a := fun v37 v38 v39 v40 v41 v42 v43 v44 v45 v46 v47 v48 v49 v50 v51 v52 v89 k0_hw69 => k0_hw69.2.2.2.2.2.2.2.2.1
theorem k0_idx147_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v46, v89] : Fin 2 → IVec S16 32) a x).toNat < S16x1024.size a := fun v37 v38 v39 v40 v41 v42 v43 v44 v45 v46 v47 v48 v49 v50 v51 v52 v89 k0_hw69 => k0_hw69.2.2.2.2.2.2.2.2.2.1
theorem k0_idx149_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v47, v89] : Fin 2 → IVec S16 32) a x).toNat < S16x1024.size a := fun v37 v38 v39 v40 v41 v42 v43 v44 v45 v46 v47 v48 v49 v50 v51 v52 v89 k0_hw69 => k0_hw69.2.2.2.2.2.2.2.2.2.2.1
theorem k0_idx151_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v48, v89] : Fin 2 → IVec S16 32) a x).toNat < S16x1024.size a := fun v37 v38 v39 v40 v41 v42 v43 v44 v45 v46 v47 v48 v49 v50 v51 v52 v89 k0_hw69 => k0_hw69.2.2.2.2.2.2.2.2.2.2.2.1
theorem k0_idx153_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v49, v89] : Fin 2 → IVec S16 32) a x).toNat < S16x1024.size a := fun v37 v38 v39 v40 v41 v42 v43 v44 v45 v46 v47 v48 v49 v50 v51 v52 v89 k0_hw69 => k0_hw69.2.2.2.2.2.2.2.2.2.2.2.2.1
theorem k0_idx155_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v50, v89] : Fin 2 → IVec S16 32) a x).toNat < S16x1024.size a := fun v37 v38 v39 v40 v41 v42 v43 v44 v45 v46 v47 v48 v49 v50 v51 v52 v89 k0_hw69 => k0_hw69.2.2.2.2.2.2.2.2.2.2.2.2.2.1
theorem k0_idx157_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v51, v89] : Fin 2 → IVec S16 32) a x).toNat < S16x1024.size a := fun v37 v38 v39 v40 v41 v42 v43 v44 v45 v46 v47 v48 v49 v50 v51 v52 v89 k0_hw69 => k0_hw69.2.2.2.2.2.2.2.2.2.2.2.2.2.2.1
theorem k0_idx159_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw69 : k0_chk69 v37 v38 v39 v40 v41 v42 v43 v44 v45 v46 v47 v48 v49 v50 v51 v52 v89), ∀ a x, ((![v52, v89] : Fin 2 → IVec S16 32) a x).toNat < S16x1024.size a := fun v37 v38 v39 v40 v41 v42 v43 v44 v45 v46 v47 v48 v49 v50 v51 v52 v89 k0_hw69 => k0_hw69.2.2.2.2.2.2.2.2.2.2.2.2.2.2.2

def k0_chk85 (v124 : IVec S16 32) : Prop :=
  (∀ a x, ((![v124] : Fin 1 → IVec S16 32) a x).toNat < S32768.size a)
theorem k0_idx160_inb : ∀ (v124 : IVec S16 32) (k0_hw85 : k0_chk85 v124), ∀ a x, ((![v124] : Fin 1 → IVec S16 32) a x).toNat < S32768.size a := fun v124 k0_hw85 => k0_hw85

def k0_chk87 (v135 : IVec S16 32) : Prop :=
  (∀ a x, ((![v135] : Fin 1 → IVec S16 32) a x).toNat < S32768.size a)
theorem k0_idx162_inb : ∀ (v135 : IVec S16 32) (k0_hw87 : k0_chk87 v135), ∀ a x, ((![v135] : Fin 1 → IVec S16 32) a x).toNat < S32768.size a := fun v135 k0_hw87 => k0_hw87

def k0_chk88 (v137 : IVec S16 32) : Prop :=
  (∀ a x, ((![v137] : Fin 1 → IVec S16 32) a x).toNat < S32768.size a)
theorem k0_idx164_inb : ∀ (v137 : IVec S16 32) (k0_hw88 : k0_chk88 v137), ∀ a x, ((![v137] : Fin 1 → IVec S16 32) a x).toNat < S32768.size a := fun v137 k0_hw88 => k0_hw88

def k0_chk89 (v139 : IVec S16 32) : Prop :=
  (∀ a x, ((![v139] : Fin 1 → IVec S16 32) a x).toNat < S32768.size a)
theorem k0_idx166_inb : ∀ (v139 : IVec S16 32) (k0_hw89 : k0_chk89 v139), ∀ a x, ((![v139] : Fin 1 → IVec S16 32) a x).toNat < S32768.size a := fun v139 k0_hw89 => k0_hw89

def k0_chk90 (v141 : IVec S16 32) : Prop :=
  (∀ a x, ((![v141] : Fin 1 → IVec S16 32) a x).toNat < S32768.size a)
theorem k0_idx168_inb : ∀ (v141 : IVec S16 32) (k0_hw90 : k0_chk90 v141), ∀ a x, ((![v141] : Fin 1 → IVec S16 32) a x).toNat < S32768.size a := fun v141 k0_hw90 => k0_hw90

def k0_chk91 (v143 : IVec S16 32) : Prop :=
  (∀ a x, ((![v143] : Fin 1 → IVec S16 32) a x).toNat < S32768.size a)
theorem k0_idx170_inb : ∀ (v143 : IVec S16 32) (k0_hw91 : k0_chk91 v143), ∀ a x, ((![v143] : Fin 1 → IVec S16 32) a x).toNat < S32768.size a := fun v143 k0_hw91 => k0_hw91

def k0_chk92 (v145 : IVec S16 32) : Prop :=
  (∀ a x, ((![v145] : Fin 1 → IVec S16 32) a x).toNat < S32768.size a)
theorem k0_idx172_inb : ∀ (v145 : IVec S16 32) (k0_hw92 : k0_chk92 v145), ∀ a x, ((![v145] : Fin 1 → IVec S16 32) a x).toNat < S32768.size a := fun v145 k0_hw92 => k0_hw92

def k0_chk93 (v147 : IVec S16 32) : Prop :=
  (∀ a x, ((![v147] : Fin 1 → IVec S16 32) a x).toNat < S32768.size a)
theorem k0_idx174_inb : ∀ (v147 : IVec S16 32) (k0_hw93 : k0_chk93 v147), ∀ a x, ((![v147] : Fin 1 → IVec S16 32) a x).toNat < S32768.size a := fun v147 k0_hw93 => k0_hw93

def k0_chk94 (v149 : IVec S16 32) : Prop :=
  (∀ a x, ((![v149] : Fin 1 → IVec S16 32) a x).toNat < S32768.size a)
theorem k0_idx176_inb : ∀ (v149 : IVec S16 32) (k0_hw94 : k0_chk94 v149), ∀ a x, ((![v149] : Fin 1 → IVec S16 32) a x).toNat < S32768.size a := fun v149 k0_hw94 => k0_hw94

def k0_chk95 (v151 : IVec S16 32) : Prop :=
  (∀ a x, ((![v151] : Fin 1 → IVec S16 32) a x).toNat < S32768.size a)
theorem k0_idx178_inb : ∀ (v151 : IVec S16 32) (k0_hw95 : k0_chk95 v151), ∀ a x, ((![v151] : Fin 1 → IVec S16 32) a x).toNat < S32768.size a := fun v151 k0_hw95 => k0_hw95

def k0_chk96 (v153 : IVec S16 32) : Prop :=
  (∀ a x, ((![v153] : Fin 1 → IVec S16 32) a x).toNat < S32768.size a)
theorem k0_idx180_inb : ∀ (v153 : IVec S16 32) (k0_hw96 : k0_chk96 v153), ∀ a x, ((![v153] : Fin 1 → IVec S16 32) a x).toNat < S32768.size a := fun v153 k0_hw96 => k0_hw96

def k0_chk97 (v155 : IVec S16 32) : Prop :=
  (∀ a x, ((![v155] : Fin 1 → IVec S16 32) a x).toNat < S32768.size a)
theorem k0_idx182_inb : ∀ (v155 : IVec S16 32) (k0_hw97 : k0_chk97 v155), ∀ a x, ((![v155] : Fin 1 → IVec S16 32) a x).toNat < S32768.size a := fun v155 k0_hw97 => k0_hw97

def k0_chk98 (v157 : IVec S16 32) : Prop :=
  (∀ a x, ((![v157] : Fin 1 → IVec S16 32) a x).toNat < S32768.size a)
theorem k0_idx184_inb : ∀ (v157 : IVec S16 32) (k0_hw98 : k0_chk98 v157), ∀ a x, ((![v157] : Fin 1 → IVec S16 32) a x).toNat < S32768.size a := fun v157 k0_hw98 => k0_hw98

def k0_chk99 (v159 : IVec S16 32) : Prop :=
  (∀ a x, ((![v159] : Fin 1 → IVec S16 32) a x).toNat < S32768.size a)
theorem k0_idx186_inb : ∀ (v159 : IVec S16 32) (k0_hw99 : k0_chk99 v159), ∀ a x, ((![v159] : Fin 1 → IVec S16 32) a x).toNat < S32768.size a := fun v159 k0_hw99 => k0_hw99

def k0_chk100 (v161 : IVec S16 32) : Prop :=
  (∀ a x, ((![v161] : Fin 1 → IVec S16 32) a x).toNat < S32768.size a)
theorem k0_idx188_inb : ∀ (v161 : IVec S16 32) (k0_hw100 : k0_chk100 v161), ∀ a x, ((![v161] : Fin 1 → IVec S16 32) a x).toNat < S32768.size a := fun v161 k0_hw100 => k0_hw100

def k0_chk101 (v163 : IVec S16 32) : Prop :=
  (∀ a x, ((![v163] : Fin 1 → IVec S16 32) a x).toNat < S32768.size a)
theorem k0_idx190_inb : ∀ (v163 : IVec S16 32) (k0_hw101 : k0_chk101 v163), ∀ a x, ((![v163] : Fin 1 → IVec S16 32) a x).toNat < S32768.size a := fun v163 k0_hw101 => k0_hw101

def k0_chk86 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) : Prop :=
  (∀ a x, ((![v37, v130] : Fin 2 → IVec S16 32) a x).toNat < S16x1024.size a) ∧
  (∀ a x, ((![v38, v130] : Fin 2 → IVec S16 32) a x).toNat < S16x1024.size a) ∧
  (∀ a x, ((![v39, v130] : Fin 2 → IVec S16 32) a x).toNat < S16x1024.size a) ∧
  (∀ a x, ((![v40, v130] : Fin 2 → IVec S16 32) a x).toNat < S16x1024.size a) ∧
  (∀ a x, ((![v41, v130] : Fin 2 → IVec S16 32) a x).toNat < S16x1024.size a) ∧
  (∀ a x, ((![v42, v130] : Fin 2 → IVec S16 32) a x).toNat < S16x1024.size a) ∧
  (∀ a x, ((![v43, v130] : Fin 2 → IVec S16 32) a x).toNat < S16x1024.size a) ∧
  (∀ a x, ((![v44, v130] : Fin 2 → IVec S16 32) a x).toNat < S16x1024.size a) ∧
  (∀ a x, ((![v45, v130] : Fin 2 → IVec S16 32) a x).toNat < S16x1024.size a) ∧
  (∀ a x, ((![v46, v130] : Fin 2 → IVec S16 32) a x).toNat < S16x1024.size a) ∧
  (∀ a x, ((![v47, v130] : Fin 2 → IVec S16 32) a x).toNat < S16x1024.size a) ∧
  (∀ a x, ((![v48, v130] : Fin 2 → IVec S16 32) a x).toNat < S16x1024.size a) ∧
  (∀ a x, ((![v49, v130] : Fin 2 → IVec S16 32) a x).toNat < S16x1024.size a) ∧
  (∀ a x, ((![v50, v130] : Fin 2 → IVec S16 32) a x).toNat < S16x1024.size a) ∧
  (∀ a x, ((![v51, v130] : Fin 2 → IVec S16 32) a x).toNat < S16x1024.size a) ∧
  (∀ a x, ((![v52, v130] : Fin 2 → IVec S16 32) a x).toNat < S16x1024.size a)
theorem k0_idx161_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v37, v130] : Fin 2 → IVec S16 32) a x).toNat < S16x1024.size a := fun v37 v38 v39 v40 v41 v42 v43 v44 v45 v46 v47 v48 v49 v50 v51 v52 v130 k0_hw86 => k0_hw86.1
theorem k0_idx163_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v38, v130] : Fin 2 → IVec S16 32) a x).toNat < S16x1024.size a := fun v37 v38 v39 v40 v41 v42 v43 v44 v45 v46 v47 v48 v49 v50 v51 v52 v130 k0_hw86 => k0_hw86.2.1
theorem k0_idx165_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v39, v130] : Fin 2 → IVec S16 32) a x).toNat < S16x1024.size a := fun v37 v38 v39 v40 v41 v42 v43 v44 v45 v46 v47 v48 v49 v50 v51 v52 v130 k0_hw86 => k0_hw86.2.2.1
theorem k0_idx167_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v40, v130] : Fin 2 → IVec S16 32) a x).toNat < S16x1024.size a := fun v37 v38 v39 v40 v41 v42 v43 v44 v45 v46 v47 v48 v49 v50 v51 v52 v130 k0_hw86 => k0_hw86.2.2.2.1
theorem k0_idx169_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v41, v130] : Fin 2 → IVec S16 32) a x).toNat < S16x1024.size a := fun v37 v38 v39 v40 v41 v42 v43 v44 v45 v46 v47 v48 v49 v50 v51 v52 v130 k0_hw86 => k0_hw86.2.2.2.2.1
theorem k0_idx171_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v42, v130] : Fin 2 → IVec S16 32) a x).toNat < S16x1024.size a := fun v37 v38 v39 v40 v41 v42 v43 v44 v45 v46 v47 v48 v49 v50 v51 v52 v130 k0_hw86 => k0_hw86.2.2.2.2.2.1
theorem k0_idx173_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v43, v130] : Fin 2 → IVec S16 32) a x).toNat < S16x1024.size a := fun v37 v38 v39 v40 v41 v42 v43 v44 v45 v46 v47 v48 v49 v50 v51 v52 v130 k0_hw86 => k0_hw86.2.2.2.2.2.2.1
theorem k0_idx175_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v44, v130] : Fin 2 → IVec S16 32) a x).toNat < S16x1024.size a := fun v37 v38 v39 v40 v41 v42 v43 v44 v45 v46 v47 v48 v49 v50 v51 v52 v130 k0_hw86 => k0_hw86.2.2.2.2.2.2.2.1
theorem k0_idx177_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v45, v130] : Fin 2 → IVec S16 32) a x).toNat < S16x1024.size a := fun v37 v38 v39 v40 v41 v42 v43 v44 v45 v46 v47 v48 v49 v50 v51 v52 v130 k0_hw86 => k0_hw86.2.2.2.2.2.2.2.2.1
theorem k0_idx179_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v46, v130] : Fin 2 → IVec S16 32) a x).toNat < S16x1024.size a := fun v37 v38 v39 v40 v41 v42 v43 v44 v45 v46 v47 v48 v49 v50 v51 v52 v130 k0_hw86 => k0_hw86.2.2.2.2.2.2.2.2.2.1
theorem k0_idx181_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v47, v130] : Fin 2 → IVec S16 32) a x).toNat < S16x1024.size a := fun v37 v38 v39 v40 v41 v42 v43 v44 v45 v46 v47 v48 v49 v50 v51 v52 v130 k0_hw86 => k0_hw86.2.2.2.2.2.2.2.2.2.2.1
theorem k0_idx183_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v48, v130] : Fin 2 → IVec S16 32) a x).toNat < S16x1024.size a := fun v37 v38 v39 v40 v41 v42 v43 v44 v45 v46 v47 v48 v49 v50 v51 v52 v130 k0_hw86 => k0_hw86.2.2.2.2.2.2.2.2.2.2.2.1
theorem k0_idx185_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v49, v130] : Fin 2 → IVec S16 32) a x).toNat < S16x1024.size a := fun v37 v38 v39 v40 v41 v42 v43 v44 v45 v46 v47 v48 v49 v50 v51 v52 v130 k0_hw86 => k0_hw86.2.2.2.2.2.2.2.2.2.2.2.2.1
theorem k0_idx187_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v50, v130] : Fin 2 → IVec S16 32) a x).toNat < S16x1024.size a := fun v37 v38 v39 v40 v41 v42 v43 v44 v45 v46 v47 v48 v49 v50 v51 v52 v130 k0_hw86 => k0_hw86.2.2.2.2.2.2.2.2.2.2.2.2.2.1
theorem k0_idx189_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v51, v130] : Fin 2 → IVec S16 32) a x).toNat < S16x1024.size a := fun v37 v38 v39 v40 v41 v42 v43 v44 v45 v46 v47 v48 v49 v50 v51 v52 v130 k0_hw86 => k0_hw86.2.2.2.2.2.2.2.2.2.2.2.2.2.2.1
theorem k0_idx191_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw86 : k0_chk86 v37 v38 v39 v40 v41 v42 v43 v44 v45 v46 v47 v48 v49 v50 v51 v52 v130), ∀ a x, ((![v52, v130] : Fin 2 → IVec S16 32) a x).toNat < S16x1024.size a := fun v37 v38 v39 v40 v41 v42 v43 v44 v45 v46 v47 v48 v49 v50 v51 v52 v130 k0_hw86 => k0_hw86.2.2.2.2.2.2.2.2.2.2.2.2.2.2.2

def k0_chk102 (v165 : IVec S16 32) : Prop :=
  (∀ a x, ((![v165] : Fin 1 → IVec S16 32) a x).toNat < S32768.size a)
theorem k0_idx192_inb : ∀ (v165 : IVec S16 32) (k0_hw102 : k0_chk102 v165), ∀ a x, ((![v165] : Fin 1 → IVec S16 32) a x).toNat < S32768.size a := fun v165 k0_hw102 => k0_hw102
@[reducible] def k0_t5_loop : Scf.Loop 32 :=
  let c0_i32_40 : BitVec 32 := 0#32
  let c8_i32_41 : BitVec 32 := 8#32
  let v67 : BitVec 32 := Scalar.addi c0_i32_40 c8_i32_41
  let c1_i32_42 : BitVec 32 := 1#32
  ⟨c0_i32_40, v67, c1_i32_42⟩

def k0_chk104 (v98 : IVec S16 32) : Prop :=
  (∀ a x, ((![v98] : Fin 1 → IVec S16 32) a x).toNat < S32768.size a)
theorem k0_idx194_inb : ∀ (v98 : IVec S16 32) (k0_hw104 : k0_chk104 v98), ∀ a x, ((![v98] : Fin 1 → IVec S16 32) a x).toNat < S32768.size a := fun v98 k0_hw104 => k0_hw104

def k0_chk105 (v106 : IVec S16 32) : Prop :=
  (∀ a x, ((![v106] : Fin 1 → IVec S16 32) a x).toNat < S32768.size a)
theorem k0_idx196_inb : ∀ (v106 : IVec S16 32) (k0_hw105 : k0_chk105 v106), ∀ a x, ((![v106] : Fin 1 → IVec S16 32) a x).toNat < S32768.size a := fun v106 k0_hw105 => k0_hw105

def k0_chk106 (v114 : IVec S16 32) : Prop :=
  (∀ a x, ((![v114] : Fin 1 → IVec S16 32) a x).toNat < S32768.size a)
theorem k0_idx198_inb : ∀ (v114 : IVec S16 32) (k0_hw106 : k0_chk106 v114), ∀ a x, ((![v114] : Fin 1 → IVec S16 32) a x).toNat < S32768.size a := fun v114 k0_hw106 => k0_hw106

def k0_chk107 (v122 : IVec S16 32) : Prop :=
  (∀ a x, ((![v122] : Fin 1 → IVec S16 32) a x).toNat < S32768.size a)
theorem k0_idx200_inb : ∀ (v122 : IVec S16 32) (k0_hw107 : k0_chk107 v122), ∀ a x, ((![v122] : Fin 1 → IVec S16 32) a x).toNat < S32768.size a := fun v122 k0_hw107 => k0_hw107

def k0_chk108 (v130 : IVec S16 32) : Prop :=
  (∀ a x, ((![v130] : Fin 1 → IVec S16 32) a x).toNat < S32768.size a)
theorem k0_idx202_inb : ∀ (v130 : IVec S16 32) (k0_hw108 : k0_chk108 v130), ∀ a x, ((![v130] : Fin 1 → IVec S16 32) a x).toNat < S32768.size a := fun v130 k0_hw108 => k0_hw108

def k0_chk109 (v138 : IVec S16 32) : Prop :=
  (∀ a x, ((![v138] : Fin 1 → IVec S16 32) a x).toNat < S32768.size a)
theorem k0_idx204_inb : ∀ (v138 : IVec S16 32) (k0_hw109 : k0_chk109 v138), ∀ a x, ((![v138] : Fin 1 → IVec S16 32) a x).toNat < S32768.size a := fun v138 k0_hw109 => k0_hw109

def k0_chk110 (v146 : IVec S16 32) : Prop :=
  (∀ a x, ((![v146] : Fin 1 → IVec S16 32) a x).toNat < S32768.size a)
theorem k0_idx206_inb : ∀ (v146 : IVec S16 32) (k0_hw110 : k0_chk110 v146), ∀ a x, ((![v146] : Fin 1 → IVec S16 32) a x).toNat < S32768.size a := fun v146 k0_hw110 => k0_hw110

def k0_chk111 (v154 : IVec S16 32) : Prop :=
  (∀ a x, ((![v154] : Fin 1 → IVec S16 32) a x).toNat < S32768.size a)
theorem k0_idx208_inb : ∀ (v154 : IVec S16 32) (k0_hw111 : k0_chk111 v154), ∀ a x, ((![v154] : Fin 1 → IVec S16 32) a x).toNat < S32768.size a := fun v154 k0_hw111 => k0_hw111

def k0_chk112 (v162 : IVec S16 32) : Prop :=
  (∀ a x, ((![v162] : Fin 1 → IVec S16 32) a x).toNat < S32768.size a)
theorem k0_idx210_inb : ∀ (v162 : IVec S16 32) (k0_hw112 : k0_chk112 v162), ∀ a x, ((![v162] : Fin 1 → IVec S16 32) a x).toNat < S32768.size a := fun v162 k0_hw112 => k0_hw112

def k0_chk113 (v170 : IVec S16 32) : Prop :=
  (∀ a x, ((![v170] : Fin 1 → IVec S16 32) a x).toNat < S32768.size a)
theorem k0_idx212_inb : ∀ (v170 : IVec S16 32) (k0_hw113 : k0_chk113 v170), ∀ a x, ((![v170] : Fin 1 → IVec S16 32) a x).toNat < S32768.size a := fun v170 k0_hw113 => k0_hw113

def k0_chk114 (v178 : IVec S16 32) : Prop :=
  (∀ a x, ((![v178] : Fin 1 → IVec S16 32) a x).toNat < S32768.size a)
theorem k0_idx214_inb : ∀ (v178 : IVec S16 32) (k0_hw114 : k0_chk114 v178), ∀ a x, ((![v178] : Fin 1 → IVec S16 32) a x).toNat < S32768.size a := fun v178 k0_hw114 => k0_hw114

def k0_chk115 (v186 : IVec S16 32) : Prop :=
  (∀ a x, ((![v186] : Fin 1 → IVec S16 32) a x).toNat < S32768.size a)
theorem k0_idx216_inb : ∀ (v186 : IVec S16 32) (k0_hw115 : k0_chk115 v186), ∀ a x, ((![v186] : Fin 1 → IVec S16 32) a x).toNat < S32768.size a := fun v186 k0_hw115 => k0_hw115

def k0_chk116 (v194 : IVec S16 32) : Prop :=
  (∀ a x, ((![v194] : Fin 1 → IVec S16 32) a x).toNat < S32768.size a)
theorem k0_idx218_inb : ∀ (v194 : IVec S16 32) (k0_hw116 : k0_chk116 v194), ∀ a x, ((![v194] : Fin 1 → IVec S16 32) a x).toNat < S32768.size a := fun v194 k0_hw116 => k0_hw116

def k0_chk117 (v202 : IVec S16 32) : Prop :=
  (∀ a x, ((![v202] : Fin 1 → IVec S16 32) a x).toNat < S32768.size a)
theorem k0_idx220_inb : ∀ (v202 : IVec S16 32) (k0_hw117 : k0_chk117 v202), ∀ a x, ((![v202] : Fin 1 → IVec S16 32) a x).toNat < S32768.size a := fun v202 k0_hw117 => k0_hw117

def k0_chk118 (v210 : IVec S16 32) : Prop :=
  (∀ a x, ((![v210] : Fin 1 → IVec S16 32) a x).toNat < S32768.size a)
theorem k0_idx222_inb : ∀ (v210 : IVec S16 32) (k0_hw118 : k0_chk118 v210), ∀ a x, ((![v210] : Fin 1 → IVec S16 32) a x).toNat < S32768.size a := fun v210 k0_hw118 => k0_hw118

def k0_chk103 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) : Prop :=
  (∀ a x, ((![v52, v89] : Fin 2 → IVec S16 32) a x).toNat < S16x1024.size a) ∧
  (∀ a x, ((![v51, v89] : Fin 2 → IVec S16 32) a x).toNat < S16x1024.size a) ∧
  (∀ a x, ((![v50, v89] : Fin 2 → IVec S16 32) a x).toNat < S16x1024.size a) ∧
  (∀ a x, ((![v49, v89] : Fin 2 → IVec S16 32) a x).toNat < S16x1024.size a) ∧
  (∀ a x, ((![v48, v89] : Fin 2 → IVec S16 32) a x).toNat < S16x1024.size a) ∧
  (∀ a x, ((![v47, v89] : Fin 2 → IVec S16 32) a x).toNat < S16x1024.size a) ∧
  (∀ a x, ((![v46, v89] : Fin 2 → IVec S16 32) a x).toNat < S16x1024.size a) ∧
  (∀ a x, ((![v45, v89] : Fin 2 → IVec S16 32) a x).toNat < S16x1024.size a) ∧
  (∀ a x, ((![v44, v89] : Fin 2 → IVec S16 32) a x).toNat < S16x1024.size a) ∧
  (∀ a x, ((![v43, v89] : Fin 2 → IVec S16 32) a x).toNat < S16x1024.size a) ∧
  (∀ a x, ((![v42, v89] : Fin 2 → IVec S16 32) a x).toNat < S16x1024.size a) ∧
  (∀ a x, ((![v41, v89] : Fin 2 → IVec S16 32) a x).toNat < S16x1024.size a) ∧
  (∀ a x, ((![v40, v89] : Fin 2 → IVec S16 32) a x).toNat < S16x1024.size a) ∧
  (∀ a x, ((![v39, v89] : Fin 2 → IVec S16 32) a x).toNat < S16x1024.size a) ∧
  (∀ a x, ((![v38, v89] : Fin 2 → IVec S16 32) a x).toNat < S16x1024.size a) ∧
  (∀ a x, ((![v37, v89] : Fin 2 → IVec S16 32) a x).toNat < S16x1024.size a)
theorem k0_idx193_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v52, v89] : Fin 2 → IVec S16 32) a x).toNat < S16x1024.size a := fun v37 v38 v39 v40 v41 v42 v43 v44 v45 v46 v47 v48 v49 v50 v51 v52 v89 k0_hw103 => k0_hw103.1
theorem k0_idx195_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v51, v89] : Fin 2 → IVec S16 32) a x).toNat < S16x1024.size a := fun v37 v38 v39 v40 v41 v42 v43 v44 v45 v46 v47 v48 v49 v50 v51 v52 v89 k0_hw103 => k0_hw103.2.1
theorem k0_idx197_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v50, v89] : Fin 2 → IVec S16 32) a x).toNat < S16x1024.size a := fun v37 v38 v39 v40 v41 v42 v43 v44 v45 v46 v47 v48 v49 v50 v51 v52 v89 k0_hw103 => k0_hw103.2.2.1
theorem k0_idx199_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v49, v89] : Fin 2 → IVec S16 32) a x).toNat < S16x1024.size a := fun v37 v38 v39 v40 v41 v42 v43 v44 v45 v46 v47 v48 v49 v50 v51 v52 v89 k0_hw103 => k0_hw103.2.2.2.1
theorem k0_idx201_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v48, v89] : Fin 2 → IVec S16 32) a x).toNat < S16x1024.size a := fun v37 v38 v39 v40 v41 v42 v43 v44 v45 v46 v47 v48 v49 v50 v51 v52 v89 k0_hw103 => k0_hw103.2.2.2.2.1
theorem k0_idx203_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v47, v89] : Fin 2 → IVec S16 32) a x).toNat < S16x1024.size a := fun v37 v38 v39 v40 v41 v42 v43 v44 v45 v46 v47 v48 v49 v50 v51 v52 v89 k0_hw103 => k0_hw103.2.2.2.2.2.1
theorem k0_idx205_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v46, v89] : Fin 2 → IVec S16 32) a x).toNat < S16x1024.size a := fun v37 v38 v39 v40 v41 v42 v43 v44 v45 v46 v47 v48 v49 v50 v51 v52 v89 k0_hw103 => k0_hw103.2.2.2.2.2.2.1
theorem k0_idx207_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v45, v89] : Fin 2 → IVec S16 32) a x).toNat < S16x1024.size a := fun v37 v38 v39 v40 v41 v42 v43 v44 v45 v46 v47 v48 v49 v50 v51 v52 v89 k0_hw103 => k0_hw103.2.2.2.2.2.2.2.1
theorem k0_idx209_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v44, v89] : Fin 2 → IVec S16 32) a x).toNat < S16x1024.size a := fun v37 v38 v39 v40 v41 v42 v43 v44 v45 v46 v47 v48 v49 v50 v51 v52 v89 k0_hw103 => k0_hw103.2.2.2.2.2.2.2.2.1
theorem k0_idx211_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v43, v89] : Fin 2 → IVec S16 32) a x).toNat < S16x1024.size a := fun v37 v38 v39 v40 v41 v42 v43 v44 v45 v46 v47 v48 v49 v50 v51 v52 v89 k0_hw103 => k0_hw103.2.2.2.2.2.2.2.2.2.1
theorem k0_idx213_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v42, v89] : Fin 2 → IVec S16 32) a x).toNat < S16x1024.size a := fun v37 v38 v39 v40 v41 v42 v43 v44 v45 v46 v47 v48 v49 v50 v51 v52 v89 k0_hw103 => k0_hw103.2.2.2.2.2.2.2.2.2.2.1
theorem k0_idx215_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v41, v89] : Fin 2 → IVec S16 32) a x).toNat < S16x1024.size a := fun v37 v38 v39 v40 v41 v42 v43 v44 v45 v46 v47 v48 v49 v50 v51 v52 v89 k0_hw103 => k0_hw103.2.2.2.2.2.2.2.2.2.2.2.1
theorem k0_idx217_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v40, v89] : Fin 2 → IVec S16 32) a x).toNat < S16x1024.size a := fun v37 v38 v39 v40 v41 v42 v43 v44 v45 v46 v47 v48 v49 v50 v51 v52 v89 k0_hw103 => k0_hw103.2.2.2.2.2.2.2.2.2.2.2.2.1
theorem k0_idx219_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v39, v89] : Fin 2 → IVec S16 32) a x).toNat < S16x1024.size a := fun v37 v38 v39 v40 v41 v42 v43 v44 v45 v46 v47 v48 v49 v50 v51 v52 v89 k0_hw103 => k0_hw103.2.2.2.2.2.2.2.2.2.2.2.2.2.1
theorem k0_idx221_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v38, v89] : Fin 2 → IVec S16 32) a x).toNat < S16x1024.size a := fun v37 v38 v39 v40 v41 v42 v43 v44 v45 v46 v47 v48 v49 v50 v51 v52 v89 k0_hw103 => k0_hw103.2.2.2.2.2.2.2.2.2.2.2.2.2.2.1
theorem k0_idx223_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw103 : k0_chk103 v37 v38 v39 v40 v41 v42 v43 v44 v45 v46 v47 v48 v49 v50 v51 v52 v89), ∀ a x, ((![v37, v89] : Fin 2 → IVec S16 32) a x).toNat < S16x1024.size a := fun v37 v38 v39 v40 v41 v42 v43 v44 v45 v46 v47 v48 v49 v50 v51 v52 v89 k0_hw103 => k0_hw103.2.2.2.2.2.2.2.2.2.2.2.2.2.2.2

def k0_chk119 (v218 : IVec S16 32) : Prop :=
  (∀ a x, ((![v218] : Fin 1 → IVec S16 32) a x).toNat < S32768.size a)
theorem k0_idx224_inb : ∀ (v218 : IVec S16 32) (k0_hw119 : k0_chk119 v218), ∀ a x, ((![v218] : Fin 1 → IVec S16 32) a x).toNat < S32768.size a := fun v218 k0_hw119 => k0_hw119

def k0_chk121 (v235 : IVec S16 32) : Prop :=
  (∀ a x, ((![v235] : Fin 1 → IVec S16 32) a x).toNat < S32768.size a)
theorem k0_idx226_inb : ∀ (v235 : IVec S16 32) (k0_hw121 : k0_chk121 v235), ∀ a x, ((![v235] : Fin 1 → IVec S16 32) a x).toNat < S32768.size a := fun v235 k0_hw121 => k0_hw121

def k0_chk122 (v243 : IVec S16 32) : Prop :=
  (∀ a x, ((![v243] : Fin 1 → IVec S16 32) a x).toNat < S32768.size a)
theorem k0_idx228_inb : ∀ (v243 : IVec S16 32) (k0_hw122 : k0_chk122 v243), ∀ a x, ((![v243] : Fin 1 → IVec S16 32) a x).toNat < S32768.size a := fun v243 k0_hw122 => k0_hw122

def k0_chk123 (v251 : IVec S16 32) : Prop :=
  (∀ a x, ((![v251] : Fin 1 → IVec S16 32) a x).toNat < S32768.size a)
theorem k0_idx230_inb : ∀ (v251 : IVec S16 32) (k0_hw123 : k0_chk123 v251), ∀ a x, ((![v251] : Fin 1 → IVec S16 32) a x).toNat < S32768.size a := fun v251 k0_hw123 => k0_hw123

def k0_chk124 (v259 : IVec S16 32) : Prop :=
  (∀ a x, ((![v259] : Fin 1 → IVec S16 32) a x).toNat < S32768.size a)
theorem k0_idx232_inb : ∀ (v259 : IVec S16 32) (k0_hw124 : k0_chk124 v259), ∀ a x, ((![v259] : Fin 1 → IVec S16 32) a x).toNat < S32768.size a := fun v259 k0_hw124 => k0_hw124

def k0_chk125 (v267 : IVec S16 32) : Prop :=
  (∀ a x, ((![v267] : Fin 1 → IVec S16 32) a x).toNat < S32768.size a)
theorem k0_idx234_inb : ∀ (v267 : IVec S16 32) (k0_hw125 : k0_chk125 v267), ∀ a x, ((![v267] : Fin 1 → IVec S16 32) a x).toNat < S32768.size a := fun v267 k0_hw125 => k0_hw125

def k0_chk126 (v275 : IVec S16 32) : Prop :=
  (∀ a x, ((![v275] : Fin 1 → IVec S16 32) a x).toNat < S32768.size a)
theorem k0_idx236_inb : ∀ (v275 : IVec S16 32) (k0_hw126 : k0_chk126 v275), ∀ a x, ((![v275] : Fin 1 → IVec S16 32) a x).toNat < S32768.size a := fun v275 k0_hw126 => k0_hw126

def k0_chk127 (v283 : IVec S16 32) : Prop :=
  (∀ a x, ((![v283] : Fin 1 → IVec S16 32) a x).toNat < S32768.size a)
theorem k0_idx238_inb : ∀ (v283 : IVec S16 32) (k0_hw127 : k0_chk127 v283), ∀ a x, ((![v283] : Fin 1 → IVec S16 32) a x).toNat < S32768.size a := fun v283 k0_hw127 => k0_hw127

def k0_chk128 (v291 : IVec S16 32) : Prop :=
  (∀ a x, ((![v291] : Fin 1 → IVec S16 32) a x).toNat < S32768.size a)
theorem k0_idx240_inb : ∀ (v291 : IVec S16 32) (k0_hw128 : k0_chk128 v291), ∀ a x, ((![v291] : Fin 1 → IVec S16 32) a x).toNat < S32768.size a := fun v291 k0_hw128 => k0_hw128

def k0_chk129 (v299 : IVec S16 32) : Prop :=
  (∀ a x, ((![v299] : Fin 1 → IVec S16 32) a x).toNat < S32768.size a)
theorem k0_idx242_inb : ∀ (v299 : IVec S16 32) (k0_hw129 : k0_chk129 v299), ∀ a x, ((![v299] : Fin 1 → IVec S16 32) a x).toNat < S32768.size a := fun v299 k0_hw129 => k0_hw129

def k0_chk130 (v307 : IVec S16 32) : Prop :=
  (∀ a x, ((![v307] : Fin 1 → IVec S16 32) a x).toNat < S32768.size a)
theorem k0_idx244_inb : ∀ (v307 : IVec S16 32) (k0_hw130 : k0_chk130 v307), ∀ a x, ((![v307] : Fin 1 → IVec S16 32) a x).toNat < S32768.size a := fun v307 k0_hw130 => k0_hw130

def k0_chk131 (v315 : IVec S16 32) : Prop :=
  (∀ a x, ((![v315] : Fin 1 → IVec S16 32) a x).toNat < S32768.size a)
theorem k0_idx246_inb : ∀ (v315 : IVec S16 32) (k0_hw131 : k0_chk131 v315), ∀ a x, ((![v315] : Fin 1 → IVec S16 32) a x).toNat < S32768.size a := fun v315 k0_hw131 => k0_hw131

def k0_chk132 (v323 : IVec S16 32) : Prop :=
  (∀ a x, ((![v323] : Fin 1 → IVec S16 32) a x).toNat < S32768.size a)
theorem k0_idx248_inb : ∀ (v323 : IVec S16 32) (k0_hw132 : k0_chk132 v323), ∀ a x, ((![v323] : Fin 1 → IVec S16 32) a x).toNat < S32768.size a := fun v323 k0_hw132 => k0_hw132

def k0_chk133 (v331 : IVec S16 32) : Prop :=
  (∀ a x, ((![v331] : Fin 1 → IVec S16 32) a x).toNat < S32768.size a)
theorem k0_idx250_inb : ∀ (v331 : IVec S16 32) (k0_hw133 : k0_chk133 v331), ∀ a x, ((![v331] : Fin 1 → IVec S16 32) a x).toNat < S32768.size a := fun v331 k0_hw133 => k0_hw133

def k0_chk134 (v339 : IVec S16 32) : Prop :=
  (∀ a x, ((![v339] : Fin 1 → IVec S16 32) a x).toNat < S32768.size a)
theorem k0_idx252_inb : ∀ (v339 : IVec S16 32) (k0_hw134 : k0_chk134 v339), ∀ a x, ((![v339] : Fin 1 → IVec S16 32) a x).toNat < S32768.size a := fun v339 k0_hw134 => k0_hw134

def k0_chk135 (v347 : IVec S16 32) : Prop :=
  (∀ a x, ((![v347] : Fin 1 → IVec S16 32) a x).toNat < S32768.size a)
theorem k0_idx254_inb : ∀ (v347 : IVec S16 32) (k0_hw135 : k0_chk135 v347), ∀ a x, ((![v347] : Fin 1 → IVec S16 32) a x).toNat < S32768.size a := fun v347 k0_hw135 => k0_hw135

def k0_chk120 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) : Prop :=
  (∀ a x, ((![v52, v226] : Fin 2 → IVec S16 32) a x).toNat < S16x1024.size a) ∧
  (∀ a x, ((![v51, v226] : Fin 2 → IVec S16 32) a x).toNat < S16x1024.size a) ∧
  (∀ a x, ((![v50, v226] : Fin 2 → IVec S16 32) a x).toNat < S16x1024.size a) ∧
  (∀ a x, ((![v49, v226] : Fin 2 → IVec S16 32) a x).toNat < S16x1024.size a) ∧
  (∀ a x, ((![v48, v226] : Fin 2 → IVec S16 32) a x).toNat < S16x1024.size a) ∧
  (∀ a x, ((![v47, v226] : Fin 2 → IVec S16 32) a x).toNat < S16x1024.size a) ∧
  (∀ a x, ((![v46, v226] : Fin 2 → IVec S16 32) a x).toNat < S16x1024.size a) ∧
  (∀ a x, ((![v45, v226] : Fin 2 → IVec S16 32) a x).toNat < S16x1024.size a) ∧
  (∀ a x, ((![v44, v226] : Fin 2 → IVec S16 32) a x).toNat < S16x1024.size a) ∧
  (∀ a x, ((![v43, v226] : Fin 2 → IVec S16 32) a x).toNat < S16x1024.size a) ∧
  (∀ a x, ((![v42, v226] : Fin 2 → IVec S16 32) a x).toNat < S16x1024.size a) ∧
  (∀ a x, ((![v41, v226] : Fin 2 → IVec S16 32) a x).toNat < S16x1024.size a) ∧
  (∀ a x, ((![v40, v226] : Fin 2 → IVec S16 32) a x).toNat < S16x1024.size a) ∧
  (∀ a x, ((![v39, v226] : Fin 2 → IVec S16 32) a x).toNat < S16x1024.size a) ∧
  (∀ a x, ((![v38, v226] : Fin 2 → IVec S16 32) a x).toNat < S16x1024.size a) ∧
  (∀ a x, ((![v37, v226] : Fin 2 → IVec S16 32) a x).toNat < S16x1024.size a)
theorem k0_idx225_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v52, v226] : Fin 2 → IVec S16 32) a x).toNat < S16x1024.size a := fun v37 v38 v39 v40 v41 v42 v43 v44 v45 v46 v47 v48 v49 v50 v51 v52 v226 k0_hw120 => k0_hw120.1
theorem k0_idx227_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v51, v226] : Fin 2 → IVec S16 32) a x).toNat < S16x1024.size a := fun v37 v38 v39 v40 v41 v42 v43 v44 v45 v46 v47 v48 v49 v50 v51 v52 v226 k0_hw120 => k0_hw120.2.1
theorem k0_idx229_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v50, v226] : Fin 2 → IVec S16 32) a x).toNat < S16x1024.size a := fun v37 v38 v39 v40 v41 v42 v43 v44 v45 v46 v47 v48 v49 v50 v51 v52 v226 k0_hw120 => k0_hw120.2.2.1
theorem k0_idx231_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v49, v226] : Fin 2 → IVec S16 32) a x).toNat < S16x1024.size a := fun v37 v38 v39 v40 v41 v42 v43 v44 v45 v46 v47 v48 v49 v50 v51 v52 v226 k0_hw120 => k0_hw120.2.2.2.1
theorem k0_idx233_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v48, v226] : Fin 2 → IVec S16 32) a x).toNat < S16x1024.size a := fun v37 v38 v39 v40 v41 v42 v43 v44 v45 v46 v47 v48 v49 v50 v51 v52 v226 k0_hw120 => k0_hw120.2.2.2.2.1
theorem k0_idx235_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v47, v226] : Fin 2 → IVec S16 32) a x).toNat < S16x1024.size a := fun v37 v38 v39 v40 v41 v42 v43 v44 v45 v46 v47 v48 v49 v50 v51 v52 v226 k0_hw120 => k0_hw120.2.2.2.2.2.1
theorem k0_idx237_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v46, v226] : Fin 2 → IVec S16 32) a x).toNat < S16x1024.size a := fun v37 v38 v39 v40 v41 v42 v43 v44 v45 v46 v47 v48 v49 v50 v51 v52 v226 k0_hw120 => k0_hw120.2.2.2.2.2.2.1
theorem k0_idx239_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v45, v226] : Fin 2 → IVec S16 32) a x).toNat < S16x1024.size a := fun v37 v38 v39 v40 v41 v42 v43 v44 v45 v46 v47 v48 v49 v50 v51 v52 v226 k0_hw120 => k0_hw120.2.2.2.2.2.2.2.1
theorem k0_idx241_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v44, v226] : Fin 2 → IVec S16 32) a x).toNat < S16x1024.size a := fun v37 v38 v39 v40 v41 v42 v43 v44 v45 v46 v47 v48 v49 v50 v51 v52 v226 k0_hw120 => k0_hw120.2.2.2.2.2.2.2.2.1
theorem k0_idx243_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v43, v226] : Fin 2 → IVec S16 32) a x).toNat < S16x1024.size a := fun v37 v38 v39 v40 v41 v42 v43 v44 v45 v46 v47 v48 v49 v50 v51 v52 v226 k0_hw120 => k0_hw120.2.2.2.2.2.2.2.2.2.1
theorem k0_idx245_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v42, v226] : Fin 2 → IVec S16 32) a x).toNat < S16x1024.size a := fun v37 v38 v39 v40 v41 v42 v43 v44 v45 v46 v47 v48 v49 v50 v51 v52 v226 k0_hw120 => k0_hw120.2.2.2.2.2.2.2.2.2.2.1
theorem k0_idx247_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v41, v226] : Fin 2 → IVec S16 32) a x).toNat < S16x1024.size a := fun v37 v38 v39 v40 v41 v42 v43 v44 v45 v46 v47 v48 v49 v50 v51 v52 v226 k0_hw120 => k0_hw120.2.2.2.2.2.2.2.2.2.2.2.1
theorem k0_idx249_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v40, v226] : Fin 2 → IVec S16 32) a x).toNat < S16x1024.size a := fun v37 v38 v39 v40 v41 v42 v43 v44 v45 v46 v47 v48 v49 v50 v51 v52 v226 k0_hw120 => k0_hw120.2.2.2.2.2.2.2.2.2.2.2.2.1
theorem k0_idx251_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v39, v226] : Fin 2 → IVec S16 32) a x).toNat < S16x1024.size a := fun v37 v38 v39 v40 v41 v42 v43 v44 v45 v46 v47 v48 v49 v50 v51 v52 v226 k0_hw120 => k0_hw120.2.2.2.2.2.2.2.2.2.2.2.2.2.1
theorem k0_idx253_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v38, v226] : Fin 2 → IVec S16 32) a x).toNat < S16x1024.size a := fun v37 v38 v39 v40 v41 v42 v43 v44 v45 v46 v47 v48 v49 v50 v51 v52 v226 k0_hw120 => k0_hw120.2.2.2.2.2.2.2.2.2.2.2.2.2.2.1
theorem k0_idx255_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw120 : k0_chk120 v37 v38 v39 v40 v41 v42 v43 v44 v45 v46 v47 v48 v49 v50 v51 v52 v226), ∀ a x, ((![v37, v226] : Fin 2 → IVec S16 32) a x).toNat < S16x1024.size a := fun v37 v38 v39 v40 v41 v42 v43 v44 v45 v46 v47 v48 v49 v50 v51 v52 v226 k0_hw120 => k0_hw120.2.2.2.2.2.2.2.2.2.2.2.2.2.2.2

def k0_chk136 (v355 : IVec S16 32) : Prop :=
  (∀ a x, ((![v355] : Fin 1 → IVec S16 32) a x).toNat < S32768.size a)
theorem k0_idx256_inb : ∀ (v355 : IVec S16 32) (k0_hw136 : k0_chk136 v355), ∀ a x, ((![v355] : Fin 1 → IVec S16 32) a x).toNat < S32768.size a := fun v355 k0_hw136 => k0_hw136
@[reducible] def k0_t6_loop : Scf.Loop 32 :=
  let c0_i32_46 : BitVec 32 := 0#32
  let c8_i32_47 : BitVec 32 := 8#32
  let v74 : BitVec 32 := Scalar.addi c0_i32_46 c8_i32_47
  let c1_i32_48 : BitVec 32 := 1#32
  ⟨c0_i32_46, v74, c1_i32_48⟩

def k0_chk138 (v94 : IVec S16 32) : Prop :=
  (∀ a x, ((![v94] : Fin 1 → IVec S16 32) a x).toNat < S32768.size a)
theorem k0_idx258_inb : ∀ (v94 : IVec S16 32) (k0_hw138 : k0_chk138 v94), ∀ a x, ((![v94] : Fin 1 → IVec S16 32) a x).toNat < S32768.size a := fun v94 k0_hw138 => k0_hw138

def k0_chk139 (v96 : IVec S16 32) : Prop :=
  (∀ a x, ((![v96] : Fin 1 → IVec S16 32) a x).toNat < S32768.size a)
theorem k0_idx260_inb : ∀ (v96 : IVec S16 32) (k0_hw139 : k0_chk139 v96), ∀ a x, ((![v96] : Fin 1 → IVec S16 32) a x).toNat < S32768.size a := fun v96 k0_hw139 => k0_hw139

def k0_chk140 (v98 : IVec S16 32) : Prop :=
  (∀ a x, ((![v98] : Fin 1 → IVec S16 32) a x).toNat < S32768.size a)
theorem k0_idx262_inb : ∀ (v98 : IVec S16 32) (k0_hw140 : k0_chk140 v98), ∀ a x, ((![v98] : Fin 1 → IVec S16 32) a x).toNat < S32768.size a := fun v98 k0_hw140 => k0_hw140

def k0_chk141 (v100 : IVec S16 32) : Prop :=
  (∀ a x, ((![v100] : Fin 1 → IVec S16 32) a x).toNat < S32768.size a)
theorem k0_idx264_inb : ∀ (v100 : IVec S16 32) (k0_hw141 : k0_chk141 v100), ∀ a x, ((![v100] : Fin 1 → IVec S16 32) a x).toNat < S32768.size a := fun v100 k0_hw141 => k0_hw141

def k0_chk142 (v102 : IVec S16 32) : Prop :=
  (∀ a x, ((![v102] : Fin 1 → IVec S16 32) a x).toNat < S32768.size a)
theorem k0_idx266_inb : ∀ (v102 : IVec S16 32) (k0_hw142 : k0_chk142 v102), ∀ a x, ((![v102] : Fin 1 → IVec S16 32) a x).toNat < S32768.size a := fun v102 k0_hw142 => k0_hw142

def k0_chk143 (v104 : IVec S16 32) : Prop :=
  (∀ a x, ((![v104] : Fin 1 → IVec S16 32) a x).toNat < S32768.size a)
theorem k0_idx268_inb : ∀ (v104 : IVec S16 32) (k0_hw143 : k0_chk143 v104), ∀ a x, ((![v104] : Fin 1 → IVec S16 32) a x).toNat < S32768.size a := fun v104 k0_hw143 => k0_hw143

def k0_chk144 (v106 : IVec S16 32) : Prop :=
  (∀ a x, ((![v106] : Fin 1 → IVec S16 32) a x).toNat < S32768.size a)
theorem k0_idx270_inb : ∀ (v106 : IVec S16 32) (k0_hw144 : k0_chk144 v106), ∀ a x, ((![v106] : Fin 1 → IVec S16 32) a x).toNat < S32768.size a := fun v106 k0_hw144 => k0_hw144

def k0_chk145 (v108 : IVec S16 32) : Prop :=
  (∀ a x, ((![v108] : Fin 1 → IVec S16 32) a x).toNat < S32768.size a)
theorem k0_idx272_inb : ∀ (v108 : IVec S16 32) (k0_hw145 : k0_chk145 v108), ∀ a x, ((![v108] : Fin 1 → IVec S16 32) a x).toNat < S32768.size a := fun v108 k0_hw145 => k0_hw145

def k0_chk146 (v110 : IVec S16 32) : Prop :=
  (∀ a x, ((![v110] : Fin 1 → IVec S16 32) a x).toNat < S32768.size a)
theorem k0_idx274_inb : ∀ (v110 : IVec S16 32) (k0_hw146 : k0_chk146 v110), ∀ a x, ((![v110] : Fin 1 → IVec S16 32) a x).toNat < S32768.size a := fun v110 k0_hw146 => k0_hw146

def k0_chk147 (v112 : IVec S16 32) : Prop :=
  (∀ a x, ((![v112] : Fin 1 → IVec S16 32) a x).toNat < S32768.size a)
theorem k0_idx276_inb : ∀ (v112 : IVec S16 32) (k0_hw147 : k0_chk147 v112), ∀ a x, ((![v112] : Fin 1 → IVec S16 32) a x).toNat < S32768.size a := fun v112 k0_hw147 => k0_hw147

def k0_chk148 (v114 : IVec S16 32) : Prop :=
  (∀ a x, ((![v114] : Fin 1 → IVec S16 32) a x).toNat < S32768.size a)
theorem k0_idx278_inb : ∀ (v114 : IVec S16 32) (k0_hw148 : k0_chk148 v114), ∀ a x, ((![v114] : Fin 1 → IVec S16 32) a x).toNat < S32768.size a := fun v114 k0_hw148 => k0_hw148

def k0_chk149 (v116 : IVec S16 32) : Prop :=
  (∀ a x, ((![v116] : Fin 1 → IVec S16 32) a x).toNat < S32768.size a)
theorem k0_idx280_inb : ∀ (v116 : IVec S16 32) (k0_hw149 : k0_chk149 v116), ∀ a x, ((![v116] : Fin 1 → IVec S16 32) a x).toNat < S32768.size a := fun v116 k0_hw149 => k0_hw149

def k0_chk150 (v118 : IVec S16 32) : Prop :=
  (∀ a x, ((![v118] : Fin 1 → IVec S16 32) a x).toNat < S32768.size a)
theorem k0_idx282_inb : ∀ (v118 : IVec S16 32) (k0_hw150 : k0_chk150 v118), ∀ a x, ((![v118] : Fin 1 → IVec S16 32) a x).toNat < S32768.size a := fun v118 k0_hw150 => k0_hw150

def k0_chk151 (v120 : IVec S16 32) : Prop :=
  (∀ a x, ((![v120] : Fin 1 → IVec S16 32) a x).toNat < S32768.size a)
theorem k0_idx284_inb : ∀ (v120 : IVec S16 32) (k0_hw151 : k0_chk151 v120), ∀ a x, ((![v120] : Fin 1 → IVec S16 32) a x).toNat < S32768.size a := fun v120 k0_hw151 => k0_hw151

def k0_chk152 (v122 : IVec S16 32) : Prop :=
  (∀ a x, ((![v122] : Fin 1 → IVec S16 32) a x).toNat < S32768.size a)
theorem k0_idx286_inb : ∀ (v122 : IVec S16 32) (k0_hw152 : k0_chk152 v122), ∀ a x, ((![v122] : Fin 1 → IVec S16 32) a x).toNat < S32768.size a := fun v122 k0_hw152 => k0_hw152

def k0_chk137 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) : Prop :=
  (∀ a x, ((![v37, v89] : Fin 2 → IVec S16 32) a x).toNat < S16x1024.size a) ∧
  (∀ a x, ((![v38, v89] : Fin 2 → IVec S16 32) a x).toNat < S16x1024.size a) ∧
  (∀ a x, ((![v39, v89] : Fin 2 → IVec S16 32) a x).toNat < S16x1024.size a) ∧
  (∀ a x, ((![v40, v89] : Fin 2 → IVec S16 32) a x).toNat < S16x1024.size a) ∧
  (∀ a x, ((![v41, v89] : Fin 2 → IVec S16 32) a x).toNat < S16x1024.size a) ∧
  (∀ a x, ((![v42, v89] : Fin 2 → IVec S16 32) a x).toNat < S16x1024.size a) ∧
  (∀ a x, ((![v43, v89] : Fin 2 → IVec S16 32) a x).toNat < S16x1024.size a) ∧
  (∀ a x, ((![v44, v89] : Fin 2 → IVec S16 32) a x).toNat < S16x1024.size a) ∧
  (∀ a x, ((![v45, v89] : Fin 2 → IVec S16 32) a x).toNat < S16x1024.size a) ∧
  (∀ a x, ((![v46, v89] : Fin 2 → IVec S16 32) a x).toNat < S16x1024.size a) ∧
  (∀ a x, ((![v47, v89] : Fin 2 → IVec S16 32) a x).toNat < S16x1024.size a) ∧
  (∀ a x, ((![v48, v89] : Fin 2 → IVec S16 32) a x).toNat < S16x1024.size a) ∧
  (∀ a x, ((![v49, v89] : Fin 2 → IVec S16 32) a x).toNat < S16x1024.size a) ∧
  (∀ a x, ((![v50, v89] : Fin 2 → IVec S16 32) a x).toNat < S16x1024.size a) ∧
  (∀ a x, ((![v51, v89] : Fin 2 → IVec S16 32) a x).toNat < S16x1024.size a) ∧
  (∀ a x, ((![v52, v89] : Fin 2 → IVec S16 32) a x).toNat < S16x1024.size a)
theorem k0_idx257_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v37, v89] : Fin 2 → IVec S16 32) a x).toNat < S16x1024.size a := fun v37 v38 v39 v40 v41 v42 v43 v44 v45 v46 v47 v48 v49 v50 v51 v52 v89 k0_hw137 => k0_hw137.1
theorem k0_idx259_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v38, v89] : Fin 2 → IVec S16 32) a x).toNat < S16x1024.size a := fun v37 v38 v39 v40 v41 v42 v43 v44 v45 v46 v47 v48 v49 v50 v51 v52 v89 k0_hw137 => k0_hw137.2.1
theorem k0_idx261_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v39, v89] : Fin 2 → IVec S16 32) a x).toNat < S16x1024.size a := fun v37 v38 v39 v40 v41 v42 v43 v44 v45 v46 v47 v48 v49 v50 v51 v52 v89 k0_hw137 => k0_hw137.2.2.1
theorem k0_idx263_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v40, v89] : Fin 2 → IVec S16 32) a x).toNat < S16x1024.size a := fun v37 v38 v39 v40 v41 v42 v43 v44 v45 v46 v47 v48 v49 v50 v51 v52 v89 k0_hw137 => k0_hw137.2.2.2.1
theorem k0_idx265_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v41, v89] : Fin 2 → IVec S16 32) a x).toNat < S16x1024.size a := fun v37 v38 v39 v40 v41 v42 v43 v44 v45 v46 v47 v48 v49 v50 v51 v52 v89 k0_hw137 => k0_hw137.2.2.2.2.1
theorem k0_idx267_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v42, v89] : Fin 2 → IVec S16 32) a x).toNat < S16x1024.size a := fun v37 v38 v39 v40 v41 v42 v43 v44 v45 v46 v47 v48 v49 v50 v51 v52 v89 k0_hw137 => k0_hw137.2.2.2.2.2.1
theorem k0_idx269_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v43, v89] : Fin 2 → IVec S16 32) a x).toNat < S16x1024.size a := fun v37 v38 v39 v40 v41 v42 v43 v44 v45 v46 v47 v48 v49 v50 v51 v52 v89 k0_hw137 => k0_hw137.2.2.2.2.2.2.1
theorem k0_idx271_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v44, v89] : Fin 2 → IVec S16 32) a x).toNat < S16x1024.size a := fun v37 v38 v39 v40 v41 v42 v43 v44 v45 v46 v47 v48 v49 v50 v51 v52 v89 k0_hw137 => k0_hw137.2.2.2.2.2.2.2.1
theorem k0_idx273_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v45, v89] : Fin 2 → IVec S16 32) a x).toNat < S16x1024.size a := fun v37 v38 v39 v40 v41 v42 v43 v44 v45 v46 v47 v48 v49 v50 v51 v52 v89 k0_hw137 => k0_hw137.2.2.2.2.2.2.2.2.1
theorem k0_idx275_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v46, v89] : Fin 2 → IVec S16 32) a x).toNat < S16x1024.size a := fun v37 v38 v39 v40 v41 v42 v43 v44 v45 v46 v47 v48 v49 v50 v51 v52 v89 k0_hw137 => k0_hw137.2.2.2.2.2.2.2.2.2.1
theorem k0_idx277_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v47, v89] : Fin 2 → IVec S16 32) a x).toNat < S16x1024.size a := fun v37 v38 v39 v40 v41 v42 v43 v44 v45 v46 v47 v48 v49 v50 v51 v52 v89 k0_hw137 => k0_hw137.2.2.2.2.2.2.2.2.2.2.1
theorem k0_idx279_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v48, v89] : Fin 2 → IVec S16 32) a x).toNat < S16x1024.size a := fun v37 v38 v39 v40 v41 v42 v43 v44 v45 v46 v47 v48 v49 v50 v51 v52 v89 k0_hw137 => k0_hw137.2.2.2.2.2.2.2.2.2.2.2.1
theorem k0_idx281_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v49, v89] : Fin 2 → IVec S16 32) a x).toNat < S16x1024.size a := fun v37 v38 v39 v40 v41 v42 v43 v44 v45 v46 v47 v48 v49 v50 v51 v52 v89 k0_hw137 => k0_hw137.2.2.2.2.2.2.2.2.2.2.2.2.1
theorem k0_idx283_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v50, v89] : Fin 2 → IVec S16 32) a x).toNat < S16x1024.size a := fun v37 v38 v39 v40 v41 v42 v43 v44 v45 v46 v47 v48 v49 v50 v51 v52 v89 k0_hw137 => k0_hw137.2.2.2.2.2.2.2.2.2.2.2.2.2.1
theorem k0_idx285_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v51, v89] : Fin 2 → IVec S16 32) a x).toNat < S16x1024.size a := fun v37 v38 v39 v40 v41 v42 v43 v44 v45 v46 v47 v48 v49 v50 v51 v52 v89 k0_hw137 => k0_hw137.2.2.2.2.2.2.2.2.2.2.2.2.2.2.1
theorem k0_idx287_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw137 : k0_chk137 v37 v38 v39 v40 v41 v42 v43 v44 v45 v46 v47 v48 v49 v50 v51 v52 v89), ∀ a x, ((![v52, v89] : Fin 2 → IVec S16 32) a x).toNat < S16x1024.size a := fun v37 v38 v39 v40 v41 v42 v43 v44 v45 v46 v47 v48 v49 v50 v51 v52 v89 k0_hw137 => k0_hw137.2.2.2.2.2.2.2.2.2.2.2.2.2.2.2

def k0_chk153 (v124 : IVec S16 32) : Prop :=
  (∀ a x, ((![v124] : Fin 1 → IVec S16 32) a x).toNat < S32768.size a)
theorem k0_idx288_inb : ∀ (v124 : IVec S16 32) (k0_hw153 : k0_chk153 v124), ∀ a x, ((![v124] : Fin 1 → IVec S16 32) a x).toNat < S32768.size a := fun v124 k0_hw153 => k0_hw153

def k0_chk155 (v135 : IVec S16 32) : Prop :=
  (∀ a x, ((![v135] : Fin 1 → IVec S16 32) a x).toNat < S32768.size a)
theorem k0_idx290_inb : ∀ (v135 : IVec S16 32) (k0_hw155 : k0_chk155 v135), ∀ a x, ((![v135] : Fin 1 → IVec S16 32) a x).toNat < S32768.size a := fun v135 k0_hw155 => k0_hw155

def k0_chk156 (v137 : IVec S16 32) : Prop :=
  (∀ a x, ((![v137] : Fin 1 → IVec S16 32) a x).toNat < S32768.size a)
theorem k0_idx292_inb : ∀ (v137 : IVec S16 32) (k0_hw156 : k0_chk156 v137), ∀ a x, ((![v137] : Fin 1 → IVec S16 32) a x).toNat < S32768.size a := fun v137 k0_hw156 => k0_hw156

def k0_chk157 (v139 : IVec S16 32) : Prop :=
  (∀ a x, ((![v139] : Fin 1 → IVec S16 32) a x).toNat < S32768.size a)
theorem k0_idx294_inb : ∀ (v139 : IVec S16 32) (k0_hw157 : k0_chk157 v139), ∀ a x, ((![v139] : Fin 1 → IVec S16 32) a x).toNat < S32768.size a := fun v139 k0_hw157 => k0_hw157

def k0_chk158 (v141 : IVec S16 32) : Prop :=
  (∀ a x, ((![v141] : Fin 1 → IVec S16 32) a x).toNat < S32768.size a)
theorem k0_idx296_inb : ∀ (v141 : IVec S16 32) (k0_hw158 : k0_chk158 v141), ∀ a x, ((![v141] : Fin 1 → IVec S16 32) a x).toNat < S32768.size a := fun v141 k0_hw158 => k0_hw158

def k0_chk159 (v143 : IVec S16 32) : Prop :=
  (∀ a x, ((![v143] : Fin 1 → IVec S16 32) a x).toNat < S32768.size a)
theorem k0_idx298_inb : ∀ (v143 : IVec S16 32) (k0_hw159 : k0_chk159 v143), ∀ a x, ((![v143] : Fin 1 → IVec S16 32) a x).toNat < S32768.size a := fun v143 k0_hw159 => k0_hw159

def k0_chk160 (v145 : IVec S16 32) : Prop :=
  (∀ a x, ((![v145] : Fin 1 → IVec S16 32) a x).toNat < S32768.size a)
theorem k0_idx300_inb : ∀ (v145 : IVec S16 32) (k0_hw160 : k0_chk160 v145), ∀ a x, ((![v145] : Fin 1 → IVec S16 32) a x).toNat < S32768.size a := fun v145 k0_hw160 => k0_hw160

def k0_chk161 (v147 : IVec S16 32) : Prop :=
  (∀ a x, ((![v147] : Fin 1 → IVec S16 32) a x).toNat < S32768.size a)
theorem k0_idx302_inb : ∀ (v147 : IVec S16 32) (k0_hw161 : k0_chk161 v147), ∀ a x, ((![v147] : Fin 1 → IVec S16 32) a x).toNat < S32768.size a := fun v147 k0_hw161 => k0_hw161

def k0_chk162 (v149 : IVec S16 32) : Prop :=
  (∀ a x, ((![v149] : Fin 1 → IVec S16 32) a x).toNat < S32768.size a)
theorem k0_idx304_inb : ∀ (v149 : IVec S16 32) (k0_hw162 : k0_chk162 v149), ∀ a x, ((![v149] : Fin 1 → IVec S16 32) a x).toNat < S32768.size a := fun v149 k0_hw162 => k0_hw162

def k0_chk163 (v151 : IVec S16 32) : Prop :=
  (∀ a x, ((![v151] : Fin 1 → IVec S16 32) a x).toNat < S32768.size a)
theorem k0_idx306_inb : ∀ (v151 : IVec S16 32) (k0_hw163 : k0_chk163 v151), ∀ a x, ((![v151] : Fin 1 → IVec S16 32) a x).toNat < S32768.size a := fun v151 k0_hw163 => k0_hw163

def k0_chk164 (v153 : IVec S16 32) : Prop :=
  (∀ a x, ((![v153] : Fin 1 → IVec S16 32) a x).toNat < S32768.size a)
theorem k0_idx308_inb : ∀ (v153 : IVec S16 32) (k0_hw164 : k0_chk164 v153), ∀ a x, ((![v153] : Fin 1 → IVec S16 32) a x).toNat < S32768.size a := fun v153 k0_hw164 => k0_hw164

def k0_chk165 (v155 : IVec S16 32) : Prop :=
  (∀ a x, ((![v155] : Fin 1 → IVec S16 32) a x).toNat < S32768.size a)
theorem k0_idx310_inb : ∀ (v155 : IVec S16 32) (k0_hw165 : k0_chk165 v155), ∀ a x, ((![v155] : Fin 1 → IVec S16 32) a x).toNat < S32768.size a := fun v155 k0_hw165 => k0_hw165

def k0_chk166 (v157 : IVec S16 32) : Prop :=
  (∀ a x, ((![v157] : Fin 1 → IVec S16 32) a x).toNat < S32768.size a)
theorem k0_idx312_inb : ∀ (v157 : IVec S16 32) (k0_hw166 : k0_chk166 v157), ∀ a x, ((![v157] : Fin 1 → IVec S16 32) a x).toNat < S32768.size a := fun v157 k0_hw166 => k0_hw166

def k0_chk167 (v159 : IVec S16 32) : Prop :=
  (∀ a x, ((![v159] : Fin 1 → IVec S16 32) a x).toNat < S32768.size a)
theorem k0_idx314_inb : ∀ (v159 : IVec S16 32) (k0_hw167 : k0_chk167 v159), ∀ a x, ((![v159] : Fin 1 → IVec S16 32) a x).toNat < S32768.size a := fun v159 k0_hw167 => k0_hw167

def k0_chk168 (v161 : IVec S16 32) : Prop :=
  (∀ a x, ((![v161] : Fin 1 → IVec S16 32) a x).toNat < S32768.size a)
theorem k0_idx316_inb : ∀ (v161 : IVec S16 32) (k0_hw168 : k0_chk168 v161), ∀ a x, ((![v161] : Fin 1 → IVec S16 32) a x).toNat < S32768.size a := fun v161 k0_hw168 => k0_hw168

def k0_chk169 (v163 : IVec S16 32) : Prop :=
  (∀ a x, ((![v163] : Fin 1 → IVec S16 32) a x).toNat < S32768.size a)
theorem k0_idx318_inb : ∀ (v163 : IVec S16 32) (k0_hw169 : k0_chk169 v163), ∀ a x, ((![v163] : Fin 1 → IVec S16 32) a x).toNat < S32768.size a := fun v163 k0_hw169 => k0_hw169

def k0_chk154 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) : Prop :=
  (∀ a x, ((![v37, v130] : Fin 2 → IVec S16 32) a x).toNat < S16x1024.size a) ∧
  (∀ a x, ((![v38, v130] : Fin 2 → IVec S16 32) a x).toNat < S16x1024.size a) ∧
  (∀ a x, ((![v39, v130] : Fin 2 → IVec S16 32) a x).toNat < S16x1024.size a) ∧
  (∀ a x, ((![v40, v130] : Fin 2 → IVec S16 32) a x).toNat < S16x1024.size a) ∧
  (∀ a x, ((![v41, v130] : Fin 2 → IVec S16 32) a x).toNat < S16x1024.size a) ∧
  (∀ a x, ((![v42, v130] : Fin 2 → IVec S16 32) a x).toNat < S16x1024.size a) ∧
  (∀ a x, ((![v43, v130] : Fin 2 → IVec S16 32) a x).toNat < S16x1024.size a) ∧
  (∀ a x, ((![v44, v130] : Fin 2 → IVec S16 32) a x).toNat < S16x1024.size a) ∧
  (∀ a x, ((![v45, v130] : Fin 2 → IVec S16 32) a x).toNat < S16x1024.size a) ∧
  (∀ a x, ((![v46, v130] : Fin 2 → IVec S16 32) a x).toNat < S16x1024.size a) ∧
  (∀ a x, ((![v47, v130] : Fin 2 → IVec S16 32) a x).toNat < S16x1024.size a) ∧
  (∀ a x, ((![v48, v130] : Fin 2 → IVec S16 32) a x).toNat < S16x1024.size a) ∧
  (∀ a x, ((![v49, v130] : Fin 2 → IVec S16 32) a x).toNat < S16x1024.size a) ∧
  (∀ a x, ((![v50, v130] : Fin 2 → IVec S16 32) a x).toNat < S16x1024.size a) ∧
  (∀ a x, ((![v51, v130] : Fin 2 → IVec S16 32) a x).toNat < S16x1024.size a) ∧
  (∀ a x, ((![v52, v130] : Fin 2 → IVec S16 32) a x).toNat < S16x1024.size a)
theorem k0_idx289_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v37, v130] : Fin 2 → IVec S16 32) a x).toNat < S16x1024.size a := fun v37 v38 v39 v40 v41 v42 v43 v44 v45 v46 v47 v48 v49 v50 v51 v52 v130 k0_hw154 => k0_hw154.1
theorem k0_idx291_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v38, v130] : Fin 2 → IVec S16 32) a x).toNat < S16x1024.size a := fun v37 v38 v39 v40 v41 v42 v43 v44 v45 v46 v47 v48 v49 v50 v51 v52 v130 k0_hw154 => k0_hw154.2.1
theorem k0_idx293_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v39, v130] : Fin 2 → IVec S16 32) a x).toNat < S16x1024.size a := fun v37 v38 v39 v40 v41 v42 v43 v44 v45 v46 v47 v48 v49 v50 v51 v52 v130 k0_hw154 => k0_hw154.2.2.1
theorem k0_idx295_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v40, v130] : Fin 2 → IVec S16 32) a x).toNat < S16x1024.size a := fun v37 v38 v39 v40 v41 v42 v43 v44 v45 v46 v47 v48 v49 v50 v51 v52 v130 k0_hw154 => k0_hw154.2.2.2.1
theorem k0_idx297_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v41, v130] : Fin 2 → IVec S16 32) a x).toNat < S16x1024.size a := fun v37 v38 v39 v40 v41 v42 v43 v44 v45 v46 v47 v48 v49 v50 v51 v52 v130 k0_hw154 => k0_hw154.2.2.2.2.1
theorem k0_idx299_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v42, v130] : Fin 2 → IVec S16 32) a x).toNat < S16x1024.size a := fun v37 v38 v39 v40 v41 v42 v43 v44 v45 v46 v47 v48 v49 v50 v51 v52 v130 k0_hw154 => k0_hw154.2.2.2.2.2.1
theorem k0_idx301_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v43, v130] : Fin 2 → IVec S16 32) a x).toNat < S16x1024.size a := fun v37 v38 v39 v40 v41 v42 v43 v44 v45 v46 v47 v48 v49 v50 v51 v52 v130 k0_hw154 => k0_hw154.2.2.2.2.2.2.1
theorem k0_idx303_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v44, v130] : Fin 2 → IVec S16 32) a x).toNat < S16x1024.size a := fun v37 v38 v39 v40 v41 v42 v43 v44 v45 v46 v47 v48 v49 v50 v51 v52 v130 k0_hw154 => k0_hw154.2.2.2.2.2.2.2.1
theorem k0_idx305_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v45, v130] : Fin 2 → IVec S16 32) a x).toNat < S16x1024.size a := fun v37 v38 v39 v40 v41 v42 v43 v44 v45 v46 v47 v48 v49 v50 v51 v52 v130 k0_hw154 => k0_hw154.2.2.2.2.2.2.2.2.1
theorem k0_idx307_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v46, v130] : Fin 2 → IVec S16 32) a x).toNat < S16x1024.size a := fun v37 v38 v39 v40 v41 v42 v43 v44 v45 v46 v47 v48 v49 v50 v51 v52 v130 k0_hw154 => k0_hw154.2.2.2.2.2.2.2.2.2.1
theorem k0_idx309_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v47, v130] : Fin 2 → IVec S16 32) a x).toNat < S16x1024.size a := fun v37 v38 v39 v40 v41 v42 v43 v44 v45 v46 v47 v48 v49 v50 v51 v52 v130 k0_hw154 => k0_hw154.2.2.2.2.2.2.2.2.2.2.1
theorem k0_idx311_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v48, v130] : Fin 2 → IVec S16 32) a x).toNat < S16x1024.size a := fun v37 v38 v39 v40 v41 v42 v43 v44 v45 v46 v47 v48 v49 v50 v51 v52 v130 k0_hw154 => k0_hw154.2.2.2.2.2.2.2.2.2.2.2.1
theorem k0_idx313_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v49, v130] : Fin 2 → IVec S16 32) a x).toNat < S16x1024.size a := fun v37 v38 v39 v40 v41 v42 v43 v44 v45 v46 v47 v48 v49 v50 v51 v52 v130 k0_hw154 => k0_hw154.2.2.2.2.2.2.2.2.2.2.2.2.1
theorem k0_idx315_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v50, v130] : Fin 2 → IVec S16 32) a x).toNat < S16x1024.size a := fun v37 v38 v39 v40 v41 v42 v43 v44 v45 v46 v47 v48 v49 v50 v51 v52 v130 k0_hw154 => k0_hw154.2.2.2.2.2.2.2.2.2.2.2.2.2.1
theorem k0_idx317_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v51, v130] : Fin 2 → IVec S16 32) a x).toNat < S16x1024.size a := fun v37 v38 v39 v40 v41 v42 v43 v44 v45 v46 v47 v48 v49 v50 v51 v52 v130 k0_hw154 => k0_hw154.2.2.2.2.2.2.2.2.2.2.2.2.2.2.1
theorem k0_idx319_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v130 : IVec S16 32) (k0_hw154 : k0_chk154 v37 v38 v39 v40 v41 v42 v43 v44 v45 v46 v47 v48 v49 v50 v51 v52 v130), ∀ a x, ((![v52, v130] : Fin 2 → IVec S16 32) a x).toNat < S16x1024.size a := fun v37 v38 v39 v40 v41 v42 v43 v44 v45 v46 v47 v48 v49 v50 v51 v52 v130 k0_hw154 => k0_hw154.2.2.2.2.2.2.2.2.2.2.2.2.2.2.2

def k0_chk170 (v165 : IVec S16 32) : Prop :=
  (∀ a x, ((![v165] : Fin 1 → IVec S16 32) a x).toNat < S32768.size a)
theorem k0_idx320_inb : ∀ (v165 : IVec S16 32) (k0_hw170 : k0_chk170 v165), ∀ a x, ((![v165] : Fin 1 → IVec S16 32) a x).toNat < S32768.size a := fun v165 k0_hw170 => k0_hw170
@[reducible] def k0_t7_loop : Scf.Loop 32 :=
  let c0_i32_51 : BitVec 32 := 0#32
  let c8_i32_52 : BitVec 32 := 8#32
  let v75 : BitVec 32 := Scalar.addi c0_i32_51 c8_i32_52
  let c1_i32_53 : BitVec 32 := 1#32
  ⟨c0_i32_51, v75, c1_i32_53⟩

def k0_chk172 (v98 : IVec S16 32) : Prop :=
  (∀ a x, ((![v98] : Fin 1 → IVec S16 32) a x).toNat < S32768.size a)
theorem k0_idx322_inb : ∀ (v98 : IVec S16 32) (k0_hw172 : k0_chk172 v98), ∀ a x, ((![v98] : Fin 1 → IVec S16 32) a x).toNat < S32768.size a := fun v98 k0_hw172 => k0_hw172

def k0_chk173 (v106 : IVec S16 32) : Prop :=
  (∀ a x, ((![v106] : Fin 1 → IVec S16 32) a x).toNat < S32768.size a)
theorem k0_idx324_inb : ∀ (v106 : IVec S16 32) (k0_hw173 : k0_chk173 v106), ∀ a x, ((![v106] : Fin 1 → IVec S16 32) a x).toNat < S32768.size a := fun v106 k0_hw173 => k0_hw173

def k0_chk174 (v114 : IVec S16 32) : Prop :=
  (∀ a x, ((![v114] : Fin 1 → IVec S16 32) a x).toNat < S32768.size a)
theorem k0_idx326_inb : ∀ (v114 : IVec S16 32) (k0_hw174 : k0_chk174 v114), ∀ a x, ((![v114] : Fin 1 → IVec S16 32) a x).toNat < S32768.size a := fun v114 k0_hw174 => k0_hw174

def k0_chk175 (v122 : IVec S16 32) : Prop :=
  (∀ a x, ((![v122] : Fin 1 → IVec S16 32) a x).toNat < S32768.size a)
theorem k0_idx328_inb : ∀ (v122 : IVec S16 32) (k0_hw175 : k0_chk175 v122), ∀ a x, ((![v122] : Fin 1 → IVec S16 32) a x).toNat < S32768.size a := fun v122 k0_hw175 => k0_hw175

def k0_chk176 (v130 : IVec S16 32) : Prop :=
  (∀ a x, ((![v130] : Fin 1 → IVec S16 32) a x).toNat < S32768.size a)
theorem k0_idx330_inb : ∀ (v130 : IVec S16 32) (k0_hw176 : k0_chk176 v130), ∀ a x, ((![v130] : Fin 1 → IVec S16 32) a x).toNat < S32768.size a := fun v130 k0_hw176 => k0_hw176

def k0_chk177 (v138 : IVec S16 32) : Prop :=
  (∀ a x, ((![v138] : Fin 1 → IVec S16 32) a x).toNat < S32768.size a)
theorem k0_idx332_inb : ∀ (v138 : IVec S16 32) (k0_hw177 : k0_chk177 v138), ∀ a x, ((![v138] : Fin 1 → IVec S16 32) a x).toNat < S32768.size a := fun v138 k0_hw177 => k0_hw177

def k0_chk178 (v146 : IVec S16 32) : Prop :=
  (∀ a x, ((![v146] : Fin 1 → IVec S16 32) a x).toNat < S32768.size a)
theorem k0_idx334_inb : ∀ (v146 : IVec S16 32) (k0_hw178 : k0_chk178 v146), ∀ a x, ((![v146] : Fin 1 → IVec S16 32) a x).toNat < S32768.size a := fun v146 k0_hw178 => k0_hw178

def k0_chk179 (v154 : IVec S16 32) : Prop :=
  (∀ a x, ((![v154] : Fin 1 → IVec S16 32) a x).toNat < S32768.size a)
theorem k0_idx336_inb : ∀ (v154 : IVec S16 32) (k0_hw179 : k0_chk179 v154), ∀ a x, ((![v154] : Fin 1 → IVec S16 32) a x).toNat < S32768.size a := fun v154 k0_hw179 => k0_hw179

def k0_chk180 (v162 : IVec S16 32) : Prop :=
  (∀ a x, ((![v162] : Fin 1 → IVec S16 32) a x).toNat < S32768.size a)
theorem k0_idx338_inb : ∀ (v162 : IVec S16 32) (k0_hw180 : k0_chk180 v162), ∀ a x, ((![v162] : Fin 1 → IVec S16 32) a x).toNat < S32768.size a := fun v162 k0_hw180 => k0_hw180

def k0_chk181 (v170 : IVec S16 32) : Prop :=
  (∀ a x, ((![v170] : Fin 1 → IVec S16 32) a x).toNat < S32768.size a)
theorem k0_idx340_inb : ∀ (v170 : IVec S16 32) (k0_hw181 : k0_chk181 v170), ∀ a x, ((![v170] : Fin 1 → IVec S16 32) a x).toNat < S32768.size a := fun v170 k0_hw181 => k0_hw181

def k0_chk182 (v178 : IVec S16 32) : Prop :=
  (∀ a x, ((![v178] : Fin 1 → IVec S16 32) a x).toNat < S32768.size a)
theorem k0_idx342_inb : ∀ (v178 : IVec S16 32) (k0_hw182 : k0_chk182 v178), ∀ a x, ((![v178] : Fin 1 → IVec S16 32) a x).toNat < S32768.size a := fun v178 k0_hw182 => k0_hw182

def k0_chk183 (v186 : IVec S16 32) : Prop :=
  (∀ a x, ((![v186] : Fin 1 → IVec S16 32) a x).toNat < S32768.size a)
theorem k0_idx344_inb : ∀ (v186 : IVec S16 32) (k0_hw183 : k0_chk183 v186), ∀ a x, ((![v186] : Fin 1 → IVec S16 32) a x).toNat < S32768.size a := fun v186 k0_hw183 => k0_hw183

def k0_chk184 (v194 : IVec S16 32) : Prop :=
  (∀ a x, ((![v194] : Fin 1 → IVec S16 32) a x).toNat < S32768.size a)
theorem k0_idx346_inb : ∀ (v194 : IVec S16 32) (k0_hw184 : k0_chk184 v194), ∀ a x, ((![v194] : Fin 1 → IVec S16 32) a x).toNat < S32768.size a := fun v194 k0_hw184 => k0_hw184

def k0_chk185 (v202 : IVec S16 32) : Prop :=
  (∀ a x, ((![v202] : Fin 1 → IVec S16 32) a x).toNat < S32768.size a)
theorem k0_idx348_inb : ∀ (v202 : IVec S16 32) (k0_hw185 : k0_chk185 v202), ∀ a x, ((![v202] : Fin 1 → IVec S16 32) a x).toNat < S32768.size a := fun v202 k0_hw185 => k0_hw185

def k0_chk186 (v210 : IVec S16 32) : Prop :=
  (∀ a x, ((![v210] : Fin 1 → IVec S16 32) a x).toNat < S32768.size a)
theorem k0_idx350_inb : ∀ (v210 : IVec S16 32) (k0_hw186 : k0_chk186 v210), ∀ a x, ((![v210] : Fin 1 → IVec S16 32) a x).toNat < S32768.size a := fun v210 k0_hw186 => k0_hw186

def k0_chk171 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) : Prop :=
  (∀ a x, ((![v52, v89] : Fin 2 → IVec S16 32) a x).toNat < S16x1024.size a) ∧
  (∀ a x, ((![v51, v89] : Fin 2 → IVec S16 32) a x).toNat < S16x1024.size a) ∧
  (∀ a x, ((![v50, v89] : Fin 2 → IVec S16 32) a x).toNat < S16x1024.size a) ∧
  (∀ a x, ((![v49, v89] : Fin 2 → IVec S16 32) a x).toNat < S16x1024.size a) ∧
  (∀ a x, ((![v48, v89] : Fin 2 → IVec S16 32) a x).toNat < S16x1024.size a) ∧
  (∀ a x, ((![v47, v89] : Fin 2 → IVec S16 32) a x).toNat < S16x1024.size a) ∧
  (∀ a x, ((![v46, v89] : Fin 2 → IVec S16 32) a x).toNat < S16x1024.size a) ∧
  (∀ a x, ((![v45, v89] : Fin 2 → IVec S16 32) a x).toNat < S16x1024.size a) ∧
  (∀ a x, ((![v44, v89] : Fin 2 → IVec S16 32) a x).toNat < S16x1024.size a) ∧
  (∀ a x, ((![v43, v89] : Fin 2 → IVec S16 32) a x).toNat < S16x1024.size a) ∧
  (∀ a x, ((![v42, v89] : Fin 2 → IVec S16 32) a x).toNat < S16x1024.size a) ∧
  (∀ a x, ((![v41, v89] : Fin 2 → IVec S16 32) a x).toNat < S16x1024.size a) ∧
  (∀ a x, ((![v40, v89] : Fin 2 → IVec S16 32) a x).toNat < S16x1024.size a) ∧
  (∀ a x, ((![v39, v89] : Fin 2 → IVec S16 32) a x).toNat < S16x1024.size a) ∧
  (∀ a x, ((![v38, v89] : Fin 2 → IVec S16 32) a x).toNat < S16x1024.size a) ∧
  (∀ a x, ((![v37, v89] : Fin 2 → IVec S16 32) a x).toNat < S16x1024.size a)
theorem k0_idx321_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v52, v89] : Fin 2 → IVec S16 32) a x).toNat < S16x1024.size a := fun v37 v38 v39 v40 v41 v42 v43 v44 v45 v46 v47 v48 v49 v50 v51 v52 v89 k0_hw171 => k0_hw171.1
theorem k0_idx323_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v51, v89] : Fin 2 → IVec S16 32) a x).toNat < S16x1024.size a := fun v37 v38 v39 v40 v41 v42 v43 v44 v45 v46 v47 v48 v49 v50 v51 v52 v89 k0_hw171 => k0_hw171.2.1
theorem k0_idx325_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v50, v89] : Fin 2 → IVec S16 32) a x).toNat < S16x1024.size a := fun v37 v38 v39 v40 v41 v42 v43 v44 v45 v46 v47 v48 v49 v50 v51 v52 v89 k0_hw171 => k0_hw171.2.2.1
theorem k0_idx327_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v49, v89] : Fin 2 → IVec S16 32) a x).toNat < S16x1024.size a := fun v37 v38 v39 v40 v41 v42 v43 v44 v45 v46 v47 v48 v49 v50 v51 v52 v89 k0_hw171 => k0_hw171.2.2.2.1
theorem k0_idx329_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v48, v89] : Fin 2 → IVec S16 32) a x).toNat < S16x1024.size a := fun v37 v38 v39 v40 v41 v42 v43 v44 v45 v46 v47 v48 v49 v50 v51 v52 v89 k0_hw171 => k0_hw171.2.2.2.2.1
theorem k0_idx331_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v47, v89] : Fin 2 → IVec S16 32) a x).toNat < S16x1024.size a := fun v37 v38 v39 v40 v41 v42 v43 v44 v45 v46 v47 v48 v49 v50 v51 v52 v89 k0_hw171 => k0_hw171.2.2.2.2.2.1
theorem k0_idx333_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v46, v89] : Fin 2 → IVec S16 32) a x).toNat < S16x1024.size a := fun v37 v38 v39 v40 v41 v42 v43 v44 v45 v46 v47 v48 v49 v50 v51 v52 v89 k0_hw171 => k0_hw171.2.2.2.2.2.2.1
theorem k0_idx335_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v45, v89] : Fin 2 → IVec S16 32) a x).toNat < S16x1024.size a := fun v37 v38 v39 v40 v41 v42 v43 v44 v45 v46 v47 v48 v49 v50 v51 v52 v89 k0_hw171 => k0_hw171.2.2.2.2.2.2.2.1
theorem k0_idx337_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v44, v89] : Fin 2 → IVec S16 32) a x).toNat < S16x1024.size a := fun v37 v38 v39 v40 v41 v42 v43 v44 v45 v46 v47 v48 v49 v50 v51 v52 v89 k0_hw171 => k0_hw171.2.2.2.2.2.2.2.2.1
theorem k0_idx339_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v43, v89] : Fin 2 → IVec S16 32) a x).toNat < S16x1024.size a := fun v37 v38 v39 v40 v41 v42 v43 v44 v45 v46 v47 v48 v49 v50 v51 v52 v89 k0_hw171 => k0_hw171.2.2.2.2.2.2.2.2.2.1
theorem k0_idx341_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v42, v89] : Fin 2 → IVec S16 32) a x).toNat < S16x1024.size a := fun v37 v38 v39 v40 v41 v42 v43 v44 v45 v46 v47 v48 v49 v50 v51 v52 v89 k0_hw171 => k0_hw171.2.2.2.2.2.2.2.2.2.2.1
theorem k0_idx343_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v41, v89] : Fin 2 → IVec S16 32) a x).toNat < S16x1024.size a := fun v37 v38 v39 v40 v41 v42 v43 v44 v45 v46 v47 v48 v49 v50 v51 v52 v89 k0_hw171 => k0_hw171.2.2.2.2.2.2.2.2.2.2.2.1
theorem k0_idx345_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v40, v89] : Fin 2 → IVec S16 32) a x).toNat < S16x1024.size a := fun v37 v38 v39 v40 v41 v42 v43 v44 v45 v46 v47 v48 v49 v50 v51 v52 v89 k0_hw171 => k0_hw171.2.2.2.2.2.2.2.2.2.2.2.2.1
theorem k0_idx347_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v39, v89] : Fin 2 → IVec S16 32) a x).toNat < S16x1024.size a := fun v37 v38 v39 v40 v41 v42 v43 v44 v45 v46 v47 v48 v49 v50 v51 v52 v89 k0_hw171 => k0_hw171.2.2.2.2.2.2.2.2.2.2.2.2.2.1
theorem k0_idx349_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v38, v89] : Fin 2 → IVec S16 32) a x).toNat < S16x1024.size a := fun v37 v38 v39 v40 v41 v42 v43 v44 v45 v46 v47 v48 v49 v50 v51 v52 v89 k0_hw171 => k0_hw171.2.2.2.2.2.2.2.2.2.2.2.2.2.2.1
theorem k0_idx351_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v89 : IVec S16 32) (k0_hw171 : k0_chk171 v37 v38 v39 v40 v41 v42 v43 v44 v45 v46 v47 v48 v49 v50 v51 v52 v89), ∀ a x, ((![v37, v89] : Fin 2 → IVec S16 32) a x).toNat < S16x1024.size a := fun v37 v38 v39 v40 v41 v42 v43 v44 v45 v46 v47 v48 v49 v50 v51 v52 v89 k0_hw171 => k0_hw171.2.2.2.2.2.2.2.2.2.2.2.2.2.2.2

def k0_chk187 (v218 : IVec S16 32) : Prop :=
  (∀ a x, ((![v218] : Fin 1 → IVec S16 32) a x).toNat < S32768.size a)
theorem k0_idx352_inb : ∀ (v218 : IVec S16 32) (k0_hw187 : k0_chk187 v218), ∀ a x, ((![v218] : Fin 1 → IVec S16 32) a x).toNat < S32768.size a := fun v218 k0_hw187 => k0_hw187

def k0_chk189 (v235 : IVec S16 32) : Prop :=
  (∀ a x, ((![v235] : Fin 1 → IVec S16 32) a x).toNat < S32768.size a)
theorem k0_idx354_inb : ∀ (v235 : IVec S16 32) (k0_hw189 : k0_chk189 v235), ∀ a x, ((![v235] : Fin 1 → IVec S16 32) a x).toNat < S32768.size a := fun v235 k0_hw189 => k0_hw189

def k0_chk190 (v243 : IVec S16 32) : Prop :=
  (∀ a x, ((![v243] : Fin 1 → IVec S16 32) a x).toNat < S32768.size a)
theorem k0_idx356_inb : ∀ (v243 : IVec S16 32) (k0_hw190 : k0_chk190 v243), ∀ a x, ((![v243] : Fin 1 → IVec S16 32) a x).toNat < S32768.size a := fun v243 k0_hw190 => k0_hw190

def k0_chk191 (v251 : IVec S16 32) : Prop :=
  (∀ a x, ((![v251] : Fin 1 → IVec S16 32) a x).toNat < S32768.size a)
theorem k0_idx358_inb : ∀ (v251 : IVec S16 32) (k0_hw191 : k0_chk191 v251), ∀ a x, ((![v251] : Fin 1 → IVec S16 32) a x).toNat < S32768.size a := fun v251 k0_hw191 => k0_hw191

def k0_chk192 (v259 : IVec S16 32) : Prop :=
  (∀ a x, ((![v259] : Fin 1 → IVec S16 32) a x).toNat < S32768.size a)
theorem k0_idx360_inb : ∀ (v259 : IVec S16 32) (k0_hw192 : k0_chk192 v259), ∀ a x, ((![v259] : Fin 1 → IVec S16 32) a x).toNat < S32768.size a := fun v259 k0_hw192 => k0_hw192

def k0_chk193 (v267 : IVec S16 32) : Prop :=
  (∀ a x, ((![v267] : Fin 1 → IVec S16 32) a x).toNat < S32768.size a)
theorem k0_idx362_inb : ∀ (v267 : IVec S16 32) (k0_hw193 : k0_chk193 v267), ∀ a x, ((![v267] : Fin 1 → IVec S16 32) a x).toNat < S32768.size a := fun v267 k0_hw193 => k0_hw193

def k0_chk194 (v275 : IVec S16 32) : Prop :=
  (∀ a x, ((![v275] : Fin 1 → IVec S16 32) a x).toNat < S32768.size a)
theorem k0_idx364_inb : ∀ (v275 : IVec S16 32) (k0_hw194 : k0_chk194 v275), ∀ a x, ((![v275] : Fin 1 → IVec S16 32) a x).toNat < S32768.size a := fun v275 k0_hw194 => k0_hw194

def k0_chk195 (v283 : IVec S16 32) : Prop :=
  (∀ a x, ((![v283] : Fin 1 → IVec S16 32) a x).toNat < S32768.size a)
theorem k0_idx366_inb : ∀ (v283 : IVec S16 32) (k0_hw195 : k0_chk195 v283), ∀ a x, ((![v283] : Fin 1 → IVec S16 32) a x).toNat < S32768.size a := fun v283 k0_hw195 => k0_hw195

def k0_chk196 (v291 : IVec S16 32) : Prop :=
  (∀ a x, ((![v291] : Fin 1 → IVec S16 32) a x).toNat < S32768.size a)
theorem k0_idx368_inb : ∀ (v291 : IVec S16 32) (k0_hw196 : k0_chk196 v291), ∀ a x, ((![v291] : Fin 1 → IVec S16 32) a x).toNat < S32768.size a := fun v291 k0_hw196 => k0_hw196

def k0_chk197 (v299 : IVec S16 32) : Prop :=
  (∀ a x, ((![v299] : Fin 1 → IVec S16 32) a x).toNat < S32768.size a)
theorem k0_idx370_inb : ∀ (v299 : IVec S16 32) (k0_hw197 : k0_chk197 v299), ∀ a x, ((![v299] : Fin 1 → IVec S16 32) a x).toNat < S32768.size a := fun v299 k0_hw197 => k0_hw197

def k0_chk198 (v307 : IVec S16 32) : Prop :=
  (∀ a x, ((![v307] : Fin 1 → IVec S16 32) a x).toNat < S32768.size a)
theorem k0_idx372_inb : ∀ (v307 : IVec S16 32) (k0_hw198 : k0_chk198 v307), ∀ a x, ((![v307] : Fin 1 → IVec S16 32) a x).toNat < S32768.size a := fun v307 k0_hw198 => k0_hw198

def k0_chk199 (v315 : IVec S16 32) : Prop :=
  (∀ a x, ((![v315] : Fin 1 → IVec S16 32) a x).toNat < S32768.size a)
theorem k0_idx374_inb : ∀ (v315 : IVec S16 32) (k0_hw199 : k0_chk199 v315), ∀ a x, ((![v315] : Fin 1 → IVec S16 32) a x).toNat < S32768.size a := fun v315 k0_hw199 => k0_hw199

def k0_chk200 (v323 : IVec S16 32) : Prop :=
  (∀ a x, ((![v323] : Fin 1 → IVec S16 32) a x).toNat < S32768.size a)
theorem k0_idx376_inb : ∀ (v323 : IVec S16 32) (k0_hw200 : k0_chk200 v323), ∀ a x, ((![v323] : Fin 1 → IVec S16 32) a x).toNat < S32768.size a := fun v323 k0_hw200 => k0_hw200

def k0_chk201 (v331 : IVec S16 32) : Prop :=
  (∀ a x, ((![v331] : Fin 1 → IVec S16 32) a x).toNat < S32768.size a)
theorem k0_idx378_inb : ∀ (v331 : IVec S16 32) (k0_hw201 : k0_chk201 v331), ∀ a x, ((![v331] : Fin 1 → IVec S16 32) a x).toNat < S32768.size a := fun v331 k0_hw201 => k0_hw201

def k0_chk202 (v339 : IVec S16 32) : Prop :=
  (∀ a x, ((![v339] : Fin 1 → IVec S16 32) a x).toNat < S32768.size a)
theorem k0_idx380_inb : ∀ (v339 : IVec S16 32) (k0_hw202 : k0_chk202 v339), ∀ a x, ((![v339] : Fin 1 → IVec S16 32) a x).toNat < S32768.size a := fun v339 k0_hw202 => k0_hw202

def k0_chk203 (v347 : IVec S16 32) : Prop :=
  (∀ a x, ((![v347] : Fin 1 → IVec S16 32) a x).toNat < S32768.size a)
theorem k0_idx382_inb : ∀ (v347 : IVec S16 32) (k0_hw203 : k0_chk203 v347), ∀ a x, ((![v347] : Fin 1 → IVec S16 32) a x).toNat < S32768.size a := fun v347 k0_hw203 => k0_hw203

def k0_chk188 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) : Prop :=
  (∀ a x, ((![v52, v226] : Fin 2 → IVec S16 32) a x).toNat < S16x1024.size a) ∧
  (∀ a x, ((![v51, v226] : Fin 2 → IVec S16 32) a x).toNat < S16x1024.size a) ∧
  (∀ a x, ((![v50, v226] : Fin 2 → IVec S16 32) a x).toNat < S16x1024.size a) ∧
  (∀ a x, ((![v49, v226] : Fin 2 → IVec S16 32) a x).toNat < S16x1024.size a) ∧
  (∀ a x, ((![v48, v226] : Fin 2 → IVec S16 32) a x).toNat < S16x1024.size a) ∧
  (∀ a x, ((![v47, v226] : Fin 2 → IVec S16 32) a x).toNat < S16x1024.size a) ∧
  (∀ a x, ((![v46, v226] : Fin 2 → IVec S16 32) a x).toNat < S16x1024.size a) ∧
  (∀ a x, ((![v45, v226] : Fin 2 → IVec S16 32) a x).toNat < S16x1024.size a) ∧
  (∀ a x, ((![v44, v226] : Fin 2 → IVec S16 32) a x).toNat < S16x1024.size a) ∧
  (∀ a x, ((![v43, v226] : Fin 2 → IVec S16 32) a x).toNat < S16x1024.size a) ∧
  (∀ a x, ((![v42, v226] : Fin 2 → IVec S16 32) a x).toNat < S16x1024.size a) ∧
  (∀ a x, ((![v41, v226] : Fin 2 → IVec S16 32) a x).toNat < S16x1024.size a) ∧
  (∀ a x, ((![v40, v226] : Fin 2 → IVec S16 32) a x).toNat < S16x1024.size a) ∧
  (∀ a x, ((![v39, v226] : Fin 2 → IVec S16 32) a x).toNat < S16x1024.size a) ∧
  (∀ a x, ((![v38, v226] : Fin 2 → IVec S16 32) a x).toNat < S16x1024.size a) ∧
  (∀ a x, ((![v37, v226] : Fin 2 → IVec S16 32) a x).toNat < S16x1024.size a)
theorem k0_idx353_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v52, v226] : Fin 2 → IVec S16 32) a x).toNat < S16x1024.size a := fun v37 v38 v39 v40 v41 v42 v43 v44 v45 v46 v47 v48 v49 v50 v51 v52 v226 k0_hw188 => k0_hw188.1
theorem k0_idx355_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v51, v226] : Fin 2 → IVec S16 32) a x).toNat < S16x1024.size a := fun v37 v38 v39 v40 v41 v42 v43 v44 v45 v46 v47 v48 v49 v50 v51 v52 v226 k0_hw188 => k0_hw188.2.1
theorem k0_idx357_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v50, v226] : Fin 2 → IVec S16 32) a x).toNat < S16x1024.size a := fun v37 v38 v39 v40 v41 v42 v43 v44 v45 v46 v47 v48 v49 v50 v51 v52 v226 k0_hw188 => k0_hw188.2.2.1
theorem k0_idx359_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v49, v226] : Fin 2 → IVec S16 32) a x).toNat < S16x1024.size a := fun v37 v38 v39 v40 v41 v42 v43 v44 v45 v46 v47 v48 v49 v50 v51 v52 v226 k0_hw188 => k0_hw188.2.2.2.1
theorem k0_idx361_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v48, v226] : Fin 2 → IVec S16 32) a x).toNat < S16x1024.size a := fun v37 v38 v39 v40 v41 v42 v43 v44 v45 v46 v47 v48 v49 v50 v51 v52 v226 k0_hw188 => k0_hw188.2.2.2.2.1
theorem k0_idx363_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v47, v226] : Fin 2 → IVec S16 32) a x).toNat < S16x1024.size a := fun v37 v38 v39 v40 v41 v42 v43 v44 v45 v46 v47 v48 v49 v50 v51 v52 v226 k0_hw188 => k0_hw188.2.2.2.2.2.1
theorem k0_idx365_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v46, v226] : Fin 2 → IVec S16 32) a x).toNat < S16x1024.size a := fun v37 v38 v39 v40 v41 v42 v43 v44 v45 v46 v47 v48 v49 v50 v51 v52 v226 k0_hw188 => k0_hw188.2.2.2.2.2.2.1
theorem k0_idx367_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v45, v226] : Fin 2 → IVec S16 32) a x).toNat < S16x1024.size a := fun v37 v38 v39 v40 v41 v42 v43 v44 v45 v46 v47 v48 v49 v50 v51 v52 v226 k0_hw188 => k0_hw188.2.2.2.2.2.2.2.1
theorem k0_idx369_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v44, v226] : Fin 2 → IVec S16 32) a x).toNat < S16x1024.size a := fun v37 v38 v39 v40 v41 v42 v43 v44 v45 v46 v47 v48 v49 v50 v51 v52 v226 k0_hw188 => k0_hw188.2.2.2.2.2.2.2.2.1
theorem k0_idx371_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v43, v226] : Fin 2 → IVec S16 32) a x).toNat < S16x1024.size a := fun v37 v38 v39 v40 v41 v42 v43 v44 v45 v46 v47 v48 v49 v50 v51 v52 v226 k0_hw188 => k0_hw188.2.2.2.2.2.2.2.2.2.1
theorem k0_idx373_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v42, v226] : Fin 2 → IVec S16 32) a x).toNat < S16x1024.size a := fun v37 v38 v39 v40 v41 v42 v43 v44 v45 v46 v47 v48 v49 v50 v51 v52 v226 k0_hw188 => k0_hw188.2.2.2.2.2.2.2.2.2.2.1
theorem k0_idx375_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v41, v226] : Fin 2 → IVec S16 32) a x).toNat < S16x1024.size a := fun v37 v38 v39 v40 v41 v42 v43 v44 v45 v46 v47 v48 v49 v50 v51 v52 v226 k0_hw188 => k0_hw188.2.2.2.2.2.2.2.2.2.2.2.1
theorem k0_idx377_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v40, v226] : Fin 2 → IVec S16 32) a x).toNat < S16x1024.size a := fun v37 v38 v39 v40 v41 v42 v43 v44 v45 v46 v47 v48 v49 v50 v51 v52 v226 k0_hw188 => k0_hw188.2.2.2.2.2.2.2.2.2.2.2.2.1
theorem k0_idx379_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v39, v226] : Fin 2 → IVec S16 32) a x).toNat < S16x1024.size a := fun v37 v38 v39 v40 v41 v42 v43 v44 v45 v46 v47 v48 v49 v50 v51 v52 v226 k0_hw188 => k0_hw188.2.2.2.2.2.2.2.2.2.2.2.2.2.1
theorem k0_idx381_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v38, v226] : Fin 2 → IVec S16 32) a x).toNat < S16x1024.size a := fun v37 v38 v39 v40 v41 v42 v43 v44 v45 v46 v47 v48 v49 v50 v51 v52 v226 k0_hw188 => k0_hw188.2.2.2.2.2.2.2.2.2.2.2.2.2.2.1
theorem k0_idx383_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v226 : IVec S16 32) (k0_hw188 : k0_chk188 v37 v38 v39 v40 v41 v42 v43 v44 v45 v46 v47 v48 v49 v50 v51 v52 v226), ∀ a x, ((![v37, v226] : Fin 2 → IVec S16 32) a x).toNat < S16x1024.size a := fun v37 v38 v39 v40 v41 v42 v43 v44 v45 v46 v47 v48 v49 v50 v51 v52 v226 k0_hw188 => k0_hw188.2.2.2.2.2.2.2.2.2.2.2.2.2.2.2

def k0_chk204 (v355 : IVec S16 32) : Prop :=
  (∀ a x, ((![v355] : Fin 1 → IVec S16 32) a x).toNat < S32768.size a)
theorem k0_idx384_inb : ∀ (v355 : IVec S16 32) (k0_hw204 : k0_chk204 v355), ∀ a x, ((![v355] : Fin 1 → IVec S16 32) a x).toNat < S32768.size a := fun v355 k0_hw204 => k0_hw204
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x16 : Shape := ⟨3, ![16, 2048, 16]⟩
abbrev S16 : Shape := ⟨1, ![16]⟩
abbrev S1 : Shape := ⟨1, ![1]⟩
abbrev S_ : Shape := ⟨0, ![]⟩
abbrev S16x16x2048 : Shape := ⟨3, ![16, 16, 2048]⟩
abbrev S16x2048x128 : Shape := ⟨3, ![16, 2048, 128]⟩
abbrev S1x16x2048 : Shape := ⟨3, ![1, 16, 2048]⟩
abbrev S16x2048 : Shape := ⟨2, ![16, 2048]⟩
abbrev S16x2048x1 : Shape := ⟨3, ![16, 2048, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x16, .i32⟩
  | .hbm, ⟨1, _⟩ => ⟨S16, .i32⟩
  | .hbm, ⟨2, _⟩ => ⟨S1, .f32⟩
  | .hbm, ⟨3, _⟩ => ⟨S_, .f32⟩
  | .hbm, ⟨4, _⟩ => ⟨S16x16x2048, .i32⟩
  | .hbm, ⟨5, _⟩ => ⟨S_, .f32⟩
  | .hbm, ⟨6, _⟩ => ⟨S16x2048x128, .f32⟩
  | .hbm, ⟨7, _⟩ => ⟨S_, .i32⟩
  | .hbm, ⟨8, _⟩ => ⟨S16x16x2048, .i32⟩
  | .hbm, ⟨9, _⟩ => ⟨S_, .f32⟩
  | .hbm, ⟨10, _⟩ => ⟨S_, .i32⟩
  | .hbm, ⟨11, _⟩ => ⟨S16x2048x128, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S1x16x2048, .i32⟩
  | .hbm, ⟨17, _⟩ => ⟨S16x2048, .i32⟩
  | .hbm, ⟨18, _⟩ => ⟨S16x2048x1, .i32⟩
  | .hbm, ⟨19, _⟩ => ⟨S1x1x128, .i32⟩
  | .hbm, ⟨20, _⟩ => ⟨S16x2048x128, .i32⟩
  | .hbm, ⟨21, _⟩ => ⟨S16x2048x128, .i32⟩
  | .hbm, ⟨22, _⟩ => ⟨S16x2048x128, .i1⟩
  | .hbm, ⟨23, _⟩ => ⟨S16x2048x128, .f32⟩
  | .hbm, ⟨24, _⟩ => ⟨S_, .i32⟩
  | .hbm, ⟨25, _⟩ => ⟨S16x2048, .i32⟩
  | .hbm, ⟨26, _⟩ => ⟨S16x2048, .i1⟩
  | .hbm, ⟨27, _⟩ => ⟨S16x2048x1, .i1⟩
  | .hbm, ⟨28, _⟩ => ⟨S16x2048x128, .f32⟩
  | .hbm, ⟨29, _⟩ => ⟨S16x2048x128, .f32⟩
  | .hbm, ⟨30, _⟩ => ⟨S16x2048x128, .f32⟩
  | .hbm, ⟨31, _⟩ => ⟨S16x2048x128, .i1⟩
  | .hbm, ⟨32, _⟩ => ⟨S16x2048x128, .f32⟩
  | .hbm, ⟨33, _⟩ => ⟨S_, .i32⟩
  | .hbm, ⟨34, _⟩ => ⟨S_, .i32⟩
  | _, _ => ⟨S16x2048x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_while0c_c_3 : Ref sig .tc := ⟨.hbm, 12, rfl⟩
abbrev main_while0c_v4 : Ref sig .tc := ⟨.hbm, 13, rfl⟩
abbrev main_while0b_call0_c : Ref sig .tc := ⟨.hbm, 14, rfl⟩
abbrev main_while0b_call0_c_0 : Ref sig .tc := ⟨.hbm, 15, rfl⟩
abbrev main_while0b_call0_v0 : Ref sig .tc := ⟨.hbm, 16, rfl⟩
abbrev main_while0b_v4 : Ref sig .tc := ⟨.hbm, 17, rfl⟩
abbrev main_while0b_call1_v0 : Ref sig .tc := ⟨.hbm, 18, rfl⟩
abbrev main_while0b_call1_v1 : Ref sig .tc := ⟨.hbm, 19, rfl⟩
abbrev main_while0b_call1_v2 : Ref sig .tc := ⟨.hbm, 20, rfl⟩
abbrev main_while0b_call1_v3 : Ref sig .tc := ⟨.hbm, 21, rfl⟩
abbrev main_while0b_call1_v4 : Ref sig .tc := ⟨.hbm, 22, rfl⟩
abbrev main_while0b_v5 : Ref sig .tc := ⟨.hbm, 23, rfl⟩
abbrev main_while0b_c_3 : Ref sig .tc := ⟨.hbm, 24, rfl⟩
abbrev main_while0b_v6 : Ref sig .tc := ⟨.hbm, 25, rfl⟩
abbrev main_while0b_v7 : Ref sig .tc := ⟨.hbm, 26, rfl⟩
abbrev main_while0b_v8 : Ref sig .tc := ⟨.hbm, 27, rfl⟩
abbrev main_while0b_v9 : Ref sig .tc := ⟨.hbm, 28, rfl⟩
abbrev main_while0b_v10 : Ref sig .tc := ⟨.hbm, 29, rfl⟩
abbrev main_while0b_v11 : Ref sig .tc := ⟨.hbm, 30, rfl⟩
abbrev main_while0b_call2_v0 : Ref sig .tc := ⟨.hbm, 31, rfl⟩
abbrev main_while0b_v12 : Ref sig .tc := ⟨.hbm, 32, rfl⟩
abbrev main_while0b_c_4 : Ref sig .tc := ⟨.hbm, 33, rfl⟩
abbrev main_while0b_v13 : Ref sig .tc := ⟨.hbm, 34, rfl⟩

abbrev nD : Nat := 1
abbrev τ : Topo := Topo.v7x

variable {F : FTy → Type} [FloatOps F]

abbrev main_while0_count : Scf.Loop 32 := ⟨0#32, 16#32, 1#32⟩
-- ==== Proof.Program.lean ====
/-
  The kernel's inner loops, said once. The printed body fills a row buffer four times and clears it twice, each time
  by eight trips over two groups of sixteen words; a group is a chain of sixteen gathers of a character column and
  sixteen scatters. This module states a group as a recursion over the character column (`fillFrom`, `clearFrom`), a
  trip as two groups (`fillTrip`, `clearTrip`), and shows that each printed trip is one of these by unfolding.
-/
module

public import proofs.«01_k».proof.Proof.Gen.KernelIdeal
public import proofs.«01_k».proof.Proof.Gen.KernelIdeal.Skeleton
public import Idealize.ShloMosaic.Lib.SparseCore.Ops

@[expose] public section

noncomputable section

namespace Cert.Proof

open Cert.KernelIdeal Cert.KernelIdeal.Gen
open Idealize.ShloMosaic Idealize.SL.Sem

variable {F : FTy → Type} [FloatOps F]

/-- The programs of one tile. -/
abbrev Tile (F : FTy → Type) (i : grid0.Coords) (α : Type) : Type 1 :=
  Prog (TpuEff nD τ sig (Elt F) Λ₀ (.scVector ((i 0).castLE hcore0) ((i 1).castLE hsub0))) α

/-- The row of the character table that holds character `n` of every word, as the sixteen lanes name it. -/
abbrev charRow (n : ℕ) : IVec S16 32 := broadcast S16 (BitVec.ofNat 32 n)

/-- The side condition of one group: every gather of the group names an element of the character table. -/
abbrev ColIn (col : IVec S16 32) : Prop := ∀ n, n < 16 → ∀ a x, ((![charRow n, col] : Fin 2 → IVec S16 32) a x).toNat < S16x1024.size a

/-- The lanes whose character is not the padding character. -/
abbrev present (ch : IVec S16 32) : IVec S16 1 := cmpi .ne ch (broadcast S16 0#32)

/-- Sixteen zeros and sixteen ones. -/
abbrev zeros16 : FVec F S16 .f32 := broadcast S16 (Scalar.ofBits .f32 0x00000000#32)
abbrev ones16 : FVec F S16 .f32 := broadcast S16 (Scalar.ofBits .f32 0x3F800000#32)

section Groups

variable (i : grid0.Coords) (chars : Memref sig .scVector .vmem S16x1024 .i32) (buf : Memref sig .scVector .vmem S32768 .f32)
variable (col base : IVec S16 32) (hin : ColIn col)

/-- Characters `n - 1` down to `0` of sixteen words added into the buffer: each present character adds the running
    weight at its column, and multiplies the weight by the forgetting factor. -/
def fillFrom (ffv : FVec F S16 .f32) : (n : ℕ) → n ≤ 16 → FVec F S16 .f32 → Tile F i PUnit
  | 0, _, _ => pure ⟨⟩
  | n + 1, h, p => do
    let ch : Vec F S16 .i32 ← SparseCore.vectorLoadIdx chars ![charRow n, col] (hin n h) (View.loads_vmem h_S16x1024)
    have ix : IVec S16 32 := addi base ch
    have hw : k0_chk2 ix := (← Prog.lift (TpuEff.assume (k0_chk2 ix) (k0_chk2.dec ix))).down
    SparseCore.vectorStoreIdx buf ![ix] (select (present ch) p zeros16) (fun _ => 1#1) true (k0_idx2_inb ix hw)
      (View.stores_vmem_bits_univ h_S32768 rfl)
    fillFrom ffv n (Nat.le_of_succ_le h) (mulf p (select (present ch) ffv ones16))

/-- Characters `16 - n` up to `15` of sixteen words: each writes a zero at its column. -/
def clearFrom : (n : ℕ) → n ≤ 16 → Tile F i PUnit
  | 0, _ => pure ⟨⟩
  | n + 1, h => do
    let ch : Vec F S16 .i32 ← SparseCore.vectorLoadIdx chars ![charRow (15 - n), col] (hin (15 - n) (by omega)) (View.loads_vmem h_S16x1024)
    have ix : IVec S16 32 := addi base ch
    have hw : k0_chk2 ix := (← Prog.lift (TpuEff.assume (k0_chk2 ix) (k0_chk2.dec ix))).down
    SparseCore.vectorStoreIdx buf ![ix] zeros16 (fun _ => 1#1) false (k0_idx2_inb ix hw) (View.stores_vmem_bits_univ h_S32768 rfl)
    clearFrom n (Nat.le_of_succ_le h)

end Groups

/-- The lane number of each lane. -/
abbrev lane16 : IVec S16 32 := iota .scVector S16 32 [0] iota_S16_d0_w32_scVector

/-- The columns of the character table that group `h` of trip `t` of chunk `c` reads (`c` the chunk's first column). -/
abbrev colOf (c h : BitVec 32) (t : ℕ) : IVec S16 32 :=
  addi (broadcast S16 (Scalar.addi c (Scalar.muli (Scalar.addi (Scalar.muli (Scf.iv 0#32 1#32 t) 2#32) h) 16#32))) lane16

/-- The first buffer element of each lane's word in group `h` of trip `t`. -/
abbrev baseOf (h : BitVec 32) (t : ℕ) : IVec S16 32 :=
  addi (broadcast S16 (Scalar.muli (Scalar.addi (Scalar.muli (Scf.iv 0#32 1#32 t) 2#32) h) 2048#32)) (muli lane16 (broadcast S16 128#32))

/-- A filling group's assumption, with all sixteen character rows. -/
abbrev FillOk (col : IVec S16 32) : Prop :=
  k0_chk1 (charRow 0) (charRow 1) (charRow 2) (charRow 3) (charRow 4) (charRow 5) (charRow 6) (charRow 7) (charRow 8) (charRow 9)
    (charRow 10) (charRow 11) (charRow 12) (charRow 13) (charRow 14) (charRow 15) col

/-- A clearing group's assumption. -/
abbrev ClearOk (col : IVec S16 32) : Prop :=
  k0_chk69 (charRow 0) (charRow 1) (charRow 2) (charRow 3) (charRow 4) (charRow 5) (charRow 6) (charRow 7) (charRow 8) (charRow 9)
    (charRow 10) (charRow 11) (charRow 12) (charRow 13) (charRow 14) (charRow 15) col

theorem FillOk.iff (col : IVec S16 32) : FillOk col ↔ ColIn col := by
  constructor
  · intro h n hn
    obtain ⟨h0, h1, h2, h3, h4, h5, h6, h7, h8, h9, h10, h11, h12, h13, h14, h15⟩ := h
    match n, hn with
    | 0, _ => exact h15
    | 1, _ => exact h14
    | 2, _ => exact h13
    | 3, _ => exact h12
    | 4, _ => exact h11
    | 5, _ => exact h10
    | 6, _ => exact h9
    | 7, _ => exact h8
    | 8, _ => exact h7
    | 9, _ => exact h6
    | 10, _ => exact h5
    | 11, _ => exact h4
    | 12, _ => exact h3
    | 13, _ => exact h2
    | 14, _ => exact h1
    | 15, _ => exact h0
    | n + 16, hn => omega
  · intro h
    exact ⟨h 15 (by omega), h 14 (by omega), h 13 (by omega), h 12 (by omega), h 11 (by omega), h 10 (by omega), h 9 (by omega), h 8 (by omega),
      h 7 (by omega), h 6 (by omega), h 5 (by omega), h 4 (by omega), h 3 (by omega), h 2 (by omega), h 1 (by omega), h 0 (by omega)⟩

theorem ClearOk.iff (col : IVec S16 32) : ClearOk col ↔ ColIn col := by
  constructor
  · intro h n hn
    obtain ⟨h0, h1, h2, h3, h4, h5, h6, h7, h8, h9, h10, h11, h12, h13, h14, h15⟩ := h
    match n, hn with
    | 0, _ => exact h0
    | 1, _ => exact h1
    | 2, _ => exact h2
    | 3, _ => exact h3
    | 4, _ => exact h4
    | 5, _ => exact h5
    | 6, _ => exact h6
    | 7, _ => exact h7
    | 8, _ => exact h8
    | 9, _ => exact h9
    | 10, _ => exact h10
    | 11, _ => exact h11
    | 12, _ => exact h12
    | 13, _ => exact h13
    | 14, _ => exact h14
    | 15, _ => exact h15
    | n + 16, hn => omega
  · intro h
    exact ⟨h 0 (by omega), h 1 (by omega), h 2 (by omega), h 3 (by omega), h 4 (by omega), h 5 (by omega), h 6 (by omega), h 7 (by omega),
      h 8 (by omega), h 9 (by omega), h 10 (by omega), h 11 (by omega), h 12 (by omega), h 13 (by omega), h 14 (by omega), h 15 (by omega)⟩

section Trips

variable (i : grid0.Coords) (chars : Memref sig .scVector .vmem S16x1024 .i32) (buf : Memref sig .scVector .vmem S32768 .f32)

/-- One filling group behind its assumption. -/
def fillGroup (ffv : FVec F S16 .f32) (col base : IVec S16 32) (dec : Decidable (FillOk col)) : Tile F i PUnit := do
  have hw : FillOk col := (← Prog.lift (TpuEff.assume (FillOk col) dec)).down
  fillFrom i chars buf col base ((FillOk.iff col).1 hw) ffv 16 le_rfl ones16

/-- One clearing group behind its assumption. -/
def clearGroup (col base : IVec S16 32) (dec : Decidable (ClearOk col)) : Tile F i PUnit := do
  have hw : ClearOk col := (← Prog.lift (TpuEff.assume (ClearOk col) dec)).down
  clearFrom i chars buf col base ((ClearOk.iff col).1 hw) 16 le_rfl

/-- Trip `t` of the loop that fills a buffer with the chunk whose first column is `c`. -/
def fillTrip (ffv : FVec F S16 .f32) (c : BitVec 32) (t : ℕ) : Tile F i PUnit := do
  fillGroup i chars buf ffv (colOf c 0#32 t) (baseOf 0#32 t) (k0_chk1.dec _ _ _ _ _ _ _ _ _ _ _ _ _ _ _ _ _)
  fillGroup i chars buf ffv (colOf c 1#32 t) (baseOf 1#32 t) (k0_chk1.dec _ _ _ _ _ _ _ _ _ _ _ _ _ _ _ _ _)

/-- Trip `t` of the loop that clears what that chunk wrote. -/
def clearTrip (c : BitVec 32) (t : ℕ) : Tile F i PUnit := do
  clearGroup i chars buf (colOf c 0#32 t) (baseOf 0#32 t) (k0_chk69.dec _ _ _ _ _ _ _ _ _ _ _ _ _ _ _ _ _)
  clearGroup i chars buf (colOf c 1#32 t) (baseOf 1#32 t) (k0_chk69.dec _ _ _ _ _ _ _ _ _ _ _ _ _ _ _ _ _)

end Trips

section Printed

variable (i : grid0.Coords)
  (arg2 : Memref sig .scVector .hbm S16 .f32) (harg2 : arg2.IsWhole) (arg3 : Memref sig .scVector .hbm S16x16x2048 .i32) (harg3 : arg3.IsWhole)
  (arg4 : Memref sig .scVector .hbm S4194304 .f32) (harg4 : arg4.IsWhole) (arg5 : Memref sig .scVector .vmem S16 .f32) (harg5 : arg5.IsWhole)
  (arg6 : Memref sig .scVector .vmem S16x1024 .i32) (harg6 : arg6.IsWhole) (arg7 : Memref sig .scVector .vmem S32768 .f32) (harg7 : arg7.IsWhole)
  (arg8 : Memref sig .scVector .vmem S32768 .f32) (harg8 : arg8.IsWhole) (arg9 arg10 v84_r0 v84_r1 : DmaSems sig S_)

/-- The printed trip of the loop that fills the first buffer with chunk 0. -/
theorem t2_eq (ffv : FVec F S16 .f32) (t : Fin k0_t2_loop.trips) :
    k0_t2_body i arg2 harg2 arg3 harg3 arg4 harg4 arg5 harg5 arg6 harg6 arg7 harg7 arg8 harg8 arg9 arg10 v84_r0 v84_r1 ffv lane16 t ()
      = fillTrip i arg6 arg7 ffv 0#32 t.val := rfl

/-- The printed trip of the loop that fills the second buffer with chunk 1. -/
theorem t3_eq (v2 : BitVec 32) (ffv : FVec F S16 .f32) (t : Fin k0_t3_loop.trips) :
    k0_t3_body i arg2 harg2 arg3 harg3 arg4 harg4 arg5 harg5 arg6 harg6 arg7 harg7 arg8 harg8 arg9 arg10 v84_r0 v84_r1 v2 ffv ones16 zeros16 lane16 (muli lane16 (broadcast S16 128#32))
      (charRow 0) (charRow 1) (charRow 2) (charRow 3) (charRow 4) (charRow 5) (charRow 6) (charRow 7) (charRow 8) (charRow 9) (charRow 10) (charRow 11) (charRow 12) (charRow 13) (charRow 14) (charRow 15) t ()
      = fillTrip i arg6 arg8 ffv 256#32 t.val := rfl

/-- The printed trip of the loop that clears chunk 0 out of the first buffer. -/
theorem t4_eq (v2 : BitVec 32) (ffv : FVec F S16 .f32) (t : Fin k0_t4_loop.trips) :
    k0_t4_body i arg2 harg2 arg3 harg3 arg4 harg4 arg5 harg5 arg6 harg6 arg7 harg7 arg8 harg8 arg9 arg10 v84_r0 v84_r1 v2 ffv ones16 zeros16 lane16 (muli lane16 (broadcast S16 128#32))
      (charRow 0) (charRow 1) (charRow 2) (charRow 3) (charRow 4) (charRow 5) (charRow 6) (charRow 7) (charRow 8) (charRow 9) (charRow 10) (charRow 11) (charRow 12) (charRow 13) (charRow 14) (charRow 15) t ()
      = clearTrip i arg6 arg7 0#32 t.val := rfl

/-- The printed trip of the loop that fills the first buffer with chunk 2. -/
theorem t5_eq (v2 : BitVec 32) (ffv : FVec F S16 .f32) (t : Fin k0_t5_loop.trips) :
    k0_t5_body i arg2 harg2 arg3 harg3 arg4 harg4 arg5 harg5 arg6 harg6 arg7 harg7 arg8 harg8 arg9 arg10 v84_r0 v84_r1 v2 ffv ones16 zeros16 lane16 (muli lane16 (broadcast S16 128#32))
      (charRow 0) (charRow 1) (charRow 2) (charRow 3) (charRow 4) (charRow 5) (charRow 6) (charRow 7) (charRow 8) (charRow 9) (charRow 10) (charRow 11) (charRow 12) (charRow 13) (charRow 14) (charRow 15) t ()
      = fillTrip i arg6 arg7 ffv 512#32 t.val := rfl

/-- The printed trip of the loop that clears chunk 1 out of the second buffer. -/
theorem t6_eq (v2 : BitVec 32) (ffv : FVec F S16 .f32) (t : Fin k0_t6_loop.trips) :
    k0_t6_body i arg2 harg2 arg3 harg3 arg4 harg4 arg5 harg5 arg6 harg6 arg7 harg7 arg8 harg8 arg9 arg10 v84_r0 v84_r1 v2 ffv ones16 zeros16 lane16 (muli lane16 (broadcast S16 128#32))
      (charRow 0) (charRow 1) (charRow 2) (charRow 3) (charRow 4) (charRow 5) (charRow 6) (charRow 7) (charRow 8) (charRow 9) (charRow 10) (charRow 11) (charRow 12) (charRow 13) (charRow 14) (charRow 15) t ()
      = clearTrip i arg6 arg8 256#32 t.val := rfl

/-- The printed trip of the loop that fills the second buffer with chunk 3. -/
theorem t7_eq (ffv : FVec F S16 .f32) (t : Fin k0_t7_loop.trips) :
    k0_t7_body i arg2 harg2 arg3 harg3 arg4 harg4 arg5 harg5 arg6 harg6 arg7 harg7 arg8 harg8 arg9 arg10 v84_r0 v84_r1 ffv ones16 lane16 (muli lane16 (broadcast S16 128#32))
      (charRow 0) (charRow 1) (charRow 2) (charRow 3) (charRow 4) (charRow 5) (charRow 6) (charRow 7) (charRow 8) (charRow 9) (charRow 10) (charRow 11) (charRow 12) (charRow 13) (charRow 14) (charRow 15) 0#32 t ()
      = fillTrip i arg6 arg8 ffv 768#32 t.val := rfl

end Printed

end Cert.Proof

end
-- ==== Proof.Values.lean ====
/-
  What the inner loops compute, as functions. A row buffer holds 256 words of 128 columns. `wt` is the running weight
  of a word's characters taken from the last to the first, `enc` the column's running sum; a scatter of sixteen lanes
  whose targets are distinct changes each target once (`storeIdx_hit`, `storeIdx_miss`).
-/
module

public import proofs.«01_k».proof.Proof.Program

@[expose] public section

noncomputable section

namespace Cert.Proof

open Cert.KernelIdeal Cert.KernelIdeal.Gen
open Idealize.ShloMosaic Idealize.SL.Sem

variable {F : FTy → Type} [FloatOps F]

/-! ## One word's code -/

/-- The two float words the kernel names. -/
abbrev zeroF : F .f32 := Scalar.ofBits .f32 0x00000000#32
abbrev oneF : F .f32 := Scalar.ofBits .f32 0x3F800000#32

/-- The weight left after the last `k` of sixteen characters: a factor of `ff` for each present one. -/
def wt (ff : F .f32) (cs : ℕ → BitVec 32) : ℕ → F .f32
  | 0 => oneF
  | k + 1 => FloatOps.mulf (wt ff cs k) (if cs (15 - k) ≠ 0#32 then ff else oneF)

/-- Column `v` of the code of the last `k` of sixteen characters, summed from the last to the first. -/
def enc (ff : F .f32) (cs : ℕ → BitVec 32) (v : ℕ) : ℕ → F .f32
  | 0 => zeroF
  | k + 1 => if (cs (15 - k)).toNat = v then FloatOps.idxAddf (enc ff cs v k) (if cs (15 - k) ≠ 0#32 then wt ff cs k else zeroF)
      else enc ff cs v k

/-- A column no character names stays zero. -/
theorem enc_of_not_mem (ff : F .f32) (cs : ℕ → BitVec 32) (v k : ℕ) (h : ∀ n, n < 16 → (cs n).toNat ≠ v) : enc ff cs v k = zeroF := by
  induction k with
  | zero => rfl
  | succ k ih => rw [enc, if_neg (h _ (by omega)), ih]

/-! ## Scatters of sixteen lanes -/

/-- A fold that writes each named place in turn, the names distinct, leaves the other places and writes each once. -/
theorem foldl_place {ι κ α : Type} [DecidableEq κ] (tgt : ι → κ) (Y : ι → α → α) (l : List ι) :
    ∀ (f : κ → α), l.Nodup → (∀ a ∈ l, ∀ b ∈ l, tgt a = tgt b → a = b) →
      (∀ j, (∀ k ∈ l, tgt k ≠ j) → l.foldl (fun g k j => if j = tgt k then Y k (g (tgt k)) else g j) f j = f j)
      ∧ ∀ k ∈ l, l.foldl (fun g k j => if j = tgt k then Y k (g (tgt k)) else g j) f (tgt k) = Y k (f (tgt k)) := by
  induction l with
  | nil => intro f _ _; exact ⟨fun _ _ => rfl, fun k hk => absurd hk List.not_mem_nil⟩
  | cons a l ih =>
    intro f hnd hinj
    obtain ⟨hal, hnd'⟩ := List.nodup_cons.1 hnd
    obtain ⟨ih₁, ih₂⟩ := ih (fun j => if j = tgt a then Y a (f (tgt a)) else f j) hnd'
      (fun x hx y hy => hinj x (List.mem_cons_of_mem _ hx) y (List.mem_cons_of_mem _ hy))
    refine ⟨fun j hj => ?_, fun k hk => ?_⟩
    · rw [List.foldl_cons, ih₁ j fun k hk => hj k (List.mem_cons_of_mem _ hk), if_neg fun e => hj a List.mem_cons_self e.symm]
    · rw [List.foldl_cons]
      rcases List.mem_cons.1 hk with rfl | hk'
      · rw [ih₁ (tgt k) fun x hx e => hal (hinj x (List.mem_cons_of_mem _ hx) k List.mem_cons_self e ▸ hx), if_pos rfl]
      · have hne : tgt k ≠ tgt a := fun e => hal (hinj k hk a List.mem_cons_self e ▸ hk')
        rw [ih₂ k hk', if_neg hne]

/-- Lane `k`. -/
abbrev lane (k : Fin 16) : S16.Idx := Shape.ofLane (d := ![16]) k

section Store

variable (f : Vec F S32768 .f32) (ix : IVec S16 32) (v : Vec F S16 .f32) (add : Bool)
variable (h : ∀ a x, ((![ix] : Fin 1 → IVec S16 32) a x).toNat < S32768.size a)

/-- The buffer element lane `k` of an index vector names. -/
abbrev place (k : Fin 16) : S32768.Idx := idxAt (s := S32768) ![ix] h (lane k)

theorem place_val (k : Fin 16) : (place ix h k 0).val = (ix (lane k)).toNat := rfl

/-- A buffer element is its number. -/
theorem idx_ext {j j' : S32768.Idx} (e : (j 0).val = (j' 0).val) : j = j' := by
  funext a
  rw [Fin.eq_zero a]
  exact Fin.ext e

theorem storeIdx_eq :
    storeIdx f ![ix] v (fun _ => 1#1) add h
      = (List.finRange 16).foldl (fun g k j => if j = place ix h k then
          (fun (k : Fin 16) (y : F .f32) => if add then FloatOps.idxAddf y (v (lane k)) else v (lane k)) k (g (place ix h k)) else g j) f := by
  unfold storeIdx
  show List.foldl _ f (List.finRange 16) = _
  congr 1
  funext g k j
  have hiff : (∀ a, (j a).val = (place ix h k a).val) ↔ j = place ix h k :=
    ⟨fun e => idx_ext (e 0), fun e a => by rw [e]⟩
  refine (congrFun (if_pos rfl) j).trans ?_
  by_cases hj : j = place ix h k
  · exact (if_pos (hiff.2 hj)).trans (if_pos hj).symm
  · exact (if_neg (mt hiff.1 hj)).trans (if_neg hj).symm

variable (hinj : ∀ k k' : Fin 16, (ix (lane k)).toNat = (ix (lane k')).toNat → k = k')
include hinj

/-- An element lane `k` names, the lanes' names distinct, is written by lane `k` alone. -/
theorem storeIdx_hit (j : S32768.Idx) (k : Fin 16) (hj : (ix (lane k)).toNat = (j 0).val) :
    storeIdx f ![ix] v (fun _ => 1#1) add h j = if add then FloatOps.idxAddf (f j) (v (lane k)) else v (lane k) := by
  obtain rfl : place ix h k = j := idx_ext hj
  rw [storeIdx_eq]
  exact (foldl_place (place ix h) (fun (k : Fin 16) (y : F .f32) => if add then FloatOps.idxAddf y (v (lane k)) else v (lane k)) _ f
    (List.nodup_finRange 16) (fun a _ b _ e => hinj a b (congrArg (fun j : S32768.Idx => (j 0).val) e))).2 k (List.mem_finRange k)

/-- An element no lane names is left. -/
theorem storeIdx_miss (j : S32768.Idx) (hj : ∀ k : Fin 16, (ix (lane k)).toNat ≠ (j 0).val) :
    storeIdx f ![ix] v (fun _ => 1#1) add h j = f j := by
  rw [storeIdx_eq]
  exact (foldl_place (place ix h) (fun (k : Fin 16) (y : F .f32) => if add then FloatOps.idxAddf y (v (lane k)) else v (lane k)) _ f
    (List.nodup_finRange 16) (fun a _ b _ e => hinj a b (congrArg (fun j : S32768.Idx => (j 0).val) e))).1 j
    fun k _ e => hj k (congrArg (fun j : S32768.Idx => (j 0).val) e)

end Store

/-! ## The words the loops compute -/

/-- Group `h` of trip `t` reads columns `16 (2 t + h) + k` of its chunk. -/
theorem colOf_toNat (q : Fin 4) (h : Fin 2) (t : Fin 8) (k : Fin 16) :
    (colOf (BitVec.ofNat 32 (256 * q.val)) (BitVec.ofNat 32 h.val) t.val (lane k)).toNat = 256 * q.val + 16 * (2 * t.val + h.val) + k.val := by
  revert q h t k; decide +kernel

/-- Its lane `k` holds a word of the buffer's rows, the first element `2048 (2 t + h) + 128 k`. -/
theorem baseOf_toNat (h : Fin 2) (t : Fin 8) (k : Fin 16) :
    (baseOf (BitVec.ofNat 32 h.val) t.val (lane k)).toNat = 2048 * (2 * t.val + h.val) + 128 * k.val := by
  revert h t k; decide +kernel

theorem charRow_toNat (n : Fin 16) (k : Fin 16) : (charRow n.val (lane k)).toNat = n.val := by
  revert n k; decide +kernel

/-- Every lane of a rank-one vector of sixteen is a `lane`. -/
theorem exists_lane (x : S16.Idx) : ∃ k : Fin 16, x = lane k := ⟨x 0, by funext a; rw [Fin.eq_zero a]; rfl⟩

/-- A group's columns are in the character table. -/
theorem colIn (q : Fin 4) (h : Fin 2) (t : Fin 8) : ColIn (colOf (BitVec.ofNat 32 (256 * q.val)) (BitVec.ofNat 32 h.val) t.val) := by
  intro n hn a x
  obtain ⟨k, rfl⟩ := exists_lane x
  match a with
  | 0 => exact (charRow_toNat ⟨n, hn⟩ k).trans_lt hn
  | 1 =>
    refine (colOf_toNat q h t k).trans_lt ?_
    show _ < 1024
    omega

/-! ## The character table and the buffers, group by group -/

/-- Element `(n, r)` of the character table, `0` outside it. -/
def charAt (C : Vec F S16x1024 .i32) (n r : ℕ) : BitVec 32 :=
  if h : n < 16 ∧ r < 1024 then C (fun a => match a with | 0 => ⟨n, h.1⟩ | 1 => ⟨r, h.2⟩) else 0#32

/-- The code of chunk `q`'s words: element `j` is column `j % 128` of the word at table column `256 q + j / 128`. -/
def chunkVal (ffv : FVec F S16 .f32) (C : Vec F S16x1024 .i32) (q : ℕ) (j : ℕ) (k : ℕ) : F .f32 :=
  enc (ffv (lane ⟨j / 128 % 16, Nat.mod_lt _ (by decide)⟩)) (fun n => charAt C n (256 * q + j / 128)) (j % 128) k

/-- A buffer whose first `g` groups of 2048 elements hold `A` and whose others hold `B`. -/
def mix (g : ℕ) (A B : ℕ → F .f32) : Vec F S32768 .f32 := fun j => if (j 0).val / 2048 < g then A (j 0).val else B (j 0).val

end Cert.Proof

end
-- ==== Proof.Groups.lean ====
/-
  One character of one group, as functions on a buffer's contents: a scatter of sixteen characters takes the buffer
  from what it holds before the character to what it holds after it (`fill_char`, `clear_char`), and sixteen of them
  take a buffer whose first `G` groups are done to one whose first `G + 1` are (`fill_first`, `fill_last`, …).
-/
module

public import proofs.«01_k».proof.Proof.Values

@[expose] public section

noncomputable section

namespace Cert.Proof

open Cert.KernelIdeal Cert.KernelIdeal.Gen
open Idealize.ShloMosaic Idealize.SL.Sem

variable {F : FTy → Type} [FloatOps F]

/-- The characters of a table gathered at row `n` and columns `r0 + lane`. -/
theorem load_char (C : Vec F S16x1024 .i32) (col : IVec S16 32) (hin : ColIn col) (r0 : ℕ) (hr0 : r0 + 16 ≤ 1024)
    (hcol : ∀ k : Fin 16, (col (lane k)).toNat = r0 + k.val) (n : ℕ) (hn : n < 16) (k : Fin 16) :
    loadIdx C ![charRow n, col] (hin n hn) (lane k) = charAt C n (r0 + k.val) := by
  have hk : r0 + k.val < 1024 := by omega
  unfold charAt
  rw [dif_pos ⟨hn, hk⟩]
  refine congrArg C (funext fun a => ?_)
  match a with
  | 0 => exact Fin.ext (charRow_toNat ⟨n, hn⟩ k)
  | 1 => exact Fin.ext (hcol k)

section Group

variable (C : Vec F S16x1024 .i32) (hC : ∀ x, (C x).toNat < 128)

include hC in
theorem charAt_lt (n r : ℕ) : (charAt C n r).toNat < 128 := by
  unfold charAt
  split
  · exact hC _
  · decide

variable (base ch : IVec S16 32) (G r0 n : ℕ) (hG : G < 16) (hn : n < 16)
variable (hbase : ∀ k : Fin 16, (base (lane k)).toNat = 2048 * G + 128 * k.val)
variable (hch : ∀ k : Fin 16, ch (lane k) = charAt C n (r0 + k.val))

include hC hG hbase hch in
/-- The element lane `k` names: its word's row, at its character. -/
theorem ix_toNat (k : Fin 16) : (addi base ch (lane k)).toNat = 2048 * G + 128 * k.val + (charAt C n (r0 + k.val)).toNat := by
  have h1 := hbase k
  have h2 := charAt_lt C hC n (r0 + k.val)
  show (base (lane k) + ch (lane k)).toNat = _
  rw [hch, BitVec.toNat_add, h1]
  exact Nat.mod_eq_of_lt (by omega)

include hC hG hbase hch in
/-- It is in the buffer. -/
theorem ix_ok : k0_chk2 (addi base ch) := by
  intro a x
  obtain ⟨k, rfl⟩ := exists_lane x
  match a with
  | 0 =>
    refine (ix_toNat C hC base ch G r0 n hG hbase hch k).trans_lt ?_
    have := charAt_lt C hC n (r0 + k.val)
    show _ < 32768
    omega

include hC hG hbase hch in
/-- Lanes name different elements. -/
theorem ix_inj (k k' : Fin 16) (h : (addi base ch (lane k)).toNat = (addi base ch (lane k')).toNat) : k = k' := by
  rw [ix_toNat C hC base ch G r0 n hG hbase hch, ix_toNat C hC base ch G r0 n hG hbase hch] at h
  have h1 := charAt_lt C hC n (r0 + k.val)
  have h2 := charAt_lt C hC n (r0 + k'.val)
  exact Fin.ext (by omega)

/-! ### Filling -/

/-- The buffer while group `G` is being filled, `k` characters done: the groups before it done, those after it zero. -/
def fillMid (ffv : FVec F S16 .f32) (q G k : ℕ) : Vec F S32768 .f32 := fun j =>
  if (j 0).val / 2048 = G then chunkVal ffv C q (j 0).val k else mix G (chunkVal ffv C q · 16) (fun _ => zeroF) j

/-- Before its first character the group is zero; -/
theorem fill_first (ffv : FVec F S16 .f32) (q G : ℕ) :
    mix G (chunkVal ffv C q · 16) (fun _ => zeroF) = fillMid C ffv q G 0 := by
  funext j
  unfold fillMid
  by_cases h : (j 0).val / 2048 = G
  · rw [if_pos h]; unfold mix; rw [if_neg (by omega)]; rfl
  · rw [if_neg h]

/-- after its last it is done. -/
theorem fill_last (ffv : FVec F S16 .f32) (q G : ℕ) :
    fillMid C ffv q G 16 = mix (G + 1) (chunkVal ffv C q · 16) (fun _ => zeroF) := by
  funext j
  unfold fillMid
  by_cases h : (j 0).val / 2048 = G
  · rw [if_pos h]; unfold mix; rw [if_pos (by omega)]
  · rw [if_neg h]; unfold mix
    by_cases h' : (j 0).val / 2048 < G
    · rw [if_pos h', if_pos (by omega)]
    · rw [if_neg h', if_neg (by omega)]

/-- The weights of the group's sixteen words after `k` characters. -/
def weights (ffv : FVec F S16 .f32) (k : ℕ) : FVec F S16 .f32 := fun x => wt (ffv x) (fun n => charAt C n (r0 + (x 0).val)) k

theorem weights_zero (ffv : FVec F S16 .f32) : ones16 = weights C r0 ffv 0 := rfl

/-- A present character's lane, as the kernel selects by it. -/
theorem select_present {α : Type} (a b : S16.Idx → α) (k : Fin 16) :
    select (present ch) a b (lane k) = if ch (lane k) ≠ 0#32 then a (lane k) else b (lane k) := by
  show (if (BitVec.ofBool (ch (lane k) != 0#32)) = 1 then _ else _) = _
  by_cases h : ch (lane k) = 0#32
  · rw [if_neg (not_not.2 h), h]; exact if_neg (by decide)
  · rw [if_pos h, bne_iff_ne.2 h]; exact if_pos rfl

include hch in
theorem weights_succ (ffv : FVec F S16 .f32) (k : ℕ) (hk : n = 15 - k) :
    mulf (weights C r0 ffv k) (select (present ch) ffv ones16) = weights C r0 ffv (k + 1) := by
  funext x
  obtain ⟨l, rfl⟩ := exists_lane x
  show FloatOps.mulf _ (select (present ch) ffv ones16 (lane l)) = _
  rw [select_present, hch, hk]
  rfl

include hC hG hbase hch in
/-- One character of the group: the scatter adds each present character's weight at its column. -/
theorem fill_char (ffv : FVec F S16 .f32) (q k : ℕ) (hr0 : r0 = 256 * q + 16 * G) (hk : n = 15 - k)
    (h : ∀ a x, ((![addi base ch] : Fin 1 → IVec S16 32) a x).toNat < S32768.size a) :
    storeIdx (fillMid C ffv q G k) ![addi base ch] (select (present ch) (weights C r0 ffv k) zeros16) (fun _ => 1#1) true h
      = fillMid C ffv q G (k + 1) := by
  funext j
  have hinj := ix_inj C hC base ch G r0 n hG hbase hch
  have hix := ix_toNat C hC base ch G r0 n hG hbase hch
  have hlt := charAt_lt C hC n
  by_cases hjG : (j 0).val / 2048 = G
  · -- the element's word is lane `l` of this group
    obtain ⟨l, hl⟩ : ∃ l : Fin 16, l.val = (j 0).val / 128 % 16 := ⟨⟨_, Nat.mod_lt _ (by decide)⟩, rfl⟩
    have hr : 256 * q + (j 0).val / 128 = r0 + l.val := by omega
    have hmid : ∀ k, fillMid C ffv q G k j = enc (ffv (lane l)) (fun n => charAt C n (r0 + l.val)) ((j 0).val % 128) k := by
      intro k
      unfold fillMid chunkVal
      rw [if_pos hjG, hr]
      congr 3
      exact Fin.ext hl.symm
    rw [hmid (k + 1), enc, ← hk]
    by_cases hv : (charAt C n (r0 + l.val)).toNat = (j 0).val % 128
    · rw [storeIdx_hit _ _ _ _ h hinj j l (by rw [hix]; omega), hmid, if_pos hv]
      refine (if_pos rfl).trans (congrArg _ ?_)
      rw [select_present, hch]
      rfl
    · rw [storeIdx_miss _ _ _ _ h hinj j fun l' e => hv ?_, hmid, if_neg hv]
      have := hix l'
      have := hlt (r0 + l'.val)
      obtain rfl : l' = l := Fin.ext (by omega)
      omega
  · rw [storeIdx_miss _ _ _ _ h hinj j fun l' e => hjG ?_]
    · unfold fillMid; rw [if_neg hjG, if_neg hjG]
    have := hix l'
    have := hlt (r0 + l'.val)
    omega

/-! ### Clearing -/

/-- The buffer while group `G` is being cleared, `k` characters done: the groups before it zero, those after it as filled,
    the group itself zero at every column one of the first `k` characters names. -/
def clearMid (ffv : FVec F S16 .f32) (q G k : ℕ) : Vec F S32768 .f32 := fun j =>
  open Classical in
  if (j 0).val / 2048 = G then
    (if ∃ n, n < k ∧ (charAt C n (256 * q + (j 0).val / 128)).toNat = (j 0).val % 128 then zeroF else chunkVal ffv C q (j 0).val 16)
  else mix G (fun _ => zeroF) (chunkVal ffv C q · 16) j

theorem clear_first (ffv : FVec F S16 .f32) (q G : ℕ) :
    mix G (fun _ => zeroF) (chunkVal ffv C q · 16) = clearMid C ffv q G 0 := by
  funext j
  unfold clearMid
  by_cases h : (j 0).val / 2048 = G
  · rw [if_pos h, if_neg fun ⟨_, h, _⟩ => absurd h (Nat.not_lt_zero _)]; unfold mix; rw [if_neg (by omega)]
  · rw [if_neg h]

theorem clear_last (ffv : FVec F S16 .f32) (q G : ℕ) :
    clearMid C ffv q G 16 = mix (G + 1) (fun _ => zeroF) (chunkVal ffv C q · 16) := by
  funext j
  unfold clearMid
  by_cases h : (j 0).val / 2048 = G
  · have hm : mix (G + 1) (fun _ => zeroF) (chunkVal ffv C q · 16) j = zeroF := if_pos (by omega)
    rw [if_pos h, hm]
    by_cases hx : ∃ n, n < 16 ∧ (charAt C n (256 * q + (j 0).val / 128)).toNat = (j 0).val % 128
    · rw [if_pos hx]
    · rw [if_neg hx]
      exact enc_of_not_mem _ _ _ _ fun n hn e => hx ⟨n, hn, e⟩
  · rw [if_neg h]; unfold mix
    by_cases h' : (j 0).val / 2048 < G
    · rw [if_pos h', if_pos (by omega)]
    · rw [if_neg h', if_neg (by omega)]

include hC hG hbase hch in
/-- One character of the group: the scatter zeroes its column of each word. -/
theorem clear_char (ffv : FVec F S16 .f32) (q : ℕ) (hr0 : r0 = 256 * q + 16 * G)
    (h : ∀ a x, ((![addi base ch] : Fin 1 → IVec S16 32) a x).toNat < S32768.size a) :
    storeIdx (clearMid C ffv q G n) ![addi base ch] zeros16 (fun _ => 1#1) false h = clearMid C ffv q G (n + 1) := by
  funext j
  have hinj := ix_inj C hC base ch G r0 n hG hbase hch
  have hix := ix_toNat C hC base ch G r0 n hG hbase hch
  have hlt := charAt_lt C hC n
  by_cases hjG : (j 0).val / 2048 = G
  · obtain ⟨l, hl⟩ : ∃ l : Fin 16, l.val = (j 0).val / 128 % 16 := ⟨⟨_, Nat.mod_lt _ (by decide)⟩, rfl⟩
    have hr : 256 * q + (j 0).val / 128 = r0 + l.val := by omega
    by_cases hv : (charAt C n (r0 + l.val)).toNat = (j 0).val % 128
    · rw [storeIdx_hit _ _ _ _ h hinj j l (by rw [hix]; omega)]
      refine (if_neg (by decide)).trans ?_
      unfold clearMid
      rw [if_pos hjG, if_pos ⟨n, Nat.lt_succ_self n, by rw [hr]; exact hv⟩]
      rfl
    · rw [storeIdx_miss _ _ _ _ h hinj j fun l' e => hv ?_]
      · unfold clearMid
        rw [if_pos hjG, if_pos hjG, hr]
        refine if_congr ⟨fun ⟨n', h', e⟩ => ⟨n', by omega, e⟩, fun ⟨n', h', e⟩ => ⟨n', ?_, e⟩⟩ rfl rfl
        rcases Nat.lt_succ_iff_lt_or_eq.1 h' with h' | rfl
        · exact h'
        · exact absurd e hv
      have := hix l'
      have := hlt (r0 + l'.val)
      obtain rfl : l' = l := Fin.ext (by omega)
      omega
  · rw [storeIdx_miss _ _ _ _ h hinj j fun l' e => hjG ?_]
    · unfold clearMid; rw [if_neg hjG, if_neg hjG]
    have := hix l'
    have := hlt (r0 + l'.val)
    omega

end Group

/-- A buffer no group of which is done holds `B`; one all of whose groups are done holds `A`. -/
theorem mix_zero (A B : ℕ → F .f32) : mix 0 A B = fun j => B (j 0).val := funext fun _ => if_neg (Nat.not_lt_zero _)

theorem mix_all (A B : ℕ → F .f32) : mix 16 A B = fun j => A (j 0).val :=
  funext fun j => if_pos (by have : (j 0).val < 32768 := (j 0).isLt; omega)

end Cert.Proof

end
-- ==== Proof.Setup.lean ====
/-
  The launch's setting: the program as the launch theorem sees it, the resource algebra (the handshakes' rounds beside
  the transfers' counters), and a tile's thread.
-/
module

public import proofs.«01_k».proof.Defs
public import proofs.«01_k».proof.Proof.Groups
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's decided facts: its four semaphores, and that no SparseCore scratch is shared between tiles. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds library, the left factor; the transfers' counters are found in the right. -/
abbrev EH : Emb UH (MT nD τ sig (HIx 1) (Elt F) ℕ UU ℕ) := embL

/-- The thread of the tile at coordinates `i`. -/
abbrev tileThr (d : Dev nD) (i : grid0.Coords) : Thread nD τ := V d ((i 0).castLE hcore0) ((i 1).castLE hsub0)

end Cert.Proof

end
-- ==== Proof.Steps.lean ====
/-
  A tile's loops, run. `holds` is a tile's buffer with the contents a memref reads; each rule takes the buffers from
  what they hold before a gather-and-scatter chain, a group, a trip or a loop to what they hold after it.
-/
module

public import proofs.«01_k».proof.Proof.Setup
public import Idealize.ShloMosaic.Lib.Writes

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A buffer's contents through a memref -/

/-- The memref's elements, outright, at contents that read `g`. -/
def holds (c : Thread nD τ) {sp : Space} {s : Shape} {e : EltTy} (m : Memref sig c.2.kind sp s e) (g : s.Idx → Elt F e) : sProp 𝕄 :=
  iprop(∃ f : Buf (Elt F) (m.view.loc c), ⌜m.view.read (Elt F) f = g⌝ ∗ (m.view.loc c ↦[m.view.set]{fullShare} f))

section Access

variable {κ : Kind} {sp : Space} {s : Shape} {e : EltTy} (m : Memref sig κ sp s e)

theorem access_whole_emb (x : s.Idx) : (m.access (.whole s)).emb x = m.view.emb x := by
  show m.view.emb ((Rect.whole s).emb x) = m.view.emb x
  rw [Rect.emb_whole_apply]

theorem access_whole_set : (m.access (.whole s)).set = m.view.set := by
  show (m.view.slice (Rect.whole s)).set = m.view.set
  ext j
  simp only [View.set, Finset.mem_map, Finset.mem_univ, true_and]
  exact ⟨fun ⟨x, hx⟩ => ⟨x, (access_whole_emb m x).symm.trans hx⟩, fun ⟨x, hx⟩ => ⟨x, (access_whole_emb m x).trans hx⟩⟩

theorem access_whole_read (f : m.view.ty.Contents (Elt F)) : (m.access (.whole s)).read (Elt F) f = m.view.read (Elt F) f := by
  funext x
  rw [View.read_apply, View.read_apply]
  exact congrArg (fun j => cast _ (f j)) (access_whole_emb m x)

end Access

section Steps

variable (d : Dev nD) (i : grid0.Coords)
variable (chars : Memref sig .scVector .vmem S16x1024 .i32) (buf : Memref sig .scVector .vmem S32768 .f32)

/-- What a tile's program must do from here. -/
abbrev run {α : Type} (p : Tile F i α) (Q : α → sProp 𝕄) : sProp 𝕄 :=
  wp frame (wpE (defs₀ (F := F)) 𝒱₀ (tileThr d i) none) Set.univ p Q

/-- An assumption that holds is passed. -/
theorem run_assume {α : Type} {P : Prop} {dec : Decidable P} (h : P) (k : PLift P → Tile F i α) (Q : α → sProp 𝕄) :
    run d i (.op (.assume P dec) k) Q = run d i (k ⟨h⟩) Q :=
  wp_assume_of (defs := defs₀ (F := F)) 𝒱₀ (tileThr d i) none Set.univ h

/-- A gather reads the table and leaves it. -/
theorem run_gather {α : Type} {Q : α → sProp 𝕄} (C : Vec F S16x1024 .i32) (idxs : Fin 2 → IVec S16 32) (h : ∀ a x, (idxs a x).toNat < S16x1024.size a)
    (k : Vec F S16 .i32 → Tile F i α) :
    holds (tileThr d i) chars C
      ⊢ iprop((holds (tileThr d i) chars C -∗ run d i (k (loadIdx C idxs h)) Q)
        -∗ run d i (SparseCore.vectorLoadIdx chars idxs h (View.loads_vmem h_S16x1024) >>= k) Q) := by
  unfold holds
  iintro ⟨%f, %hf, H⟩ Hk
  iapply (SparseCore.wp_vectorLoadIdx (defs := defs₀ (F := F)) 𝒱₀ (tileThr d i) none Set.univ (base := chars) (f := f)
    (q := fullShare) (k := k) (access_whole_set chars).subset) $$ H
  iintro H
  rw [access_whole_read, hf]
  iapply Hk
  iexists f
  isplitr
  · ipureintro; exact hf
  · iexact H

/-- A scatter leaves the buffer at the scatter of what it held. -/
theorem run_scatter {α : Type} {Q : α → sProp 𝕄} (g : Vec F S32768 .f32) (ix : IVec S16 32) (v : Vec F S16 .f32) (add : Bool)
    (h : ∀ a x, ((![ix] : Fin 1 → IVec S16 32) a x).toNat < S32768.size a) (k : PUnit → Tile F i α) :
    holds (tileThr d i) buf g
      ⊢ iprop((holds (tileThr d i) buf (storeIdx g ![ix] v (fun _ => 1#1) add h) -∗ run d i (k ⟨⟩) Q)
        -∗ run d i (SparseCore.vectorStoreIdx buf ![ix] v (fun _ => 1#1) add h (View.stores_vmem_bits_univ h_S32768 rfl) >>= k) Q) := by
  unfold holds
  iintro ⟨%f, %hf, H⟩ Hk
  rw [← access_whole_set buf]
  iapply (SparseCore.wp_vectorStoreIdx (defs := defs₀ (F := F)) 𝒱₀ (tileThr d i) none Set.univ (base := buf) (f := f)
    (k := k)) $$ H
  iintro H
  iapply Hk
  iexists ((buf.access (.whole S32768)).write (Elt F) f (storeIdx ((buf.access (.whole S32768)).read (Elt F) f) ![ix] v (fun _ => 1#1) add h) Finset.univ)
  isplitr
  · ipureintro
    rw [← access_whole_read, View.read_write_univ, access_whole_read, hf]
  · iexact H

/-! ## A group -/

section Group

variable (C : Vec F S16x1024 .i32) (hC : ∀ x, (C x).toNat < 128) (ffv : FVec F S16 .f32)
variable (col base : IVec S16 32) (hin : ColIn col) (q G : ℕ) (hG : G < 16) (hr : 256 * q + 16 * G + 16 ≤ 1024)
variable (hcol : ∀ k : Fin 16, (col (lane k)).toNat = 256 * q + 16 * G + k.val)
variable (hbase : ∀ k : Fin 16, (base (lane k)).toNat = 2048 * G + 128 * k.val)

include hC hG hr hcol hbase

omit hC hG hr hcol hbase in
/-- A filling group's first character, at the head of a program. -/
theorem fillFrom_succ {α : Type} (k : PUnit → Tile F i α) (n : ℕ) (hn : n + 1 ≤ 16) (p : FVec F S16 .f32) :
    fillFrom i chars buf col base hin ffv (n + 1) hn p >>= k
      = SparseCore.vectorLoadIdx chars ![charRow n, col] (hin n hn) (View.loads_vmem h_S16x1024) >>= fun ch =>
        .op (.assume (k0_chk2 (addi base ch)) (k0_chk2.dec _)) fun hw =>
          SparseCore.vectorStoreIdx buf ![addi base ch] (select (present ch) p zeros16) (fun _ => 1#1) true (k0_idx2_inb _ hw.down)
            (View.stores_vmem_bits_univ h_S32768 rfl) >>= fun _ =>
          fillFrom i chars buf col base hin ffv n (Nat.le_of_succ_le hn) (mulf p (select (present ch) ffv ones16)) >>= k := rfl

omit hC hG hr hcol hbase in
/-- A clearing group's first character, at the head of a program. -/
theorem clearFrom_succ {α : Type} (k : PUnit → Tile F i α) (n : ℕ) (hn : n + 1 ≤ 16) (hm : 15 - n < 16) :
    clearFrom i chars buf col base hin (n + 1) hn >>= k
      = SparseCore.vectorLoadIdx chars ![charRow (15 - n), col] (hin (15 - n) hm) (View.loads_vmem h_S16x1024) >>= fun ch =>
        .op (.assume (k0_chk2 (addi base ch)) (k0_chk2.dec _)) fun hw =>
          SparseCore.vectorStoreIdx buf ![addi base ch] zeros16 (fun _ => 1#1) false (k0_idx2_inb _ hw.down)
            (View.stores_vmem_bits_univ h_S32768 rfl) >>= fun _ =>
          clearFrom i chars buf col base hin n (Nat.le_of_succ_le hn) >>= k := rfl

/-- The characters from the `n`-th down to the first, run: the group's buffer goes from what the others left to all
    sixteen's. -/
theorem run_fillFrom {α : Type} {Q : α → sProp 𝕄} (k : PUnit → Tile F i α) (n : ℕ) : ∀ (hn : n ≤ 16),
    iprop(holds (tileThr d i) chars C ∗ holds (tileThr d i) buf (fillMid C ffv q G (16 - n)))
      ⊢ iprop((holds (tileThr d i) chars C ∗ holds (tileThr d i) buf (fillMid C ffv q G 16) -∗ run d i (k ⟨⟩) Q)
        -∗ run d i (fillFrom i chars buf col base hin ffv n hn (weights C (256 * q + 16 * G) ffv (16 - n)) >>= k) Q) := by
  induction n with
  | zero =>
    intro hn
    iintro H Hk
    iapply Hk
    iexact H
  | succ n ih =>
    intro hn
    have hn' : n < 16 := hn
    have hch : ∀ l : Fin 16, loadIdx C ![charRow n, col] (hin n hn) (lane l) = charAt C n (256 * q + 16 * G + l.val) :=
      load_char C col hin _ hr hcol n hn'
    have hok := ix_ok C hC base (loadIdx C ![charRow n, col] (hin n hn)) G _ n hG hbase hch
    rw [fillFrom_succ]
    iintro ⟨Hc, Hb⟩ Hk
    iapply (run_gather d i chars C ![charRow n, col] (hin n hn) _) $$ Hc
    iintro Hc
    rw [run_assume d i hok]
    iapply (run_scatter d i buf _ _ _ true (k0_idx2_inb _ hok) _) $$ Hb
    iintro Hb
    rw [fill_char C hC base _ G _ n hG hbase hch ffv q (16 - (n + 1)) rfl (by omega) _,
      weights_succ C _ _ n hch ffv (16 - (n + 1)) (by omega), show 16 - (n + 1) + 1 = 16 - n by omega]
    iapply (ih (Nat.le_of_succ_le hn)) $$ [Hc Hb]
    · isplitl [Hc] <;> iassumption
    iexact Hk

/-- The characters from the `16 - n`-th up to the last, each writing its zero. -/
theorem run_clearFrom {α : Type} {Q : α → sProp 𝕄} (k : PUnit → Tile F i α) (n : ℕ) : ∀ (hn : n ≤ 16),
    iprop(holds (tileThr d i) chars C ∗ holds (tileThr d i) buf (clearMid C ffv q G (16 - n)))
      ⊢ iprop((holds (tileThr d i) chars C ∗ holds (tileThr d i) buf (clearMid C ffv q G 16) -∗ run d i (k ⟨⟩) Q)
        -∗ run d i (clearFrom i chars buf col base hin n hn >>= k) Q) := by
  induction n with
  | zero =>
    intro hn
    iintro H Hk
    iapply Hk
    iexact H
  | succ n ih =>
    intro hn
    have hm : 15 - n < 16 := by omega
    have hch : ∀ l : Fin 16, loadIdx C ![charRow (15 - n), col] (hin (15 - n) hm) (lane l) = charAt C (15 - n) (256 * q + 16 * G + l.val) :=
      load_char C col hin _ hr hcol (15 - n) hm
    have hok := ix_ok C hC base (loadIdx C ![charRow (15 - n), col] (hin (15 - n) hm)) G _ (15 - n) hG hbase hch
    rw [clearFrom_succ i chars buf col base hin k n hn hm]
    iintro ⟨Hc, Hb⟩ Hk
    iapply (run_gather d i chars C ![charRow (15 - n), col] (hin (15 - n) hm) _) $$ Hc
    iintro Hc
    rw [run_assume d i hok]
    iapply (run_scatter d i buf _ _ _ false (k0_idx2_inb _ hok) _) $$ Hb
    iintro Hb
    rw [show 16 - (n + 1) = 15 - n by omega, clear_char C hC base _ G _ (15 - n) hG hbase hch ffv q rfl _,
      show 15 - n + 1 = 16 - n by omega]
    iapply (ih (Nat.le_of_succ_le hn)) $$ [Hc Hb]
    · isplitl [Hc] <;> iassumption
    iexact Hk

include hin

omit hC hG hr hcol hbase hin in
theorem fillGroup_bind (dec : Decidable (FillOk col)) {α : Type} (k : PUnit → Tile F i α) :
    fillGroup i chars buf ffv col base dec >>= k
      = .op (.assume (FillOk col) dec) fun hw => fillFrom i chars buf col base ((FillOk.iff col).1 hw.down) ffv 16 le_rfl ones16 >>= k := rfl

/-- A filling group adds its sixteen words to the done ones. -/
theorem run_fillGroup (dec : Decidable (FillOk col)) {α : Type} {Q : α → sProp 𝕄} (k : PUnit → Tile F i α) :
    iprop(holds (tileThr d i) chars C ∗ holds (tileThr d i) buf (mix G (chunkVal ffv C q · 16) fun _ => zeroF))
      ⊢ iprop((holds (tileThr d i) chars C ∗ holds (tileThr d i) buf (mix (G + 1) (chunkVal ffv C q · 16) fun _ => zeroF) -∗ run d i (k ⟨⟩) Q)
        -∗ run d i (fillGroup i chars buf ffv col base dec >>= k) Q) := by
  have h := run_fillFrom d i chars buf C hC ffv col base hin q G hG hr hcol hbase (Q := Q) k 16 le_rfl
  rw [Nat.sub_self, ← fill_first, fill_last, ← weights_zero] at h
  rw [fillGroup_bind, run_assume d i ((FillOk.iff col).2 hin)]
  exact h

omit hC hG hr hcol hbase hin in
theorem clearGroup_bind (dec : Decidable (ClearOk col)) {α : Type} (k : PUnit → Tile F i α) :
    clearGroup i chars buf col base dec >>= k
      = .op (.assume (ClearOk col) dec) fun hw => clearFrom i chars buf col base ((ClearOk.iff col).1 hw.down) 16 le_rfl >>= k := rfl

/-- A clearing group takes its sixteen words back to zero. -/
theorem run_clearGroup (dec : Decidable (ClearOk col)) {α : Type} {Q : α → sProp 𝕄} (k : PUnit → Tile F i α) :
    iprop(holds (tileThr d i) chars C ∗ holds (tileThr d i) buf (mix G (fun _ => zeroF) (chunkVal ffv C q · 16)))
      ⊢ iprop((holds (tileThr d i) chars C ∗ holds (tileThr d i) buf (mix (G + 1) (fun _ => zeroF) (chunkVal ffv C q · 16)) -∗ run d i (k ⟨⟩) Q)
        -∗ run d i (clearGroup i chars buf col base dec >>= k) Q) := by
  have h := run_clearFrom d i chars buf C hC ffv col base hin q G hG hr hcol hbase (Q := Q) k 16 le_rfl
  rw [Nat.sub_self, ← clear_first, clear_last] at h
  rw [clearGroup_bind, run_assume d i ((ClearOk.iff col).2 hin)]
  exact h

end Group

/-! ## A trip -/

section Trip

variable (C : Vec F S16x1024 .i32) (hC : ∀ x, (C x).toNat < 128) (ffv : FVec F S16 .f32) (q : Fin 4) (t : Fin 8)
include hC

omit hC in
theorem fillTrip_eq (c : BitVec 32) (t : ℕ) :
    (fillTrip i chars buf ffv c t : Tile F i PUnit)
      = fillGroup i chars buf ffv (colOf c 0#32 t) (baseOf 0#32 t) (k0_chk1.dec _ _ _ _ _ _ _ _ _ _ _ _ _ _ _ _ _) >>= fun _ =>
        fillGroup i chars buf ffv (colOf c 1#32 t) (baseOf 1#32 t) (k0_chk1.dec _ _ _ _ _ _ _ _ _ _ _ _ _ _ _ _ _) >>= fun _ => .ret ⟨⟩ :=
  congrArg (Prog.bind _) (funext fun _ => (Prog.bind_pure _).symm)

/-- Trip `t` of a filling loop does groups `2 t` and `2 t + 1`. -/
theorem run_fillTrip :
    iprop(holds (tileThr d i) chars C ∗ holds (tileThr d i) buf (mix (2 * t.val) (chunkVal ffv C q.val · 16) fun _ => zeroF))
      ⊢ run d i (fillTrip i chars buf ffv (BitVec.ofNat 32 (256 * q.val)) t.val) fun _ =>
        iprop(holds (tileThr d i) chars C ∗ holds (tileThr d i) buf (mix (2 * (t.val + 1)) (chunkVal ffv C q.val · 16) fun _ => zeroF)) := by
  have hc : ∀ (h : Fin 2) (k : Fin 16), (colOf (BitVec.ofNat 32 (256 * q.val)) (BitVec.ofNat 32 h.val) t.val (lane k)).toNat
      = 256 * q.val + 16 * (2 * t.val + h.val) + k.val := fun h k => colOf_toNat q h t k
  rw [fillTrip_eq]
  iintro H
  iapply (run_fillGroup d i chars buf C hC ffv (colOf (BitVec.ofNat 32 (256 * q.val)) 0#32 t.val) (baseOf 0#32 t.val)
    (colIn q 0 t) q.val (2 * t.val) (by omega) (by omega) (hc 0) (baseOf_toNat 0 t) _ _) $$ H
  iintro H
  iapply (run_fillGroup d i chars buf C hC ffv (colOf (BitVec.ofNat 32 (256 * q.val)) 1#32 t.val) (baseOf 1#32 t.val)
    (colIn q 1 t) q.val (2 * t.val + 1) (by omega) (by omega) (hc 1) (baseOf_toNat 1 t) _ (fun _ => .ret ⟨⟩)) $$ H
  iintro H
  rw [run, wp_ret]
  imodintro
  iexact H

omit hC in
theorem clearTrip_eq (c : BitVec 32) (t : ℕ) :
    (clearTrip i chars buf c t : Tile F i PUnit)
      = clearGroup i chars buf (colOf c 0#32 t) (baseOf 0#32 t) (k0_chk69.dec _ _ _ _ _ _ _ _ _ _ _ _ _ _ _ _ _) >>= fun _ =>
        clearGroup i chars buf (colOf c 1#32 t) (baseOf 1#32 t) (k0_chk69.dec _ _ _ _ _ _ _ _ _ _ _ _ _ _ _ _ _) >>= fun _ => .ret ⟨⟩ :=
  congrArg (Prog.bind _) (funext fun _ => (Prog.bind_pure _).symm)

/-- Trip `t` of a clearing loop does groups `2 t` and `2 t + 1`. -/
theorem run_clearTrip :
    iprop(holds (tileThr d i) chars C ∗ holds (tileThr d i) buf (mix (2 * t.val) (fun _ => zeroF) (chunkVal ffv C q.val · 16)))
      ⊢ run d i (clearTrip i chars buf (BitVec.ofNat 32 (256 * q.val)) t.val) fun _ =>
        iprop(holds (tileThr d i) chars C ∗ holds (tileThr d i) buf (mix (2 * (t.val + 1)) (fun _ => zeroF) (chunkVal ffv C q.val · 16))) := by
  have hc : ∀ (h : Fin 2) (k : Fin 16), (colOf (BitVec.ofNat 32 (256 * q.val)) (BitVec.ofNat 32 h.val) t.val (lane k)).toNat
      = 256 * q.val + 16 * (2 * t.val + h.val) + k.val := fun h k => colOf_toNat q h t k
  rw [clearTrip_eq]
  iintro H
  iapply (run_clearGroup d i chars buf C hC ffv (colOf (BitVec.ofNat 32 (256 * q.val)) 0#32 t.val) (baseOf 0#32 t.val)
    (colIn q 0 t) q.val (2 * t.val) (by omega) (by omega) (hc 0) (baseOf_toNat 0 t) _ _) $$ H
  iintro H
  iapply (run_clearGroup d i chars buf C hC ffv (colOf (BitVec.ofNat 32 (256 * q.val)) 1#32 t.val) (baseOf 1#32 t.val)
    (colIn q 1 t) q.val (2 * t.val + 1) (by omega) (by omega) (hc 1) (baseOf_toNat 1 t) _ (fun _ => .ret ⟨⟩)) $$ H
  iintro H
  rw [run, wp_ret]
  imodintro
  iexact H

end Trip

end Steps

end Cert.Proof

end
-- ==== Proof.Zero.lean ====
/-
  The loop that zeroes the two row buffers. A trip stores eight rows of sixteen zeros into each; `zeroed n` is a buffer
  whose first `n` elements are zero.
-/
module

public import proofs.«01_k».proof.Proof.Steps

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Zero

variable (d : Dev nD) (i : grid0.Coords) (t : Fin k0_t1_loop.trips)
variable (a7 a8 : Memref sig .scVector .vmem S32768 .f32)

/-- The sixteen elements the `r`-th store of trip `t` writes. -/
abbrev zRect (r : Fin 8) : Rect S32768 := Rect.unit (s := S32768) (k0_off2 t (BitVec.ofNat 32 (16 * r.val))) S16.size (k0_off2_inb t r)

/-- The last `n` of a trip's eight pairs of stores; each store follows a load whose value nothing reads. -/
def zeroFrom : (n : ℕ) → n ≤ 8 → Tile F i PUnit
  | 0, _ => pure ⟨⟩
  | n + 1, h => do
    let _ ← Prog.lift (.load a7 (zRect t ⟨7 - n, by omega⟩).toLoadRect (View.loadsAt_vmem h_S16))
    Prog.lift (.store a7 (zRect t ⟨7 - n, by omega⟩) zeros16 Finset.univ (View.stores_vmem_bits_univ h_S16 rfl) (.inl rfl))
    let _ ← Prog.lift (.load a8 (zRect t ⟨7 - n, by omega⟩).toLoadRect (View.loadsAt_vmem h_S16))
    Prog.lift (.store a8 (zRect t ⟨7 - n, by omega⟩) zeros16 Finset.univ (View.stores_vmem_bits_univ h_S16 rfl) (.inl rfl))
    zeroFrom n (Nat.le_of_succ_le h)

section Printed

variable (arg2 : Memref sig .scVector .hbm S16 .f32) (harg2 : arg2.IsWhole) (arg3 : Memref sig .scVector .hbm S16x16x2048 .i32) (harg3 : arg3.IsWhole)
  (arg4 : Memref sig .scVector .hbm S4194304 .f32) (harg4 : arg4.IsWhole) (arg5 : Memref sig .scVector .vmem S16 .f32) (harg5 : arg5.IsWhole)
  (arg6 : Memref sig .scVector .vmem S16x1024 .i32) (harg6 : arg6.IsWhole) (harg7 : a7.IsWhole)
  (harg8 : a8.IsWhole) (arg9 arg10 v84_r0 v84_r1 : DmaSems sig S_)

/-- The printed trip of the zeroing loop. -/
theorem t1_eq :
    k0_t1_body (F := F) i arg2 harg2 arg3 harg3 arg4 harg4 arg5 harg5 arg6 harg6 a7 harg7 a8 harg8 arg9 arg10 v84_r0 v84_r1 t ()
      = zeroFrom i t a7 a8 8 le_rfl := rfl

end Printed

/-- A buffer whose first `n` elements are zero. -/
def zeroed (m : Memref sig .scVector .vmem S32768 .f32) (n : ℕ) : sProp 𝕄 :=
  iprop(∃ g : Vec F S32768 .f32, ⌜∀ j, (j 0).val < n → g j = zeroF⌝ ∗ holds (tileThr d i) m g)

/-- A store of sixteen zeros, after a load of the same elements, extends the zeroed part by sixteen. -/
theorem run_zero {α : Type} {Q : α → sProp 𝕄} (m : Memref sig .scVector .vmem S32768 .f32) (r : Fin 8) (n : ℕ) (hn : n = 128 * t.val + 16 * r.val)
    (k : PUnit → Tile F i α) :
    zeroed d i m n
      ⊢ iprop((zeroed d i m (n + 16) -∗ run d i (k ⟨⟩) Q)
        -∗ run d i (.op (.load m (zRect t r).toLoadRect (View.loadsAt_vmem h_S16)) fun _ =>
            .op (.store m (zRect t r) zeros16 Finset.univ (View.stores_vmem_bits_univ h_S16 rfl) (.inl rfl)) k) Q) := by
  unfold zeroed holds
  iintro ⟨%g, %hg, %f, %hf, H⟩ Hk
  iapply (wp_load (defs := defs₀ (F := F)) 𝒱₀ (tileThr d i) none Set.univ (m := m) (S := m.view.set) (View.setOn_subset_set _ _)) $$ H
  iintro H
  iapply (wp_store (defs := defs₀ (F := F)) 𝒱₀ (tileThr d i) none Set.univ (m := m) (r := zRect t r) (Mk := Finset.univ) (S := m.view.set)
    (Memref.setOn_access_subset _ _ _)) $$ H
  iintro H
  iapply Hk
  iexists (m.view.read (Elt F) (m.view.writes (Elt F) f [⟨zRect t r, zeros16⟩]))
  isplitr
  · ipureintro
    intro j hj
    by_cases h : j ∈ (zRect t r).set
    · obtain ⟨x, rfl⟩ := (zRect t r).exists_idx_of_mem h
      exact View.read_writes_cons_emb _ _ _ _ _ _
    · rw [View.read_writes_cons_miss (m.view) f ⟨zRect t r, zeros16⟩ [] j h, View.writes_nil, hf]
      refine hg j ?_
      by_contra hlt
      refine h (Rect.mem_set_unit.2 fun a => ?_)
      rw [k0_off2_eq]
      obtain rfl := Fin.eq_zero a
      subst hn
      show 128 * t.val + 16 * r.val ≤ (j 0).val ∧ (j 0).val < 128 * t.val + 16 * r.val + 16
      omega
  · iexists (m.view.writes (Elt F) f [⟨zRect t r, zeros16⟩])
    isplitr
    · ipureintro; rfl
    · iexact H

/-- The last `n` pairs of stores. -/
theorem run_zeroFrom (n : ℕ) : ∀ (hn : n ≤ 8),
    iprop(zeroed d i a7 (128 * t.val + 16 * (8 - n)) ∗ zeroed d i a8 (128 * t.val + 16 * (8 - n)))
      ⊢ run d i (zeroFrom i t a7 a8 n hn) fun _ =>
        (iprop(zeroed d i a7 (128 * (t.val + 1)) ∗ zeroed d i a8 (128 * (t.val + 1))) : sProp 𝕄) := by
  induction n with
  | zero =>
    intro hn
    rw [show zeroFrom i t a7 a8 0 hn = (.ret ⟨⟩ : Tile F i PUnit) from rfl, run, wp_ret,
      show 128 * t.val + 16 * (8 - 0) = 128 * (t.val + 1) by omega]
    iintro H
    imodintro
    iexact H
  | succ n ih =>
    intro hn
    have hr : (7 - n) < 8 := by omega
    have e : 128 * t.val + 16 * (8 - (n + 1)) = 128 * t.val + 16 * (⟨7 - n, hr⟩ : Fin 8).val := by
      show _ = 128 * t.val + 16 * (7 - n); omega
    have e' : 128 * t.val + 16 * (8 - (n + 1)) + 16 = 128 * t.val + 16 * (8 - n) := by omega
    show _ ⊢ run d i (.op (.load a7 (zRect t ⟨7 - n, hr⟩).toLoadRect (View.loadsAt_vmem h_S16)) fun _ =>
      .op (.store a7 (zRect t ⟨7 - n, hr⟩) zeros16 Finset.univ (View.stores_vmem_bits_univ h_S16 rfl) (.inl rfl)) fun _ =>
      .op (.load a8 (zRect t ⟨7 - n, hr⟩).toLoadRect (View.loadsAt_vmem h_S16)) fun _ =>
      .op (.store a8 (zRect t ⟨7 - n, hr⟩) zeros16 Finset.univ (View.stores_vmem_bits_univ h_S16 rfl) (.inl rfl)) fun _ =>
      zeroFrom i t a7 a8 n (Nat.le_of_succ_le hn)) _
    iintro ⟨H7, H8⟩
    iapply (run_zero d i t a7 ⟨7 - n, hr⟩ _ e _) $$ H7
    iintro H7
    iapply (run_zero d i t a8 ⟨7 - n, hr⟩ _ e _) $$ H8
    iintro H8
    rw [e']
    iapply (ih (Nat.le_of_succ_le hn))
    isplitl [H7] <;> iassumption

end Zero

end Cert.Proof

end
-- ==== Proof.Copies.lean ====
/-
  A tile's copies and loops, run. A copy into a buffer lands what its source reads; a copy out of a buffer is in flight
  (`sent`) from its issue to its wait, and lands what the buffer held when it was issued; a loop takes a buffer from one
  chunk's contents to the next's.
-/
module

public import proofs.«01_k».proof.Proof.Zero
public import Idealize.ShloMosaic.Lib.Transfers

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

section Copies

variable (d : Dev nD) (i : grid0.Coords) (O : CellTallies nD τ sig (HIx 1)) (W : Waits sig (HIx 1))

/-- The tile owes what it owed, its own waits aside. -/
def owing : sProp 𝕄 := iprop(∃ W', ⌜∀ p ∈ W', p ∈ W ∨ p.2 = none⌝ ∗ owes (tileThr d i) O W')

/-- A wait on a copy in flight hands back what the copy delivers. -/
theorem run_wait {α : Type} {Q : α → sProp 𝕄} (hO : ∀ g, O g none = 0) {sp sp' : Space} {s s' : Shape} {e e' : EltTy} (sem : DmaSem sig)
    (srcw : Memref sig .scVector sp' s' e') (dstw : Memref sig .scVector sp s e) (hsrc : srcw.view.WordExact) (hdst : dstw.view.WordExact)
    (N : ℕ) (hN : dstw.view.dmaCredit = N) (D : sProp 𝕄) (k : PUnit → Tile F i α) :
    iprop(levAts (K (F := F)).L (K (F := F)).lev ∗ Flight countersEmb (tileThr d i) (.dma sem) none N D ∗ owing d i O W)
      ⊢ iprop((iprop(D ∗ semVal (tileThr d i, .dma sem) 0 ∗ owing d i O W) -∗ run d i (k ⟨⟩) Q)
        -∗ run d i (.op (.waitDma2 sem srcw dstw hsrc hdst) k) Q) := by
  unfold owing
  iintro ⟨#Hlv, HF, %W', %hW', HO⟩ Hk
  iapply (wp_waitLocalO countersEmb 𝒱₀ (tileThr d i) none none hN) $$ [HF HO]
  · isplitl [HF]; · iexact HF
    isplitl [HO]; · iexact HO
    iapply ((K (F := F)).mayWait_none (SemLoc.dma sem) hO); iexact Hlv
  iintro ⟨HD, Hs, HO⟩
  iapply Hk
  isplitl [HD]; · iexact HD
  isplitl [Hs]; · iexact Hs
  iexists (insert (SemLoc.dma sem, none) W')
  isplitr
  · ipureintro
    intro p hp
    rcases Finset.mem_insert.mp hp with rfl | hp
    · exact .inr rfl
    · exact hW' p hp
  · iexact HO

/-- A copy into a buffer and its wait: the buffer holds what the source reads, and the source's share is back. -/
theorem run_fetch {α : Type} {Q : α → sProp 𝕄} (hO : ∀ g, O g none = 0) {s : Shape} {e : EltTy} (sem : DmaSem sig)
    (src : Memref sig .scVector .hbm s e) (dst : Memref sig .scVector .vmem s e) (hsrc : src.view.WordExact) (hdst : dst.view.WordExact)
    (hsem : DmaTarget.Typed (nD := nD) .hbm (SemLoc.dma sem) (DmaTarget.here (p := (tileThr d i).2) dst)) (hs : 0 < s.numel)
    (q : PosShare TreeShare) (fs : Buf (Elt F) (src.view.loc (tileThr d i))) (g : s.Idx → Elt F e) (k : PUnit → Tile F i α) :
    iprop(levAts (K (F := F)).L (K (F := F)).lev ∗ (src.view.loc (tileThr d i) ↦[src.view.set]{q} fs) ∗ holds (tileThr d i) dst g
        ∗ semVal (tileThr d i, .dma sem) 0 ∗ owing d i O W)
      ⊢ iprop((iprop((src.view.loc (tileThr d i) ↦[src.view.set]{q} fs) ∗ holds (tileThr d i) dst (src.view.read (Elt F) fs)
            ∗ semVal (tileThr d i, .dma sem) 0 ∗ owing d i O W) -∗ run d i (k ⟨⟩) Q)
        -∗ run d i (.op (.enqueueDma src (.here dst) (.dma sem) hsrc hdst hsem) fun _ => .op (.waitDma2 sem src dst hsrc hdst) k) Q) := by
  unfold holds
  iintro ⟨#Hlv, Hs, ⟨%f, -, Hd⟩, Hv, HO⟩ Hk
  iapply (wp_dmaLocal countersEmb 𝒱₀ (tileThr d i) none none dst.view.dmaCredit rfl (View.dmaCredit_pos _ hs) subset_rfl) $$ [Hs Hd Hv]
  · isplitl [Hs]; · iexact Hs
    isplitl [Hd]; · iexact Hd
    iexact Hv
  iintro HF
  iapply (run_wait d i O W hO sem src dst hsrc hdst _ rfl _ k) $$ [HF HO]
  · isplitr; · iexact Hlv
    isplitl [HF] <;> iassumption
  iintro ⟨⟨Hd, Hs⟩, Hv, HO⟩
  iapply Hk
  isplitl [Hs]; · iexact Hs
  isplitl [Hd]
  · iexists (dst.view.write (Elt F) f (src.view.read (Elt F) fs) Finset.univ)
    isplitr
    · ipureintro; exact View.read_write_univ _ _
    · iexact Hd
  isplitl [Hv] <;> iassumption

/-- A copy of the buffer at contents `g` to `dst`, in flight. -/
def sent (sem : DmaSem sig) (buf : Memref sig .scVector .vmem S32768 .f32) (dst : Memref sig .scVector .hbm S32768 .f32)
    (g : Vec F S32768 .f32) (fd : Buf (Elt F) (dst.view.loc (tileThr d i))) : sProp 𝕄 :=
  iprop(∃ f : Buf (Elt F) (buf.view.loc (tileThr d i)), ⌜buf.view.read (Elt F) f = g⌝
    ∗ Flight countersEmb (tileThr d i) (.dma sem) none dst.view.dmaCredit
        iprop((dst.view.loc (tileThr d i) ↦[dst.view.set]{fullShare} dst.view.write (Elt F) fd (buf.view.read (Elt F) f) Finset.univ)
          ∗ (buf.view.loc (tileThr d i) ↦[buf.view.set]{fullShare} f)))

/-- The issue of a copy out. -/
theorem run_send {α : Type} {Q : α → sProp 𝕄} (sem : DmaSem sig) (buf : Memref sig .scVector .vmem S32768 .f32)
    (dst : Memref sig .scVector .hbm S32768 .f32) (hbuf : buf.view.WordExact) (hdst : dst.view.WordExact)
    (hsem : DmaTarget.Typed (nD := nD) .vmem (SemLoc.dma sem) (DmaTarget.here (p := (tileThr d i).2) dst)) (g : Vec F S32768 .f32)
    (fd : Buf (Elt F) (dst.view.loc (tileThr d i))) (k : PUnit → Tile F i α) :
    iprop(holds (tileThr d i) buf g ∗ (dst.view.loc (tileThr d i) ↦[dst.view.set]{fullShare} fd) ∗ semVal (tileThr d i, .dma sem) 0)
      ⊢ iprop((sent d i sem buf dst g fd -∗ run d i (k ⟨⟩) Q)
        -∗ run d i (.op (.enqueueDma buf (.here dst) (.dma sem) hbuf hdst hsem) k) Q) := by
  unfold holds sent
  iintro ⟨⟨%f, %hf, Hb⟩, Hd, Hv⟩ Hk
  iapply (wp_dmaLocal countersEmb 𝒱₀ (tileThr d i) none none dst.view.dmaCredit rfl (View.dmaCredit_pos _ (by decide)) subset_rfl) $$ [Hb Hd Hv]
  · isplitl [Hb]; · iexact Hb
    isplitl [Hd]; · iexact Hd
    iexact Hv
  iintro HF
  iapply Hk
  iexists f
  isplitr
  · ipureintro; exact hf
  · iexact HF

/-- The wait of a copy out: the destination holds what the buffer held, and the buffer is back. -/
theorem run_land {α : Type} {Q : α → sProp 𝕄} (hO : ∀ g, O g none = 0) (sem : DmaSem sig) (buf : Memref sig .scVector .vmem S32768 .f32)
    (dst : Memref sig .scVector .hbm S32768 .f32) (hbuf : buf.view.WordExact) (hdst : dst.view.WordExact) (g : Vec F S32768 .f32)
    (fd : Buf (Elt F) (dst.view.loc (tileThr d i))) (k : PUnit → Tile F i α) :
    iprop(levAts (K (F := F)).L (K (F := F)).lev ∗ sent d i sem buf dst g fd ∗ owing d i O W)
      ⊢ iprop((iprop(holds (tileThr d i) buf g ∗ (dst.view.loc (tileThr d i) ↦[dst.view.set]{fullShare} dst.view.write (Elt F) fd g Finset.univ)
            ∗ semVal (tileThr d i, .dma sem) 0 ∗ owing d i O W) -∗ run d i (k ⟨⟩) Q)
        -∗ run d i (.op (.waitDma2 sem buf dst hbuf hdst) k) Q) := by
  unfold holds sent
  iintro ⟨#Hlv, ⟨%f, %hf, HF⟩, HO⟩ Hk
  iapply (run_wait d i O W hO sem buf dst hbuf hdst _ rfl _ k) $$ [HF HO]
  · isplitr; · iexact Hlv
    isplitl [HF] <;> iassumption
  iintro ⟨⟨Hd, Hb⟩, Hv, HO⟩
  iapply Hk
  isplitl [Hb]
  · iexists f
    isplitr
    · ipureintro; exact hf
    · iexact Hb
  rw [hf]
  isplitl [Hd]; · iexact Hd
  isplitl [Hv] <;> iassumption

end Copies

section Loops

variable (d : Dev nD) (i : grid0.Coords)
variable (chars : Memref sig .scVector .vmem S16x1024 .i32) (buf : Memref sig .scVector .vmem S32768 .f32)
variable (C : Vec F S16x1024 .i32) (hC : ∀ x, (C x).toNat < 128) (ffv : FVec F S16 .f32) (q : Fin 4)

/-- A buffer of zeros, the state every chunk is filled from. -/
abbrev blank : Vec F S32768 .f32 := fun _ => zeroF
/-- A buffer holding chunk `q` of the tile's words. -/
abbrev chunk : Vec F S32768 .f32 := fun j => chunkVal ffv C q.val (j 0).val 16

/-- A loop whose trips are a chunk's filling trips takes a blank buffer to the chunk. -/
theorem run_fill {α : Type} {Q : α → sProp 𝕄} (hC : ∀ x, (C x).toNat < 128) (l : Scf.Loop 32) (hl : l.OK) (h8 : l.trips = 8)
    (body : Fin l.trips → Unit → Tile F i Unit) (hb : ∀ t, body t () = fillTrip i chars buf ffv (BitVec.ofNat 32 (256 * q.val)) t.val)
    (k : Unit → Tile F i α) :
    iprop(holds (tileThr d i) chars C ∗ holds (tileThr d i) buf blank)
      ⊢ iprop((holds (tileThr d i) chars C ∗ holds (tileThr d i) buf (chunk C ffv q) -∗ run d i (k ()) Q)
        -∗ run d i (Scf.Loop.for l hl () body >>= k) Q) := by
  have hstep : ∀ (t : Fin l.trips) (acc : Unit),
      iprop(holds (tileThr d i) chars C ∗ holds (tileThr d i) buf (mix (2 * t.val) (chunkVal ffv C q.val · 16) fun _ => zeroF))
        ⊢ run d i (body t acc) fun _ =>
          iprop(holds (tileThr d i) chars C ∗ holds (tileThr d i) buf (mix (2 * (t.val + 1)) (chunkVal ffv C q.val · 16) fun _ => zeroF)) := by
    intro t _
    show _ ⊢ run d i (body t ()) _
    rw [hb]
    exact run_fillTrip d i chars buf C hC ffv q (Fin.cast h8 t)
  have h := Scf.wp_for_bind frame (wpE (defs₀ (F := F)) 𝒱₀ (tileThr d i) none) Set.univ l.lb l.ub l.st hl () body
    (fun n _ => iprop(holds (tileThr d i) chars C ∗ holds (tileThr d i) buf (mix (2 * n) (chunkVal ffv C q.val · 16) fun _ => zeroF)))
    hstep (kk := k) (Q := Q)
  rw [show Scf.trips l.lb l.ub l.st = 8 from h8, show 2 * 0 = 0 from rfl, show 2 * 8 = 16 from rfl, mix_zero, mix_all] at h
  refine h.trans ?_
  iintro H Hk
  iapply H
  iintro %acc
  iexact Hk

/-- A loop whose trips are the chunk's clearing trips takes the chunk back to blank. -/
theorem run_clear {α : Type} {Q : α → sProp 𝕄} (hC : ∀ x, (C x).toNat < 128) (l : Scf.Loop 32) (hl : l.OK) (h8 : l.trips = 8)
    (body : Fin l.trips → Unit → Tile F i Unit) (hb : ∀ t, body t () = clearTrip i chars buf (BitVec.ofNat 32 (256 * q.val)) t.val)
    (k : Unit → Tile F i α) :
    iprop(holds (tileThr d i) chars C ∗ holds (tileThr d i) buf (chunk C ffv q))
      ⊢ iprop((holds (tileThr d i) chars C ∗ holds (tileThr d i) buf blank -∗ run d i (k ()) Q)
        -∗ run d i (Scf.Loop.for l hl () body >>= k) Q) := by
  have hstep : ∀ (t : Fin l.trips) (acc : Unit),
      iprop(holds (tileThr d i) chars C ∗ holds (tileThr d i) buf (mix (2 * t.val) (fun _ => zeroF) (chunkVal ffv C q.val · 16)))
        ⊢ run d i (body t acc) fun _ =>
          iprop(holds (tileThr d i) chars C ∗ holds (tileThr d i) buf (mix (2 * (t.val + 1)) (fun _ => zeroF) (chunkVal ffv C q.val · 16))) := by
    intro t _
    show _ ⊢ run d i (body t ()) _
    rw [hb]
    exact run_clearTrip d i chars buf C hC ffv q (Fin.cast h8 t)
  have h := Scf.wp_for_bind frame (wpE (defs₀ (F := F)) 𝒱₀ (tileThr d i) none) Set.univ l.lb l.ub l.st hl () body
    (fun n _ => iprop(holds (tileThr d i) chars C ∗ holds (tileThr d i) buf (mix (2 * n) (fun _ => zeroF) (chunkVal ffv C q.val · 16))))
    hstep (kk := k) (Q := Q)
  rw [show Scf.trips l.lb l.ub l.st = 8 from h8, show 2 * 0 = 0 from rfl, show 2 * 8 = 16 from rfl, mix_zero, mix_all] at h
  refine h.trans ?_
  iintro H Hk
  iapply H
  iintro %acc
  iexact Hk

/-- The zeroing loop takes both buffers, whatever they hold, to blank. -/
theorem run_zeroLoop {α : Type} {Q : α → sProp 𝕄} (a7 a8 : Memref sig .scVector .vmem S32768 .f32) (g7 g8 : Vec F S32768 .f32)
    (body : Fin k0_t1_loop.trips → Unit → Tile F i Unit) (hb : ∀ t, body t () = zeroFrom i t a7 a8 8 le_rfl) (k : Unit → Tile F i α) :
    iprop(holds (tileThr d i) a7 g7 ∗ holds (tileThr d i) a8 g8)
      ⊢ iprop((holds (tileThr d i) a7 blank ∗ holds (tileThr d i) a8 blank -∗ run d i (k ()) Q)
        -∗ run d i (Scf.Loop.for k0_t1_loop k0_t1_ok () body >>= k) Q) := by
  have hstep : ∀ (t : Fin k0_t1_loop.trips) (acc : Unit),
      iprop(zeroed d i a7 (128 * t.val) ∗ zeroed d i a8 (128 * t.val))
        ⊢ run d i (body t acc) fun _ => (iprop(zeroed d i a7 (128 * (t.val + 1)) ∗ zeroed d i a8 (128 * (t.val + 1))) : sProp 𝕄) := by
    intro t _
    show _ ⊢ run d i (body t ()) _
    rw [hb]
    exact run_zeroFrom d i t a7 a8 8 le_rfl
  have h := Scf.wp_for_bind frame (wpE (defs₀ (F := F)) 𝒱₀ (tileThr d i) none) Set.univ k0_t1_loop.lb k0_t1_loop.ub k0_t1_loop.st k0_t1_ok () body
    (fun n _ => (iprop(zeroed d i a7 (128 * n) ∗ zeroed d i a8 (128 * n)) : sProp 𝕄)) hstep (kk := k) (Q := Q)
  rw [show Scf.trips k0_t1_loop.lb k0_t1_loop.ub k0_t1_loop.st = 256 by decide +kernel] at h
  have hz : ∀ g : Vec F S32768 .f32, (∀ j, (j 0).val < 128 * 256 → g j = zeroF) → g = blank :=
    fun g hg => funext fun j => hg j (j 0).isLt
  iintro ⟨H7, H8⟩ Hk
  iapply h $$ [H7 H8]
  · unfold zeroed
    isplitl [H7]
    · iexists g7; isplitr; · ipureintro; exact fun j hj => absurd hj (Nat.not_lt_zero _)
      iexact H7
    · iexists g8; isplitr; · ipureintro; exact fun j hj => absurd hj (Nat.not_lt_zero _)
      iexact H8
  iintro %acc
  unfold zeroed
  iintro ⟨⟨%z7, %hz7, H7⟩, %z8, %hz8, H8⟩
  rw [hz z7 hz7, hz z8 hz8]
  iapply Hk
  isplitl [H7] <;> iassumption

end Loops

end Cert.Proof

end
-- ==== Proof.Tile.lean ====
/-
  A tile's whole program, run: fetch the forgetting factor and the tile's characters, zero the two buffers, then fill
  and send four chunks, two in each buffer.
-/
module

public import proofs.«01_k».proof.Proof.Copies

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Slices

variable (i : grid0.Coords) (arg3 : Memref sig .scVector .hbm S16x16x2048 .i32) (arg4 : Memref sig .scVector .hbm S4194304 .f32)

/-- The tile's characters: one sentence, its sixteen character rows, half the words. -/
abbrev charsOf : Memref sig .scVector .hbm S16x1024 .i32 :=
  (arg3.slice (Rect.unit (s := S16x16x2048) (k0_off1 i) S1x16x1024.size (k0_off1_inb i)) (fun _ => rfl)).squeeze S16x1024 squeezes_S1x16x1024_S16x1024
/-- Where chunk `q` of the tile's words goes. -/
abbrev outOf (q : Fin 4) : Memref sig .scVector .hbm S32768 .f32 :=
  arg4.slice (Rect.unit (s := S4194304) (k0_off3 i (BitVec.ofNat 32 (256 * q.val))) S32768.size (k0_off3_inb i q)) (fun _ => rfl)

end Slices

section Body

variable (d : Dev nD) (i : grid0.Coords)
variable (arg2 : Memref sig .scVector .hbm S16 .f32) (harg2 : arg2.IsWhole) (arg3 : Memref sig .scVector .hbm S16x16x2048 .i32) (harg3 : arg3.IsWhole)
  (arg4 : Memref sig .scVector .hbm S4194304 .f32) (harg4 : arg4.IsWhole) (arg5 : Memref sig .scVector .vmem S16 .f32) (harg5 : arg5.IsWhole)
  (arg6 : Memref sig .scVector .vmem S16x1024 .i32) (harg6 : arg6.IsWhole) (arg7 : Memref sig .scVector .vmem S32768 .f32) (harg7 : arg7.IsWhole)
  (arg8 : Memref sig .scVector .vmem S32768 .f32) (harg8 : arg8.IsWhole) (arg9 arg10 v84_r0 v84_r1 : DmaSems sig S_)

/-- The number the printed body computes and does not use. -/
abbrev tileBase : BitVec 32 := Scalar.muli (Scalar.addi (Scalar.muli (BitVec.ofNat 32 (i 1).val) 2#32) (BitVec.ofNat 32 (i 0).val)) 1024#32

/-- The printed body from its second half on, the forgetting factor's vector in hand. -/
def tileRest (ffv : FVec F S16 .f32) : Tile F i PUnit :=
  Scf.Loop.for k0_t1_loop k0_t1_ok () (k0_t1_body i arg2 harg2 arg3 harg3 arg4 harg4 arg5 harg5 arg6 harg6 arg7 harg7 arg8 harg8 arg9 arg10 v84_r0 v84_r1) >>= fun _ =>
  Scf.Loop.for k0_t2_loop k0_t2_ok () (k0_t2_body i arg2 harg2 arg3 harg3 arg4 harg4 arg5 harg5 arg6 harg6 arg7 harg7 arg8 harg8 arg9 arg10 v84_r0 v84_r1 ffv lane16) >>= fun _ =>
  .op (.enqueueDma arg7 (.here (outOf i arg4 0)) (.dma arg9.sem) harg7.wordExact (View.wordExact_bits rfl) ⟨Or.inl rfl, trivial⟩) fun _ =>
  Scf.Loop.for k0_t3_loop k0_t3_ok () (k0_t3_body i arg2 harg2 arg3 harg3 arg4 harg4 arg5 harg5 arg6 harg6 arg7 harg7 arg8 harg8 arg9 arg10 v84_r0 v84_r1
    (tileBase i) ffv ones16 zeros16 lane16 (muli lane16 (broadcast S16 128#32)) (charRow 0) (charRow 1) (charRow 2) (charRow 3) (charRow 4) (charRow 5) (charRow 6) (charRow 7)
    (charRow 8) (charRow 9) (charRow 10) (charRow 11) (charRow 12) (charRow 13) (charRow 14) (charRow 15)) >>= fun _ =>
  .op (.enqueueDma arg8 (.here (outOf i arg4 1)) (.dma arg10.sem) harg8.wordExact (View.wordExact_bits rfl) ⟨Or.inl rfl, trivial⟩) fun _ =>
  .op (.waitDma2 arg9.sem arg7 (outOf i arg4 0) harg7.wordExact (View.wordExact_bits rfl)) fun _ =>
  Scf.Loop.for k0_t4_loop k0_t4_ok () (k0_t4_body i arg2 harg2 arg3 harg3 arg4 harg4 arg5 harg5 arg6 harg6 arg7 harg7 arg8 harg8 arg9 arg10 v84_r0 v84_r1
    (tileBase i) ffv ones16 zeros16 lane16 (muli lane16 (broadcast S16 128#32)) (charRow 0) (charRow 1) (charRow 2) (charRow 3) (charRow 4) (charRow 5) (charRow 6) (charRow 7)
    (charRow 8) (charRow 9) (charRow 10) (charRow 11) (charRow 12) (charRow 13) (charRow 14) (charRow 15)) >>= fun _ =>
  Scf.Loop.for k0_t5_loop k0_t5_ok () (k0_t5_body i arg2 harg2 arg3 harg3 arg4 harg4 arg5 harg5 arg6 harg6 arg7 harg7 arg8 harg8 arg9 arg10 v84_r0 v84_r1
    (tileBase i) ffv ones16 zeros16 lane16 (muli lane16 (broadcast S16 128#32)) (charRow 0) (charRow 1) (charRow 2) (charRow 3) (charRow 4) (charRow 5) (charRow 6) (charRow 7)
    (charRow 8) (charRow 9) (charRow 10) (charRow 11) (charRow 12) (charRow 13) (charRow 14) (charRow 15)) >>= fun _ =>
  .op (.enqueueDma arg7 (.here (outOf i arg4 2)) (.dma arg9.sem) harg7.wordExact (View.wordExact_bits rfl) ⟨Or.inl rfl, trivial⟩) fun _ =>
  .op (.waitDma2 arg10.sem arg8 (outOf i arg4 1) harg8.wordExact (View.wordExact_bits rfl)) fun _ =>
  Scf.Loop.for k0_t6_loop k0_t6_ok () (k0_t6_body i arg2 harg2 arg3 harg3 arg4 harg4 arg5 harg5 arg6 harg6 arg7 harg7 arg8 harg8 arg9 arg10 v84_r0 v84_r1
    (tileBase i) ffv ones16 zeros16 lane16 (muli lane16 (broadcast S16 128#32)) (charRow 0) (charRow 1) (charRow 2) (charRow 3) (charRow 4) (charRow 5) (charRow 6) (charRow 7)
    (charRow 8) (charRow 9) (charRow 10) (charRow 11) (charRow 12) (charRow 13) (charRow 14) (charRow 15)) >>= fun _ =>
  Scf.Loop.for k0_t7_loop k0_t7_ok () (k0_t7_body i arg2 harg2 arg3 harg3 arg4 harg4 arg5 harg5 arg6 harg6 arg7 harg7 arg8 harg8 arg9 arg10 v84_r0 v84_r1
    ffv ones16 lane16 (muli lane16 (broadcast S16 128#32)) (charRow 0) (charRow 1) (charRow 2) (charRow 3) (charRow 4) (charRow 5) (charRow 6) (charRow 7)
    (charRow 8) (charRow 9) (charRow 10) (charRow 11) (charRow 12) (charRow 13) (charRow 14) (charRow 15) 0#32) >>= fun _ =>
  .op (.enqueueDma arg8 (.here (outOf i arg4 3)) (.dma arg10.sem) harg8.wordExact (View.wordExact_bits rfl) ⟨Or.inl rfl, trivial⟩) fun _ =>
  .op (.waitDma2 arg9.sem arg7 (outOf i arg4 2) harg7.wordExact (View.wordExact_bits rfl)) fun _ =>
  .op (.waitDma2 arg10.sem arg8 (outOf i arg4 3) harg8.wordExact (View.wordExact_bits rfl)) fun _ =>
  .ret ⟨⟩

set_option maxHeartbeats 4000000 in
/-- The printed body, in one piece: the two fetches, the load, and the rest. -/
theorem body_eq :
    cc0__fofe_body (F := F) i arg2 harg2 arg3 harg3 arg4 harg4 arg5 harg5 arg6 harg6 arg7 harg7 arg8 harg8 arg9 arg10 v84_r0 v84_r1
      = .op (.enqueueDma arg2 (.here arg5) (.dma v84_r0.sem) harg2.wordExact harg5.wordExact ⟨Or.inl rfl, trivial⟩) fun _ =>
        .op (.waitDma2 v84_r0.sem arg2 arg5 harg2.wordExact harg5.wordExact) fun _ =>
        .op (.enqueueDma (charsOf i arg3) (.here arg6) (.dma v84_r1.sem) ((View.wordExact_bits rfl).reshape _ _) harg6.wordExact ⟨Or.inl rfl, trivial⟩) fun _ =>
        .op (.waitDma2 v84_r1.sem (charsOf i arg3) arg6 ((View.wordExact_bits rfl).reshape _ _) harg6.wordExact) fun _ =>
        .op (.load arg5 (Rect.unit (s := S16) ![0] S16.size inb_S16_S16_0).toLoadRect (View.loadsAt_vmem h_S16)) fun (ffv : Vec F S16 .f32) =>
        tileRest i arg2 harg2 arg3 harg3 arg4 harg4 arg5 harg5 arg6 harg6 arg7 harg7 arg8 harg8 arg9 arg10 v84_r0 v84_r1 ffv := by
  rw [cc0__fofe_body_eq_skeleton]; unfold cc0__fofe_body_skel
  rw [k0_part34_eq_skeleton, k0_part35_eq_skeleton, k0_part36_eq_skeleton]
  unfold k0_part34_skel k0_part35_skel k0_part36_skel tileRest
  simp only [Prog.lift, Prog.bind_op, Prog.bind_ret, Prog.pure_eq_ret, Prog.bind_assoc, bind_assoc]
  rfl

/-- The load of the whole forgetting-factor buffer reads what the buffer holds. -/
theorem run_load16 {α : Type} {Q : α → sProp 𝕄} (m : Memref sig .scVector .vmem S16 .f32) (g : Vec F S16 .f32) (k : Vec F S16 .f32 → Tile F i α) :
    holds (tileThr d i) m g
      ⊢ iprop((holds (tileThr d i) m g -∗ run d i (k g) Q)
        -∗ run d i (.op (.load m (Rect.unit (s := S16) ![0] S16.size inb_S16_S16_0).toLoadRect (View.loadsAt_vmem h_S16)) k) Q) := by
  unfold holds
  iintro ⟨%f, %hf, H⟩ Hk
  iapply (wp_load (defs := defs₀ (F := F)) 𝒱₀ (tileThr d i) none Set.univ (m := m) (S := m.view.set) (View.setOn_subset_set _ _)) $$ H
  iintro H
  have e : m.view.readAt (Elt F) (Rect.unit (s := S16) ![0] S16.size inb_S16_S16_0).toLoadRect f = g := by
    rw [← hf]
    funext x
    have hx : (Rect.unit (s := S16) ![0] S16.size inb_S16_S16_0).toLoadRect.idx x = x := by
      funext a
      obtain rfl := Fin.eq_zero a
      apply Fin.ext
      rw [LoadRect.idx_apply]
      show 0 + 1 * (x 0).val = (x 0).val
      omega
    show m.view.read (Elt F) f _ = _
    exact congrArg (m.view.read (Elt F) f) hx
  rw [e]
  iapply Hk
  iexists f
  isplitr
  · ipureintro; exact hf
  · iexact H

variable (O : CellTallies nD τ sig (HIx 1)) (W : Waits sig (HIx 1))
variable (C : Vec F S16x1024 .i32) (ffv : FVec F S16 .f32) (fd : Buf (Elt F) (arg4.view.loc (tileThr d i)))

/-- The four pieces of the output a tile writes, at contents `f`. -/
abbrev outAt (q : Fin 4) (f : Buf (Elt F) (arg4.view.loc (tileThr d i))) : sProp 𝕄 :=
  ((outOf i arg4 q).view.loc (tileThr d i) ↦[(outOf i arg4 q).view.set]{fullShare} f)

/-- What a tile leaves in the output's buffer where it wrote chunk `q`. -/
abbrev wrote (q : Fin 4) : Buf (Elt F) (arg4.view.loc (tileThr d i)) := (outOf i arg4 q).view.write (Elt F) fd (chunk C ffv q) Finset.univ

/-- The tile's own semaphores, at zero. -/
abbrev idle (s : DmaSems sig S_) : sProp 𝕄 := semVal (tileThr d i, .dma s.sem) 0

/-- The body from its second half on: the four chunks are written. -/
theorem run_tileRest (hO : ∀ g, O g none = 0) (hC : ∀ x, (C x).toNat < 128) (g7 g8 : Vec F S32768 .f32) {Q : PUnit → sProp 𝕄} :
    iprop(levAts (K (F := F)).L (K (F := F)).lev ∗ holds (tileThr d i) arg6 C ∗ holds (tileThr d i) arg7 g7 ∗ holds (tileThr d i) arg8 g8
        ∗ (outAt d i arg4 0 fd ∗ outAt d i arg4 1 fd ∗ outAt d i arg4 2 fd ∗ outAt d i arg4 3 fd)
        ∗ idle d i arg9 ∗ idle d i arg10 ∗ owing d i O W)
      ⊢ iprop((iprop(holds (tileThr d i) arg6 C ∗ holds (tileThr d i) arg7 (chunk C ffv 2) ∗ holds (tileThr d i) arg8 (chunk C ffv 3)
          ∗ (outAt d i arg4 0 (wrote d i arg4 C ffv fd 0) ∗ outAt d i arg4 1 (wrote d i arg4 C ffv fd 1)
            ∗ outAt d i arg4 2 (wrote d i arg4 C ffv fd 2) ∗ outAt d i arg4 3 (wrote d i arg4 C ffv fd 3))
          ∗ idle d i arg9 ∗ idle d i arg10 ∗ owing d i O W) -∗ Q ⟨⟩)
        -∗ run d i (tileRest i arg2 harg2 arg3 harg3 arg4 harg4 arg5 harg5 arg6 harg6 arg7 harg7 arg8 harg8 arg9 arg10 v84_r0 v84_r1 ffv) Q) := by
  unfold tileRest
  iintro ⟨#Hlv, Hc, H7, H8, ⟨Ho0, Ho1, Ho2, Ho3⟩, Hs9, Hs10, HO⟩ Hk
  iapply (run_zeroLoop d i arg7 arg8 g7 g8 _ (fun t => t1_eq i t arg7 arg8 arg2 harg2 arg3 harg3 arg4 harg4 arg5 harg5 arg6 harg6 harg7 harg8 arg9 arg10 v84_r0 v84_r1) _) $$ [H7 H8]
  · isplitl [H7] <;> iassumption
  iintro ⟨H7, H8⟩
  -- chunk 0 in the first buffer, sent
  iapply (run_fill d i arg6 arg7 C ffv 0 hC k0_t2_loop k0_t2_ok (by decide +kernel) _ (fun t => t2_eq i arg2 harg2 arg3 harg3 arg4 harg4 arg5 harg5 arg6 harg6 arg7 harg7 arg8 harg8 arg9 arg10 v84_r0 v84_r1 ffv t) _) $$ [Hc H7]
  · isplitl [Hc] <;> iassumption
  iintro ⟨Hc, H7⟩
  iapply (run_send d i arg9.sem arg7 (outOf i arg4 0) _ _ _ (chunk C ffv 0) fd _) $$ [H7 Ho0 Hs9]
  · isplitl [H7]; · iexact H7
    isplitl [Ho0] <;> iassumption
  iintro HF9
  -- chunk 1 in the second, sent
  iapply (run_fill d i arg6 arg8 C ffv 1 hC k0_t3_loop k0_t3_ok (by decide +kernel) _ (fun t => t3_eq i arg2 harg2 arg3 harg3 arg4 harg4 arg5 harg5 arg6 harg6 arg7 harg7 arg8 harg8 arg9 arg10 v84_r0 v84_r1 _ ffv t) _) $$ [Hc H8]
  · isplitl [Hc] <;> iassumption
  iintro ⟨Hc, H8⟩
  iapply (run_send d i arg10.sem arg8 (outOf i arg4 1) _ _ _ (chunk C ffv 1) fd _) $$ [H8 Ho1 Hs10]
  · isplitl [H8]; · iexact H8
    isplitl [Ho1] <;> iassumption
  iintro HF10
  -- the first buffer back, cleared, filled with chunk 2, sent
  iapply (run_land d i O W hO arg9.sem arg7 (outOf i arg4 0) _ _ (chunk C ffv 0) fd _) $$ [HF9 HO]
  · isplitr; · iexact Hlv
    isplitl [HF9] <;> iassumption
  iintro ⟨H7, Ho0, Hs9, HO⟩
  iapply (run_clear d i arg6 arg7 C ffv 0 hC k0_t4_loop k0_t4_ok (by decide +kernel) _ (fun t => t4_eq i arg2 harg2 arg3 harg3 arg4 harg4 arg5 harg5 arg6 harg6 arg7 harg7 arg8 harg8 arg9 arg10 v84_r0 v84_r1 _ ffv t) _) $$ [Hc H7]
  · isplitl [Hc] <;> iassumption
  iintro ⟨Hc, H7⟩
  iapply (run_fill d i arg6 arg7 C ffv 2 hC k0_t5_loop k0_t5_ok (by decide +kernel) _ (fun t => t5_eq i arg2 harg2 arg3 harg3 arg4 harg4 arg5 harg5 arg6 harg6 arg7 harg7 arg8 harg8 arg9 arg10 v84_r0 v84_r1 _ ffv t) _) $$ [Hc H7]
  · isplitl [Hc] <;> iassumption
  iintro ⟨Hc, H7⟩
  iapply (run_send d i arg9.sem arg7 (outOf i arg4 2) _ _ _ (chunk C ffv 2) fd _) $$ [H7 Ho2 Hs9]
  · isplitl [H7]; · iexact H7
    isplitl [Ho2] <;> iassumption
  iintro HF9
  -- the second buffer back, cleared, filled with chunk 3, sent
  iapply (run_land d i O W hO arg10.sem arg8 (outOf i arg4 1) _ _ (chunk C ffv 1) fd _) $$ [HF10 HO]
  · isplitr; · iexact Hlv
    isplitl [HF10] <;> iassumption
  iintro ⟨H8, Ho1, Hs10, HO⟩
  iapply (run_clear d i arg6 arg8 C ffv 1 hC k0_t6_loop k0_t6_ok (by decide +kernel) _ (fun t => t6_eq i arg2 harg2 arg3 harg3 arg4 harg4 arg5 harg5 arg6 harg6 arg7 harg7 arg8 harg8 arg9 arg10 v84_r0 v84_r1 _ ffv t) _) $$ [Hc H8]
  · isplitl [Hc] <;> iassumption
  iintro ⟨Hc, H8⟩
  iapply (run_fill d i arg6 arg8 C ffv 3 hC k0_t7_loop k0_t7_ok (by decide +kernel) _ (fun t => t7_eq i arg2 harg2 arg3 harg3 arg4 harg4 arg5 harg5 arg6 harg6 arg7 harg7 arg8 harg8 arg9 arg10 v84_r0 v84_r1 ffv t) _) $$ [Hc H8]
  · isplitl [Hc] <;> iassumption
  iintro ⟨Hc, H8⟩
  iapply (run_send d i arg10.sem arg8 (outOf i arg4 3) _ _ _ (chunk C ffv 3) fd _) $$ [H8 Ho3 Hs10]
  · isplitl [H8]; · iexact H8
    isplitl [Ho3] <;> iassumption
  iintro HF10
  -- both buffers back
  iapply (run_land d i O W hO arg9.sem arg7 (outOf i arg4 2) _ _ (chunk C ffv 2) fd _) $$ [HF9 HO]
  · isplitr; · iexact Hlv
    isplitl [HF9] <;> iassumption
  iintro ⟨H7, Ho2, Hs9, HO⟩
  iapply (run_land d i O W hO arg10.sem arg8 (outOf i arg4 3) _ _ (chunk C ffv 3) fd _) $$ [HF10 HO]
  · isplitr; · iexact Hlv
    isplitl [HF10] <;> iassumption
  iintro ⟨H8, Ho3, Hs10, HO⟩
  rw [run, wp_ret]
  imodintro
  iapply Hk
  isplitl [Hc]; · iexact Hc
  isplitl [H7]; · iexact H7
  isplitl [H8]; · iexact H8
  isplitl [Ho0 Ho1 Ho2 Ho3]
  · isplitl [Ho0]; · iexact Ho0
    isplitl [Ho1]; · iexact Ho1
    isplitl [Ho2] <;> iassumption
  isplitl [Hs9]; · iexact Hs9
  isplitl [Hs10] <;> iassumption

end Body

end Cert.Proof

end
-- ==== Proof.TileBody.lean ====
/-
  A tile's whole printed body: from a read share of the forgetting factor and of the characters and the four output
  pieces, to the pieces written.  Then the same over the memrefs the launch passes, with the tile's own buffers and
  semaphores taken out of what the launch gives it.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx mem_ownCells ownCells ownRefs ownSems0 ownBufs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Body

variable (d : Dev nD) (i : grid0.Coords)
variable (arg2 : Memref sig .scVector .hbm S16 .f32) (harg2 : arg2.IsWhole) (arg3 : Memref sig .scVector .hbm S16x16x2048 .i32) (harg3 : arg3.IsWhole)
  (arg4 : Memref sig .scVector .hbm S4194304 .f32) (harg4 : arg4.IsWhole) (arg5 : Memref sig .scVector .vmem S16 .f32) (harg5 : arg5.IsWhole)
  (arg6 : Memref sig .scVector .vmem S16x1024 .i32) (harg6 : arg6.IsWhole) (arg7 : Memref sig .scVector .vmem S32768 .f32) (harg7 : arg7.IsWhole)
  (arg8 : Memref sig .scVector .vmem S32768 .f32) (harg8 : arg8.IsWhole) (arg9 arg10 v84_r0 v84_r1 : DmaSems sig S_)
variable (O : CellTallies nD τ sig (HIx 1)) (W : Waits sig (HIx 1))
variable (q2 q3 : PosShare TreeShare) (ffb : Buf (Elt F) (arg2.view.loc (tileThr d i))) (tab : Buf (Elt F) (arg3.view.loc (tileThr d i)))
  (fd : Buf (Elt F) (arg4.view.loc (tileThr d i)))

/-- The characters a tile reads. -/
abbrev charsIn : Vec F S16x1024 .i32 := (charsOf i arg3).view.read (Elt F) tab
/-- The forgetting factor a tile reads. -/
abbrev ffIn : FVec F S16 .f32 := arg2.view.read (Elt F) ffb

/-- The whole body writes the four chunks of the codes of the characters read, and gives everything back. -/
theorem run_body (hO : ∀ g, O g none = 0) (hC : ∀ x, (charsIn d i arg3 tab x).toNat < 128) (g5 : Vec F S16 .f32) (g6 : Vec F S16x1024 .i32)
    (g7 g8 : Vec F S32768 .f32) {Q : PUnit → sProp 𝕄} :
    iprop(levAts (K (F := F)).L (K (F := F)).lev ∗ (arg2.view.loc (tileThr d i) ↦[arg2.view.set]{q2} ffb)
        ∗ ((charsOf i arg3).view.loc (tileThr d i) ↦[(charsOf i arg3).view.set]{q3} tab)
        ∗ (outAt d i arg4 0 fd ∗ outAt d i arg4 1 fd ∗ outAt d i arg4 2 fd ∗ outAt d i arg4 3 fd)
        ∗ holds (tileThr d i) arg5 g5 ∗ holds (tileThr d i) arg6 g6 ∗ holds (tileThr d i) arg7 g7 ∗ holds (tileThr d i) arg8 g8
        ∗ idle d i arg9 ∗ idle d i arg10 ∗ idle d i v84_r0 ∗ idle d i v84_r1 ∗ owing d i O W)
      ⊢ iprop((iprop((arg2.view.loc (tileThr d i) ↦[arg2.view.set]{q2} ffb)
          ∗ ((charsOf i arg3).view.loc (tileThr d i) ↦[(charsOf i arg3).view.set]{q3} tab)
          ∗ (outAt d i arg4 0 (wrote d i arg4 (charsIn d i arg3 tab) (ffIn d i arg2 ffb) fd 0) ∗ outAt d i arg4 1 (wrote d i arg4 (charsIn d i arg3 tab) (ffIn d i arg2 ffb) fd 1)
            ∗ outAt d i arg4 2 (wrote d i arg4 (charsIn d i arg3 tab) (ffIn d i arg2 ffb) fd 2) ∗ outAt d i arg4 3 (wrote d i arg4 (charsIn d i arg3 tab) (ffIn d i arg2 ffb) fd 3))
          ∗ holds (tileThr d i) arg5 (ffIn d i arg2 ffb) ∗ holds (tileThr d i) arg6 (charsIn d i arg3 tab)
          ∗ holds (tileThr d i) arg7 (chunk (charsIn d i arg3 tab) (ffIn d i arg2 ffb) 2) ∗ holds (tileThr d i) arg8 (chunk (charsIn d i arg3 tab) (ffIn d i arg2 ffb) 3)
          ∗ idle d i arg9 ∗ idle d i arg10 ∗ idle d i v84_r0 ∗ idle d i v84_r1 ∗ owing d i O W) -∗ Q ⟨⟩)
        -∗ run d i (cc0__fofe_body (F := F) i arg2 harg2 arg3 harg3 arg4 harg4 arg5 harg5 arg6 harg6 arg7 harg7 arg8 harg8 arg9 arg10 v84_r0 v84_r1) Q) := by
  rw [body_eq]
  iintro ⟨#Hlv, H2, H3, Ho, H5, H6, H7, H8, Hs9, Hs10, Hr0, Hr1, HO⟩ Hk
  iapply (run_fetch d i O W hO v84_r0.sem arg2 arg5 _ _ _ (by decide) q2 ffb g5 _) $$ [H2 H5 Hr0 HO]
  · isplitr; · iexact Hlv
    isplitl [H2]; · iexact H2
    isplitl [H5]; · iexact H5
    isplitl [Hr0] <;> iassumption
  iintro ⟨H2, H5, Hr0, HO⟩
  iapply (run_fetch d i O W hO v84_r1.sem (charsOf i arg3) arg6 _ _ _ (by decide) q3 tab g6 _) $$ [H3 H6 Hr1 HO]
  · isplitr; · iexact Hlv
    isplitl [H3]; · iexact H3
    isplitl [H6]; · iexact H6
    isplitl [Hr1] <;> iassumption
  iintro ⟨H3, H6, Hr1, HO⟩
  iapply (run_load16 d i arg5 (ffIn d i arg2 ffb) _) $$ H5
  iintro H5
  iapply (run_tileRest d i arg2 harg2 arg3 harg3 arg4 harg4 arg5 harg5 arg6 harg6 arg7 harg7 arg8 harg8 arg9 arg10 v84_r0 v84_r1 O W
    (charsIn d i arg3 tab) (ffIn d i arg2 ffb) fd hO hC g7 g8) $$ [Ho H6 H7 H8 Hs9 Hs10 HO]
  · isplitr; · iexact Hlv
    isplitl [H6]; · iexact H6
    isplitl [H7]; · iexact H7
    isplitl [H8]; · iexact H8
    isplitl [Ho]; · iexact Ho
    isplitl [Hs9]; · iexact Hs9
    isplitl [Hs10] <;> iassumption
  iintro ⟨H6, H7, H8, Ho, Hs9, Hs10, HO⟩
  iapply Hk
  isplitl [H2]; · iexact H2
  isplitl [H3]; · iexact H3
  isplitl [Ho]; · iexact Ho
  isplitl [H5]; · iexact H5
  isplitl [H6]; · iexact H6
  isplitl [H7]; · iexact H7
  isplitl [H8]; · iexact H8
  isplitl [Hs9]; · iexact Hs9
  isplitl [Hs10]; · iexact Hs10
  isplitl [Hr0]; · iexact Hr0
  isplitl [Hr1] <;> iassumption

end Body

/-! ## What the launch gives a tile -/

section Own

variable (d : Dev nD) (i : grid0.Coords)

/-- A tile's processor. -/
abbrev tileProc : Proc τ := .scVector ((i 0).castLE hcore0) ((i 1).castLE hsub0)
/-- A tile's semaphore. -/
abbrev semCell (s : DmaSems sig S_) : GSem nD τ sig := (tileThr d i, .dma s.sem)

omit [FloatOps F] in
/-- The four copy semaphores are among the tile's own: they are them, at zero, and the rest. -/
theorem ownSems0_tile :
    (ownSems0 (tileThr d i) : sProp 𝕄)
      = iprop(semVal (semCell d i cc0_scratch4) 0 ∗ semVal (semCell d i cc0_scratch5) 0 ∗ semVal (semCell d i cc0_scoped0) 0 ∗ semVal (semCell d i cc0_scoped1) 0
          ∗ bigSep (((((ownCells (tileThr d i)).erase (semCell d i cc0_scratch4)).erase (semCell d i cc0_scratch5)).erase (semCell d i cc0_scoped0)).erase (semCell d i cc0_scoped1))
              fun g => semVal g 0) := by
  have own : ∀ s : DmaSems sig S_, (SemLoc.dma s.sem : SemLoc sig).isScoped .scVector = true → semCell d i s ∈ ownCells (tileThr d i) :=
    fun s h => (mem_ownCells (g := semCell d i s)).mpr ⟨rfl, h⟩
  have ne : ∀ s s' : DmaSems sig S_, (SemLoc.dma s.sem : SemLoc sig) ≠ .dma s'.sem → semCell d i s ≠ semCell d i s' :=
    fun s s' h e => h (Prod.mk.inj e).2
  have h4 := own cc0_scratch4 (by decide)
  have h5 := own cc0_scratch5 (by decide)
  have h0 := own cc0_scoped0 (by decide)
  have h1 := own cc0_scoped1 (by decide)
  unfold SparseCore.Cfg.ownSems0
  rw [SparseCore.bigSep_erase' h4, SparseCore.bigSep_erase' (Finset.mem_erase.mpr ⟨ne cc0_scratch5 cc0_scratch4 (by decide), h5⟩),
    SparseCore.bigSep_erase' (Finset.mem_erase.mpr ⟨ne cc0_scoped0 cc0_scratch5 (by decide), Finset.mem_erase.mpr ⟨ne cc0_scoped0 cc0_scratch4 (by decide), h0⟩⟩),
    SparseCore.bigSep_erase' (Finset.mem_erase.mpr ⟨ne cc0_scoped1 cc0_scoped0 (by decide), Finset.mem_erase.mpr ⟨ne cc0_scoped1 cc0_scratch5 (by decide),
      Finset.mem_erase.mpr ⟨ne cc0_scoped1 cc0_scratch4 (by decide), h1⟩⟩⟩)]

/-- A tile's scratch buffer as the launch names it. -/
abbrev ownBuf (b : Ref sig .scVector) : DevRef τ sig := (tileProc i).devRef b

omit [FloatOps F] in
/-- The four scratch buffers are among the tile's own: they are them, at some contents, and the rest. -/
theorem ownBufs_tile :
    (ownBufs (tileThr d i) : sProp 𝕄)
      = iprop((∃ f, (tileThr d i).loc cc0_scratch0 ↦{fullShare} f) ∗ (∃ f, (tileThr d i).loc cc0_scratch1 ↦{fullShare} f)
          ∗ (∃ f, (tileThr d i).loc cc0_scratch2 ↦{fullShare} f) ∗ (∃ f, (tileThr d i).loc cc0_scratch3 ↦{fullShare} f)
          ∗ bigSep (((((ownRefs (τ := τ) (tileProc i)).erase (ownBuf i cc0_scratch0)).erase (ownBuf i cc0_scratch1)).erase (ownBuf i cc0_scratch2)).erase (ownBuf i cc0_scratch3))
              fun b => iprop(∃ f, ((d, b) : Loc nD τ sig) ↦{fullShare} f)) := by
  have ne : ∀ b b' : Ref sig .scVector, b ≠ b' → ownBuf i b ≠ ownBuf i b' := fun b b' h e => h (Proc.devRef_injective _ e)
  have h0 := SparseCore.Cfg.mem_ownRefs_of_owner (p := tileProc i) (b := ownBuf i cc0_scratch0) rfl
  have h1 := SparseCore.Cfg.mem_ownRefs_of_owner (p := tileProc i) (b := ownBuf i cc0_scratch1) rfl
  have h2 := SparseCore.Cfg.mem_ownRefs_of_owner (p := tileProc i) (b := ownBuf i cc0_scratch2) rfl
  have h3 := SparseCore.Cfg.mem_ownRefs_of_owner (p := tileProc i) (b := ownBuf i cc0_scratch3) rfl
  unfold SparseCore.Cfg.ownBufs
  refine (SparseCore.bigSep_erase' h0).trans ?_
  rw [SparseCore.bigSep_erase' (Finset.mem_erase.mpr ⟨ne cc0_scratch1 cc0_scratch0 (by decide), h1⟩),
    SparseCore.bigSep_erase' (Finset.mem_erase.mpr ⟨ne cc0_scratch2 cc0_scratch1 (by decide), Finset.mem_erase.mpr ⟨ne cc0_scratch2 cc0_scratch0 (by decide), h2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), h3⟩⟩⟩)]

/-- A scratch buffer at some contents holds them. -/
theorem holds_intro (b : Ref sig .scVector) (f : Buf (Elt F) ((tileThr d i).loc b)) :
    ((tileThr d i).loc b ↦{fullShare} f : sProp 𝕄) ⊢ holds (tileThr d i) (Memref.whole b) ((Memref.whole b).view.read (Elt F) f) := by
  unfold holds
  iintro H
  iexists f
  isplitr
  · ipureintro; rfl
  · simp only [Memref.view_whole, View.set_whole]
    iexact H

/-- A scratch buffer that holds something is at some contents. -/
theorem holds_elim (b : Ref sig .scVector) (g : b.ty.shape.Idx → Elt F b.ty.elt) :
    (holds (tileThr d i) (Memref.whole b) g : sProp 𝕄) ⊢ iprop(∃ f, (tileThr d i).loc b ↦{fullShare} f) := by
  unfold holds
  iintro ⟨%f, -, H⟩
  iexists f
  simp only [Memref.view_whole, View.set_whole]
  iexact H

end Own

end Cert.Proof

end
-- ==== Proof.Pieces.lean ====
/-
  The output array as a function of the forgetting factor and the character table, and a tile's four chunks of it.
-/
module

public import proofs.«01_k».proof.Proof.TileBody
public import Idealize.ShloMosaic.Lib.ValueLayout

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Character `n` of word `w` of sentence `b` of a character table. -/
def tabAt (tab : Vec F S16x16x2048 .i32) (b n w : ℕ) : BitVec 32 :=
  if h : b < 16 ∧ n < 16 ∧ w < 2048 then tab (ix3 ⟨b, h.1⟩ ⟨n, h.2.1⟩ ⟨w, h.2.2⟩) else 0#32

/-- The whole output: element `n` is column `n % 128` of the code of word `n / 128 % 2048` of sentence `n / 262144`. -/
def outVal (ffv : FVec F S16 .f32) (tab : Vec F S16x16x2048 .i32) : Vec F S4194304 .f32 := fun j =>
  enc (ffv (lane ⟨(j 0).val / 128 % 16, Nat.mod_lt _ (by decide)⟩)) (fun n => tabAt tab ((j 0).val / 262144) n ((j 0).val / 128 % 2048)) ((j 0).val % 128) 16

/-- The code depends on the sixteen characters only. -/
theorem enc_congr (ff : F .f32) (cs cs' : ℕ → BitVec 32) (v : ℕ) (h : ∀ n, n < 16 → cs n = cs' n) (k : ℕ) : enc ff cs v k = enc ff cs' v k := by
  have hw : ∀ k, wt ff cs k = wt ff cs' k := by
    intro k
    induction k with
    | zero => rfl
    | succ k ih => rw [wt, wt, ih, h (15 - k) (by omega)]
  induction k with
  | zero => rfl
  | succ k ih => rw [enc, enc, ih, hw, h (15 - k) (by omega)]

section Tile

variable (d : Dev nD) (i : grid0.Coords)

/-- Where a tile's characters start in the table. -/
theorem charsOff : ∀ i : grid0.Coords, k0_off1 i = ![(i 1).val, 0, 1024 * (i 0).val] := by decide +kernel

omit [FloatOps F] in
/-- The characters a tile reads are the table's, at its sentence and its half of the words. -/
theorem charsIn_apply (tab : Vec F S16x16x2048 .i32) (n : Fin 16) (r : Fin 1024) :
    charsIn d i (Memref.whole main_v0_scv) tab (ix2 n r) = tabAt tab (i 1).val n.val (1024 * (i 0).val + r.val) := by
  have h0 : (i 0).val < 2 := (i 0).isLt
  have h1 : (i 1).val < 16 := (i 1).isLt
  have hb : (i 1).val < 16 ∧ n.val < 16 ∧ 1024 * (i 0).val + r.val < 2048 := ⟨h1, n.isLt, by omega⟩
  rw [tabAt, dif_pos hb]
  show tab ((Rect.unit (s := S16x16x2048) (k0_off1 i) S1x16x1024.size (k0_off1_inb i)).emb (Shape.reshapeEquiv squeezes_S1x16x1024_S16x1024.numel_eq (ix2 n r))) = _
  refine congrArg tab ?_
  rw [reshapeEquiv_ix2_1ab]
  funext a
  apply Fin.ext
  rw [Rect.emb_apply]
  have ho := charsOff i
  match a with
  | ⟨0, _⟩ => show k0_off1 i 0 + 1 * 0 = (i 1).val; rw [ho]; rfl
  | ⟨1, _⟩ => show k0_off1 i 1 + 1 * n.val = n.val; rw [ho]; show 0 + 1 * n.val = n.val; omega
  | ⟨2, _⟩ => show k0_off1 i 2 + 1 * r.val = 1024 * (i 0).val + r.val; rw [ho]; show 1024 * (i 0).val + 1 * r.val = _; omega

omit [FloatOps F] in
/-- A character a tile reads is one of the table's, so below 128 when those are. -/
theorem charsIn_lt (tab : Vec F S16x16x2048 .i32) (h : ∀ x, (tab x).toNat < 128) (x : S16x1024.Idx) :
    (charsIn d i (Memref.whole main_v0_scv) tab x).toNat < 128 := h _

/-- The elements of the output chunk `q` of a tile takes. -/
abbrev chunkSet (q : Fin 4) : Finset S4194304.Idx := (outOf i (Memref.whole main_v2_scv) q).view.set

/-- Chunk `q` of tile `i` takes 32768 elements from where its words start. -/
theorem mem_chunkSet (q : Fin 4) (j : S4194304.Idx) :
    j ∈ chunkSet i q ↔ 262144 * (i 1).val + 131072 * (i 0).val + 32768 * q.val ≤ (j 0).val
      ∧ (j 0).val < 262144 * (i 1).val + 131072 * (i 0).val + 32768 * q.val + 32768 := by
  show j ∈ ((View.whole main_v2_scv).slice (Rect.unit (s := S4194304) (k0_off3 i (BitVec.ofNat 32 (256 * q.val))) S32768.size (k0_off3_inb i q))).set ↔ _
  rw [View.set_slice_whole, Rect.mem_set_unit]
  constructor
  · intro h
    have h0 := h 0
    rw [k0_off3_eq i q] at h0
    exact h0
  · intro h a
    obtain rfl := Fin.eq_zero a
    rw [k0_off3_eq i q]
    exact h

omit [FloatOps F] in
/-- A rectangle of a buffer written whole holds, at each of its elements, what was written. -/
theorem slice_write (b : Ref sig .scVector) (r : Rect b.ty.shape) (fd : b.ty.Contents (Elt F)) (w : r.shape.Idx → Elt F b.ty.elt) (x : r.shape.Idx) :
    ((View.whole b).slice r).write (Elt F) fd w Finset.univ (((View.whole b).slice r).emb x) = w x := by
  rw [View.write_emb_of_mem _ _ (Finset.mem_univ x)]
  rfl

omit [FloatOps F] in
/-- A chunk written whole holds, at each of its elements, what was written. -/
theorem outOf_write (q : Fin 4) (fd : Vec F S4194304 .f32) (w : Vec F S32768 .f32) (x : S32768.Idx) :
    (outOf i (Memref.whole main_v2_scv) q).view.write (Elt F) fd w Finset.univ ((outOf i (Memref.whole main_v2_scv) q).view.emb x) = w x := by
  have h := slice_write (F := F) main_v2_scv (Rect.unit (s := S4194304) (k0_off3 i (BitVec.ofNat 32 (256 * q.val))) S32768.size (k0_off3_inb i q)) fd w x
  exact h

/-- What a tile leaves in a chunk is what the output holds there. -/
theorem wrote_eq (ffb : Vec F S16 .f32) (tab : Vec F S16x16x2048 .i32) (fd : Vec F S4194304 .f32) (q : Fin 4) (j : S4194304.Idx) (hj : j ∈ chunkSet i q) :
    wrote d i (Memref.whole main_v2_scv) (charsIn d i (Memref.whole main_v0_scv) tab) (ffIn d i (Memref.whole main_v1_scv) ffb) fd q j = outVal ffb tab j := by
  obtain ⟨x, -, rfl⟩ := Finset.mem_map.1 hj
  have hw := outOf_write i q fd (chunk (charsIn d i (Memref.whole main_v0_scv) tab) (ffIn d i (Memref.whole main_v1_scv) ffb) q) x
  refine hw.trans ?_
  have h0 : (i 0).val < 2 := (i 0).isLt
  have h1 : (i 1).val < 16 := (i 1).isLt
  have hq := q.isLt
  have hx : (x 0).val < 32768 := (x 0).isLt
  have he : ((outOf i (Memref.whole main_v2_scv) q).view.emb x 0).val = 262144 * (i 1).val + 131072 * (i 0).val + 32768 * q.val + (x 0).val := by
    show ((Rect.unit (s := S4194304) (k0_off3 i (BitVec.ofNat 32 (256 * q.val))) S32768.size (k0_off3_inb i q)).emb x 0).val = _
    rw [Rect.emb_apply]
    show k0_off3 i (BitVec.ofNat 32 (256 * q.val)) 0 + 1 * (x 0).val = _
    rw [k0_off3_eq i q]
    show (262144 * (i 1).val + 131072 * (i 0).val + 32768 * q.val) + 1 * (x 0).val = _
    omega
  unfold outVal
  have e1 : ((outOf i (Memref.whole main_v2_scv) q).view.emb x 0).val / 128 % 16 = (x 0).val / 128 % 16 := by rw [he]; omega
  have e2 : ((outOf i (Memref.whole main_v2_scv) q).view.emb x 0).val / 262144 = (i 1).val := by rw [he]; omega
  have e3 : ((outOf i (Memref.whole main_v2_scv) q).view.emb x 0).val / 128 % 2048 = 1024 * (i 0).val + (256 * q.val + (x 0).val / 128) := by rw [he]; omega
  have e4 : ((outOf i (Memref.whole main_v2_scv) q).view.emb x 0).val % 128 = (x 0).val % 128 := by rw [he]; omega
  simp only [e1, e2, e3, e4]
  show enc _ _ _ 16 = _
  refine (enc_congr _ _ _ _ (fun n hn => ?_) 16)
  have hr : 256 * q.val + (x 0).val / 128 < 1024 := by omega
  rw [charAt, dif_pos ⟨hn, hr⟩]
  refine Eq.trans (congrArg _ ?_) (charsIn_apply d i tab ⟨n, hn⟩ ⟨_, hr⟩)
  exact eq_ix2 (n0 := 16) (n1 := 1024) _

end Tile

end Cert.Proof

end
-- ==== Proof.Launch.lean ====
/-
  The launch: the arrays dealt among the 32 tiles (read shares of the forgetting factor and the characters, four pieces
  each of the output), each tile's run, and the call's payloads.
-/
module

public import proofs.«01_k».proof.Proof.Pieces

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The character table, the forgetting factor's vector and the output, as the host's thread names them. -/
abbrev tabL (d : Dev nD) : Loc nD τ sig := (SparseCore.T d).loc main_v0
abbrev ffL (d : Dev nD) : Loc nD τ sig := (SparseCore.T d).loc main_v1
abbrev outL (d : Dev nD) : Loc nD τ sig := (SparseCore.T d).loc main_v2

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of tile `s` of SparseCore `c`. -/
def tileShare (c : Fin 2) (s : Fin 16) : PosShare TreeShare := dealOf (dealOf fullShare Finset.univ c) Finset.univ s

/-- What a tile is lent: the forgetting factor and the characters to read, its four pieces of the output at `f`. -/
def tilePts (d : Dev nD) (ffb : Vec F S16 .f32) (tab : Vec F S16x16x2048 .i32) (f : Vec F S4194304 .f32) (c : Fin 2) (s : Fin 16) : sProp 𝕄 :=
  iprop((ffL d ↦{tileShare c s} ffb) ∗ (tabL d ↦{tileShare c s} tab)
    ∗ bigSep Finset.univ fun r : Fin 4 => outL d ↦[chunkSet (coordsV c s) r]{fullShare} f)

/-! ## The deal -/

section Deal

variable (d : Dev nD)

omit [FloatOps F] in
/-- An array read by all the tiles, whole, is the tiles' shares of it. -/
theorem deal_read (ℓ : Loc nD τ sig) (f : Buf (Elt F) ℓ) :
    (ℓ ↦{fullShare} f : sProp 𝕄) = bigSep Finset.univ fun c : Fin 2 => bigSep Finset.univ fun s : Fin 16 => ℓ ↦{tileShare c s} f := by
  rw [pointsTo_deal (Finset.univ : Finset (Fin 2)) Finset.univ_nonempty fullShare]
  refine bigSep_congr fun c _ => ?_
  rw [pointsTo_deal (Finset.univ : Finset (Fin 16)) Finset.univ_nonempty (dealOf fullShare Finset.univ c)]
  rfl

/-- The tiles' chunks, all of them. -/
abbrev chunkOf (t : Fin 2 × Fin 16 × Fin 4) : Finset S4194304.Idx := chunkSet (coordsV t.1 t.2.1) t.2.2

/-- Two chunks share no element. -/
theorem chunks_disjoint : ∀ t ∈ (Finset.univ : Finset (Fin 2 × Fin 16 × Fin 4)), ∀ t' ∈ (Finset.univ : Finset (Fin 2 × Fin 16 × Fin 4)),
    t ≠ t' → Disjoint (chunkOf t) (chunkOf t') := by
  rintro ⟨c, s, r⟩ - ⟨c', s', r'⟩ - hne
  rw [Finset.disjoint_left]
  intro j hj hj'
  rw [mem_chunkSet] at hj hj'
  change 262144 * s.val + 131072 * c.val + 32768 * r.val ≤ _ ∧ _ < 262144 * s.val + 131072 * c.val + 32768 * r.val + 32768 at hj
  change 262144 * s'.val + 131072 * c'.val + 32768 * r'.val ≤ _ ∧ _ < 262144 * s'.val + 131072 * c'.val + 32768 * r'.val + 32768 at hj'
  have := c.isLt
  have := c'.isLt
  have := r.isLt
  have := r'.isLt
  refine hne (Prod.ext (Fin.ext ?_) (Prod.ext (Fin.ext ?_) (Fin.ext ?_))) <;> dsimp only <;> omega

/-- Every element of the output is in a chunk. -/
theorem chunks_cover : (Finset.univ : Finset (Fin 2 × Fin 16 × Fin 4)).biUnion chunkOf = Finset.univ := by
  rw [Finset.eq_univ_iff_forall]
  intro j
  have hj : (j 0).val < 4194304 := (j 0).isLt
  refine Finset.mem_biUnion.2 ⟨(⟨(j 0).val / 131072 % 2, by omega⟩, ⟨(j 0).val / 262144, by omega⟩, ⟨(j 0).val / 32768 % 4, by omega⟩), Finset.mem_univ _, ?_⟩
  rw [mem_chunkSet]
  show 262144 * ((j 0).val / 262144) + 131072 * ((j 0).val / 131072 % 2) + 32768 * ((j 0).val / 32768 % 4) ≤ (j 0).val
    ∧ (j 0).val < 262144 * ((j 0).val / 262144) + 131072 * ((j 0).val / 131072 % 2) + 32768 * ((j 0).val / 32768 % 4) + 32768
  omega

omit [FloatOps F] in
/-- The output whole is the tiles' chunks of it. -/
theorem deal_write (f : Vec F S4194304 .f32) :
    (outL d ↦{fullShare} f : sProp 𝕄)
      = bigSep Finset.univ fun c : Fin 2 => bigSep Finset.univ fun s : Fin 16 => bigSep Finset.univ fun r : Fin 4 => outL d ↦[chunkSet (coordsV c s) r]{fullShare} f := by
  have h := pointsTo_biUnion (q := fullShare) (f := f) (Finset.univ : Finset (Fin 2 × Fin 16 × Fin 4)) (ℓ := outL d) chunkOf chunks_disjoint (U := UU) (Name := ℕ) (Ix := HIx 1) (Lvl := ℕ)
  rw [chunks_cover] at h
  refine h.trans ?_
  rw [BI.bigSep_univ_prod]
  refine bigSep_congr fun c _ => ?_
  rw [BI.bigSep_univ_prod]

omit [FloatOps F] in
/-- The three arrays whole are what the 32 tiles are lent. -/
theorem deal (ffb : Vec F S16 .f32) (tab : Vec F S16x16x2048 .i32) (f : Vec F S4194304 .f32) :
    (bigSep Finset.univ fun c : Fin 2 => bigSep Finset.univ fun s : Fin 16 => tilePts d ffb tab f c s)
      = (iprop((ffL d ↦{fullShare} ffb) ∗ (tabL d ↦{fullShare} tab) ∗ outL d ↦{fullShare} f) : sProp 𝕄) := by
  unfold tilePts
  rw [deal_read (ffL d), deal_read (tabL d), deal_write]
  simp only [bigSep_sep']

end Deal

/-! ## A tile's run -/

section Tile

variable (d : Dev nD) (c : Fin 2) (s : Fin 16)
variable (ffb : Vec F S16 .f32) (tab : Vec F S16x16x2048 .i32) (f0 : Vec F S4194304 .f32)

omit [FloatOps F] in
/-- The four pieces one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A piece the tile wrote is a piece of the output. -/
theorem piece_eq (q : Fin 4) :
    (outAt d (coordsV c s) (Memref.whole main_v2_scv) q
        (wrote d (coordsV c s) (Memref.whole main_v2_scv) (charsIn d (coordsV c s) (Memref.whole main_v0_scv) tab) (ffIn d (coordsV c s) (Memref.whole main_v1_scv) ffb) f0 q) : sProp 𝕄)
      = (outL d ↦[chunkSet (coordsV c s) q]{fullShare} outVal ffb tab) :=
  pointsTo_congr fun j hj => wrote_eq d (coordsV c s) ffb tab f0 q j hj

/-- The tile's body, from what it is lent and what it owns: its pieces come back holding the output. -/
theorem tile_body (hC : ∀ x, (tab x).toNat < 128) (O : CellTallies nD τ sig (HIx 1)) (W : Waits sig (HIx 1)) (hO : ∀ g, O g none = 0) :
    iprop(levAts (K (F := F)).L (K (F := F)).lev ∗ emp ∗ tilePts d ffb tab f0 c s
        ∗ scopedBufs (tileThr d (coordsV c s)) ∗ scopedSems0 (tileThr d (coordsV c s)) ∗ owes (tileThr d (coordsV c s)) O W)
      ⊢ run d (coordsV c s) (cc0__fofe_body (F := F) (coordsV c s) (Memref.whole main_v1_scv) (Memref.isWhole_whole _) (Memref.whole main_v0_scv) (Memref.isWhole_whole _)
          (Memref.whole main_v2_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 cc0_scoped0 cc0_scoped1)
        fun _ => iprop(tilePts d ffb tab (outVal ffb tab) c s ∗ scopedBufs (tileThr d (coordsV c s)) ∗ scopedSems0 (tileThr d (coordsV c s))
          ∗ ∃ W', ⌜∀ p ∈ W', p ∈ W ∨ p.2 = none⌝ ∗ owes (tileThr d (coordsV c s)) O W') := by
  rw [(K (F := F)).scopedBufs_V launch_facts d ((coordsV c s 0).castLE hcore0) ((coordsV c s 1).castLE hsub0),
    SparseCore.Cfg.scopedSems0_V (Val := Elt F) d ((coordsV c s 0).castLE hcore0) ((coordsV c s 1).castLE hsub0), ownSems0_tile, ownBufs_tile]
  unfold tilePts
  rw [bigSep_four, bigSep_four]
  iintro ⟨#Hlv, -, ⟨Hff, Htab, Ho⟩, ⟨⟨%f5, H5⟩, ⟨%f6, H6⟩, ⟨%f7, H7⟩, ⟨%f8, H8⟩, Hbufs⟩, ⟨Hs9, Hs10, Hr0, Hr1, Hsems⟩, HO⟩
  ihave Htab' := (pointsTo_split_subset (f := tab) (Finset.subset_univ (charsOf (coordsV c s) (Memref.whole main_v0_scv)).view.set)).1 $$ Htab
  icases Htab' with ⟨Hch, Hrest⟩
  ihave H5 := (holds_intro d (coordsV c s) cc0_scratch0 f5) $$ H5
  ihave H6 := (holds_intro d (coordsV c s) cc0_scratch1 f6) $$ H6
  ihave H7 := (holds_intro d (coordsV c s) cc0_scratch2 f7) $$ H7
  ihave H8 := (holds_intro d (coordsV c s) cc0_scratch3 f8) $$ H8
  iapply (run_body d (coordsV c s) (Memref.whole main_v1_scv) (Memref.isWhole_whole _) (Memref.whole main_v0_scv) (Memref.isWhole_whole _)
          (Memref.whole main_v2_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 cc0_scoped0 cc0_scoped1
          O W (tileShare c s) (tileShare c s) ffb tab f0 hO (charsIn_lt d (coordsV c s) tab hC) _ _ _ _) $$ [Hff Hch Ho H5 H6 H7 H8 Hs9 Hs10 Hr0 Hr1 HO]
  · isplitr; · iexact Hlv
    isplitl [Hff]; · simp only [Memref.view_whole, View.set_whole]; iexact Hff
    isplitl [Hch]; · iexact Hch
    isplitl [Ho]; · iexact Ho
    isplitl [H5]; · iexact H5
    isplitl [H6]; · iexact H6
    isplitl [H7]; · iexact H7
    isplitl [H8]; · iexact H8
    isplitl [Hs9]; · iexact Hs9
    isplitl [Hs10]; · iexact Hs10
    isplitl [Hr0]; · iexact Hr0
    isplitl [Hr1]; · iexact Hr1
    unfold owing
    iexists W
    isplitr
    · ipureintro; exact fun p hp => .inl hp
    · iexact HO
  rw [piece_eq, piece_eq, piece_eq, piece_eq]
  iintro ⟨Hff, Hch, Ho, H5, H6, H7, H8, Hs9, Hs10, Hr0, Hr1, HO⟩
  isplitl [Hff Hch Hrest Ho]
  · isplitl [Hff]; · simp only [Memref.view_whole, View.set_whole]; iexact Hff
    isplitl [Hch Hrest]
    · iapply (pointsTo_split_subset (f := tab) (Finset.subset_univ (charsOf (coordsV c s) (Memref.whole main_v0_scv)).view.set)).2
      isplitl [Hch]
      · iexact Hch
      · iexact Hrest
    · iexact Ho
  isplitl [H5 H6 H7 H8 Hbufs]
  · isplitl [H5]; · iapply (holds_elim d (coordsV c s) cc0_scratch0 _); iexact H5
    isplitl [H6]; · iapply (holds_elim d (coordsV c s) cc0_scratch1 _); iexact H6
    isplitl [H7]; · iapply (holds_elim d (coordsV c s) cc0_scratch2 _); iexact H7
    isplitl [H8]; · iapply (holds_elim d (coordsV c s) cc0_scratch3 _); iexact H8
    iexact Hbufs
  isplitl [Hs9 Hs10 Hr0 Hr1 Hsems]
  · isplitl [Hs9]; · iexact Hs9
    isplitl [Hs10]; · iexact Hs10
    isplitl [Hr0]; · iexact Hr0
    isplitl [Hr1]; · iexact Hr1
    iexact Hsems
  unfold owing
  iexact HO

end Tile

end Cert.Proof

end
-- ==== Proof.Run.lean ====
/-
  The whole program's run: the call's payloads, the launch theorem's obligations, and what memory ends up holding.
-/
module

public import proofs.«01_k».proof.Proof.Launch
public import Idealize.ShloMosaic.Lib.SparseCore.Quiescent
public import Idealize.ShloMosaic.Lib.StableHlo.Run

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The host's operations and the memory between them -/

/-- The host's buffers. -/
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev tab' : DevRef τ sig := Proc.devRef .tc (main_v0 : Ref sig .tc)
abbrev ff' : DevRef τ sig := Proc.devRef .tc (main_v1 : Ref sig .tc)
abbrev out' : DevRef τ sig := Proc.devRef .tc (main_v2 : Ref sig .tc)
abbrev res' : DevRef τ sig := Proc.devRef .tc (main_v3 : Ref sig .tc)

/-- The three host operations: the table transposed, the factor spread over sixteen lanes, the output reshaped. -/
abbrev opTab : HloOp τ sig (Elt F) := StableHlo.unary main_arg0 main_v0
  ((transpose S16x16x2048 [0, 2, 1] · transposes_S16x2048x16_S16x16x2048_0_2_1) : (⟨S16x2048x16, .i32⟩ : BufTy).Contents (Elt F) → (⟨S16x16x2048, .i32⟩ : BufTy).Contents (Elt F))
abbrev opFf : HloOp τ sig (Elt F) := StableHlo.unary main_arg2 main_v1
  (broadcastInDim S16 ![0] bcast_S1_S16_0 : (⟨S1, .f32⟩ : BufTy).Contents (Elt F) → (⟨S16, .f32⟩ : BufTy).Contents (Elt F))
abbrev opRes : HloOp τ sig (Elt F) := StableHlo.reshape main_v2 main_v3 (rfl : (.f32 : EltTy) = .f32) shapeCasts_S4194304_S16x2048x128

/-- The buffers the call does not use, and all of them. -/
abbrev SRest : Finset (DevRef τ sig) := {a0', a1', a2', res'}
abbrev SAll : Finset (DevRef τ sig) := {ff', tab', out', a0', a1', a2', res'}

variable (m : (ℓ : Loc nD τ sig) → Buf (Elt F) ℓ) (ρ : Dev nD → PrngReg)

/-- Memory at the launch, and after the two operations before the call. -/
def V0 (d : Dev nD) : Valuation τ sig (Elt F) := fun b => m (d, b)
def V1 (d : Dev nD) : Valuation τ sig (Elt F) := (opTab (F := F)).result (V0 m d)
def V2 (d : Dev nD) : Valuation τ sig (Elt F) := (opFf (F := F)).result (V1 m d)

/-- What the call finds: the factor's vector, the character table, and whatever the output holds. -/
def ffOf (d : Dev nD) : Vec F S16 .f32 := V2 m d ff'
def tabOf (d : Dev nD) : Vec F S16x16x2048 .i32 := V2 m d tab'
def out0 (d : Dev nD) : Vec F S4194304 .f32 := V2 m d out'
/-- What the call leaves in the output. -/
def outOfCall (d : Dev nD) : Vec F S4194304 .f32 := outVal (ffOf m d) (tabOf m d)

/-- Memory after the call, and at the end. -/
def V3 (d : Dev nD) : Valuation τ sig (Elt F) := Function.update (V2 m d) out' (outOfCall m d)
def V4 (d : Dev nD) : Valuation τ sig (Elt F) := (opRes (F := F)).result (V3 m d)

/-! ## The payloads -/

/-- What the call hands SparseCore `c` and takes back: what its sixteen tiles are lent, and what they return. -/
def P : (K (F := F)).Pay (nD := nD) (Val := Elt F) (Name := ℕ) (U := UU) where
  st := fun q d => match q with | 0 => fun c => bigSep Finset.univ fun s : Fin 16 => tilePts d (ffOf m d) (tabOf m d) (out0 m d) c s
  dn := fun q d => match q with | 0 => fun c => bigSep Finset.univ fun s : Fin 16 => tilePts d (ffOf m d) (tabOf m d) (outOfCall m d) c s
  go := fun q d => match q with | 0 => fun c s => tilePts d (ffOf m d) (tabOf m d) (out0 m d) c s
  td := fun q d => match q with | 0 => fun c s => tilePts d (ffOf m d) (tabOf m d) (outOfCall m d) c s
  x := fun _ _ => iprop(emp)

instance tilePts_storable (d : Dev nD) (ffb : Vec F S16 .f32) (tab : Vec F S16x16x2048 .i32) (f : Vec F S4194304 .f32) (c : Fin 2) (s : Fin 16) :
    BI.Storable (upEmb : UEmb _ 𝕄) (tilePts d ffb tab f c s) := by
  unfold tilePts; infer_instance

instance P_storable : (P (F := F) m).IsStorable where
  st q d c := match q with | 0 => (inferInstance : BI.Storable (upEmb : UEmb _ 𝕄) (bigSep Finset.univ fun s : Fin 16 => tilePts d (ffOf m d) (tabOf m d) (out0 m d) c s))
  dn q d c := match q with | 0 => (inferInstance : BI.Storable (upEmb : UEmb _ 𝕄) (bigSep Finset.univ fun s : Fin 16 => tilePts d (ffOf m d) (tabOf m d) (outOfCall m d) c s))
  go q d c s := match q with | 0 => (inferInstance : BI.Storable (upEmb : UEmb _ 𝕄) (tilePts d (ffOf m d) (tabOf m d) (out0 m d) c s))
  td q d c s := match q with | 0 => (inferInstance : BI.Storable (upEmb : UEmb _ 𝕄) (tilePts d (ffOf m d) (tabOf m d) (outOfCall m d) c s))

/-! ## The launch theorem's obligations -/

/-- The kernel a tile runs. -/
theorem defs₀_vector (c : Fin τ.nSC) (s : Fin τ.nSub) :
    defs₀ (F := F) (.scVector c s) 0 ()
      = SparseCore.onTile hcore0 hsub0 (fun c s => cc0__fofe_body (F := F) (coordsV c s) (Memref.whole main_v1_scv) (Memref.isWhole_whole _) (Memref.whole main_v0_scv) (Memref.isWhole_whole _)
          (Memref.whole main_v2_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 cc0_scoped0 cc0_scoped1) ⟨⟩ c s := rfl

omit [FloatOps F] in
/-- Waits recorded at no call are among those at no call or at this one. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile runs its body, the characters in range. -/
theorem tileObl (hpre : ∀ d x, (tabOf m d x).toNat < 128) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d ⟨_, hc.1⟩ ⟨_, hc.2⟩ (ffOf m d) (tabOf m d) (out0 m d) (hpre d) O W hO).trans (wp_mono frame _ _ fun _ => obl_post)

/-- A SparseCore's loan is its tiles' loans. -/
theorem vecSplit : (K (F := F)).VecSplit' (P m) 0 := by
  intro d c
  show (bigSep Finset.univ fun s : Fin 16 => tilePts d (ffOf m d) (tabOf m d) (out0 m d) c s) ⊢ |={Set.univ}=> iprop(
      (bigSep Finset.univ fun s : Fin 16 => tilePts d (ffOf m d) (tabOf m d) (out0 m d) c s)
      ∗ ((bigSep Finset.univ fun s : Fin 16 => tilePts d (ffOf m d) (tabOf m d) (outOfCall m d) c s)
        -∗ (bigSep Finset.univ fun s : Fin 16 => tilePts d (ffOf m d) (tabOf m d) (outOfCall m d) c s)))
  iintro H; imodintro
  isplitl [H]; · iexact H
  iintro H; iexact H

/-- The launch's ghost element: the handshakes' rounds, nothing of the kernel's own. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's thread -/

omit [FloatOps F] in
/-- The buffers the call does not use, one by one. -/
theorem held_rest (d : Dev nD) (W : Valuation τ sig (Elt F)) :
    (held (T d) SRest W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ (SparseCore.T d).loc main_v3 ↦{fullShare} W res') := by
  unfold held SRest
  rw [SparseCore.bigSep_insert' (by decide), SparseCore.bigSep_insert' (by decide), SparseCore.bigSep_insert' (by decide), bigSep_singleton]

omit [FloatOps F] in
/-- All the buffers: the call's three and the rest. -/
theorem held_all (d : Dev nD) (W : Valuation τ sig (Elt F)) :
    (held (T d) SAll W : sProp 𝕄) = iprop((ffL d ↦{fullShare} W ff') ∗ (tabL d ↦{fullShare} W tab') ∗ (outL d ↦{fullShare} W out') ∗ held (T d) SRest W) := by
  unfold held SAll
  rw [SparseCore.bigSep_insert' (by decide), SparseCore.bigSep_insert' (by decide), SparseCore.bigSep_insert' (by decide)]

omit [FloatOps F] in
/-- What the launch gives the host's thread is all its buffers at the launch's memory. -/
theorem unscoped_held (d : Dev nD) : (unscopedBufs d (fun b => m ((SparseCore.T d).loc b)) : sProp 𝕄) = held (T d) SAll (V0 m d) := by
  rw [held_all, held_rest]
  unfold unscopedBufs
  rw [show (Finset.univ.filter fun b : Ref sig .tc => ¬ b.isScoped) = {main_v1, main_v0, main_v2, main_arg0, main_arg1, main_arg2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- The call leaves the buffers it does not use alone. -/
theorem held_rest_V3 (d : Dev nD) : (held (T d) SRest (V3 m d) : sProp 𝕄) = held (T d) SRest (V2 m d) := by
  unfold held
  refine bigSep_congr fun b hb => ?_
  have hne : b ≠ out' := fun e => absurd (e ▸ hb) (show out' ∉ SRest by decide)
  rw [V3, Function.update_of_ne hne]

/-- After the call: the call's three buffers at what they hold then, and the rest untouched. -/
theorem held_V3 (d : Dev nD) :
    (held (T d) SAll (V3 m d) : sProp 𝕄)
      = iprop((ffL d ↦{fullShare} ffOf m d) ∗ (tabL d ↦{fullShare} tabOf m d) ∗ (outL d ↦{fullShare} outOfCall m d) ∗ held (T d) SRest (V2 m d)) := by
  rw [held_all, held_rest_V3, V3, Function.update_of_ne (show ff' ≠ out' by decide), Function.update_of_ne (show tab' ≠ out' by decide), Function.update_self]
  rfl

/-- What the call takes for the two SparseCores. -/
theorem st0_eq (d : Dev nD) : (bigSep Finset.univ fun c : Fin ((K (F := F)).nCore 0) => (P m).st 0 d c)
    = iprop((ffL d ↦{fullShare} ffOf m d) ∗ (tabL d ↦{fullShare} tabOf m d) ∗ outL d ↦{fullShare} out0 m d) :=
  deal d (ffOf m d) (tabOf m d) (out0 m d)
/-- What it hands back. -/
theorem dn0_eq (d : Dev nD) : (bigSep Finset.univ fun c : Fin ((K (F := F)).nCore 0) => (P m).dn 0 d c)
    = iprop((ffL d ↦{fullShare} ffOf m d) ∗ (tabL d ↦{fullShare} tabOf m d) ∗ outL d ↦{fullShare} outOfCall m d) :=
  deal d (ffOf m d) (tabOf m d) (outOfCall m d)

theorem hTab : (opTab (F := F)).bufs ⊆ SAll := show ({a0', tab'} : Finset (DevRef τ sig)) ⊆ SAll by decide
theorem hFf : (opFf (F := F)).bufs ⊆ SAll := show ({a2', ff'} : Finset (DevRef τ sig)) ⊆ SAll by decide
theorem hRes : (opRes (F := F)).bufs ⊆ SAll := show ({out', res'} : Finset (DevRef τ sig)) ⊆ SAll by decide

/-- What the host's thread leaves the claim: the arguments and the result. -/
abbrev FIN (d : Dev nD) : sProp 𝕄 := held (T d) SRest (V4 m d)

/-- The host's thread: the two operations, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTab) (S := SAll) hTab (V := V0 m d)) $$ [Hb Hheld]
  · isplitl [Hb] <;> iassumption
  iintro ⟨Hb, Hheld⟩
  rw [show (opTab (F := F)).result (V0 m d) = V1 m d from rfl]
  rw [wp_ret]; imodintro
  iapply (wp_hlo_within 𝒱 (SparseCore.T d) none Set.univ (op := opFf) (S := SAll) hFf (V := V1 m d)) $$ [Hb Hheld]
  · isplitl [Hb] <;> iassumption
  iintro ⟨Hb, Hheld⟩
  rw [show (opFf (F := F)).result (V1 m d) = V2 m d from rfl]
  rw [wp_ret]; imodintro
  ihave Hh := (Entails.of_eq (held_all (F := F) d (V2 m d))) $$ Hheld
  icases Hh with ⟨Hff, Htab, Hout, Hrest⟩
  iapply ((K (F := F)).wp_run (D (F := F)) 𝒱 (EH := EH) (P := P m) κ d 0) $$ [Hst Hff Htab Hout Hrest Hb Hts]
  isplitr; · iexact Hctx
  isplitl [Hst]; · iexact Hst
  isplitl [Hff Htab Hout]
  · rw [st0_eq]
    isplitl [Hff]; · iexact Hff
    isplitl [Htab]; · iexact Htab
    iexact Hout
  iintro ⟨Hst, Hdn⟩
  ihave Hdn' := (Entails.of_eq (dn0_eq m d)) $$ Hdn
  icases Hdn' with ⟨Hff, Htab, Hout⟩
  iapply (wp_hlo_within 𝒱 (SparseCore.T d) none Set.univ (op := opRes) (S := SAll) hRes (V := V3 m d)) $$ [Hb Hff Htab Hout Hrest]
  · isplitl [Hb]; · iexact Hb
    rw [held_V3]
    isplitl [Hff]; · iexact Hff
    isplitl [Htab]; · iexact Htab
    isplitl [Hout]; · iexact Hout
    iexact Hrest
  iintro ⟨Hb, Hheld⟩
  rw [show (opRes (F := F)).result (V3 m d) = V4 m d from rfl]
  ihave Hh := (Entails.of_eq (held_all (F := F) d (V4 m d))) $$ Hheld
  icases Hh with ⟨-, -, -, Hrest⟩
  rw [wp_ret]; imodintro; imodintro
  isplitl [Hst]; · iexact Hst
  isplitr [Hb Hts]
  · iexact Hrest
  isplitl [Hb] <;> iassumption

/-! ## The final memory -/

/-- The final memory holds the arguments and the result at their final values. -/
def fq (d : Dev nD) (s' : Phys nD τ sig (Elt F)) : Prop :=
  s'.mem.mem ((SparseCore.T d).loc main_arg0) = V4 m d a0' ∧ s'.mem.mem ((SparseCore.T d).loc main_arg1) = V4 m d a1'
    ∧ s'.mem.mem ((SparseCore.T d).loc main_arg2) = V4 m d a2' ∧ s'.mem.mem ((SparseCore.T d).loc main_v3) = V4 m d res'

theorem hfin (d : Dev nD) (s' : Phys nD τ sig (Elt F)) : iprop(FIN m d ∗ SI s') ⊢ (⌜fq m d s'⌝ : sProp 𝕄) := by
  unfold FIN
  rw [held_rest]
  iintro ⟨⟨H0, H1, H2, H3⟩, HSI⟩
  ihave H := (persistent_entails_right (SI_pointsTo_agree (st := s') (ℓ := (SparseCore.T d).loc main_arg0) (I := Finset.univ) (q := fullShare) (f := V4 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V4 m d a1'))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := V4 m d a2'))) $$ [HSI H2]
  · isplitl [HSI] <;> iassumption
  icases H with ⟨%h2, HSI, -⟩
  ihave H := (SI_pointsTo_agree (st := s') (ℓ := (SparseCore.T d).loc main_v3) (I := Finset.univ) (q := fullShare) (f := V4 m d res')) $$ [HSI H3]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-- The character table is the first argument with its last two axes exchanged. -/
theorem tabOf_eq (d : Dev nD) : tabOf m d = transpose S16x16x2048 [0, 2, 1] (m ((SparseCore.T d).loc main_arg0) : Vec F S16x2048x16 .i32) transposes_S16x2048x16_S16x16x2048_0_2_1 := by
  unfold tabOf V2
  rw [HloOp.result_of_not_mem _ _ (show tab' ∉ ({ff'} : Finset (DevRef τ sig)) by decide)]
  exact StableHlo.unary_result main_arg0 main_v0 _ _ _ (V0 m d)

/-- The factor's vector is the factor on every lane. -/
theorem ffOf_eq (d : Dev nD) : ffOf m d = broadcastInDim S16 ![0] bcast_S1_S16_0 (m ((SparseCore.T d).loc main_arg2) : Vec F S1 .f32) := by
  unfold ffOf V2
  refine (StableHlo.unary_result main_arg2 main_v1 _ _ _ (V1 m d)).trans ?_
  refine congrArg (fun v : Vec F S1 .f32 => broadcastInDim S16 ![0] bcast_S1_S16_0 v) ?_
  unfold V1
  rw [HloOp.result_of_not_mem _ _ (show a2' ∉ ({tab'} : Finset (DevRef τ sig)) by decide)]
  rfl

/-- The result: the call's output in three axes. -/
def resOf (d : Dev nD) : Vec F S16x2048x128 .f32 := shapeCast S16x2048x128 (outOfCall m d) shapeCasts_S4194304_S16x2048x128

theorem V4_res (d : Dev nD) : V4 m d res' = resOf m d := by
  unfold V4
  refine (StableHlo.reshape_result main_v2 main_v3 rfl shapeCasts_S4194304_S16x2048x128 _ _ (V3 m d)).trans ?_
  have h : V3 m d out' = outOfCall m d := Function.update_self _ _ _
  show (fun i => shapeCast S16x2048x128 (V3 m d out') shapeCasts_S4194304_S16x2048x128 i) = _
  rw [h]; rfl

/-- No operation touches a buffer that is none of the four written ones. -/
theorem V4_arg (d : Dev nD) (b : DevRef τ sig) (h0 : b ≠ tab') (h1 : b ≠ ff') (h2 : b ≠ out') (h3 : b ≠ res') : V4 m d b = m (d, b) := by
  unfold V4 V3 V2 V1
  rw [HloOp.result_of_not_mem _ _ (show b ∉ ({res'} : Finset (DevRef τ sig)) by simpa using h3), Function.update_of_ne h2,
    HloOp.result_of_not_mem _ _ (show b ∉ ({ff'} : Finset (DevRef τ sig)) by simpa using h1),
    HloOp.result_of_not_mem _ _ (show b ∉ ({tab'} : Finset (DevRef τ sig)) by simpa using h0)]
  rfl

/-- What the run ends with: the arguments unchanged, the result, every semaphore at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v3) = resOf m d) ∧ r.2.sem = fun _ => 0

/-- The program runs, from characters below 128, to the arguments unchanged and the result. -/
theorem run_main [∀ e, Nonempty (Elt F e)] (hpre : ∀ d x, (tabOf m d x).toNat < 128) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun d => ⟨(h d).1.trans (V4_arg m d a0' (by decide) (by decide) (by decide) (by decide)),
      (h d).2.1.trans (V4_arg m d a1' (by decide) (by decide) (by decide) (by decide)),
      (h d).2.2.1.trans (V4_arg m d a2' (by decide) (by decide) (by decide) (by decide)), (h d).2.2.2.trans (V4_res m d)⟩, hz⟩)

end Cert.Proof

end
-- ==== Proof.Frames.lean ====
/-
  What the preconditions give the run, and the kernel's frames, at the bits and at the ideal values.
-/
module

public import proofs.«01_k».proof.Proof.Run
public import proofs.«01_k».proof.Proof.Gen.Kernel
public import proofs.«01_k».proof.Proof.Gen.Pre_chars_in_vocab
public import proofs.«01_k».proof.Proof.Gen.Pre_chars_and_finite
public import Idealize.ShloMosaic.Lib.ReduceAll

@[expose] public section

noncomputable section

namespace Cert.Proof

open Idealize.ShloMosaic Idealize.SL.Sem

variable {F : FTy → Type} [FloatOps F]

/-- A word that is, read signed, at least 0 and below 128 is below 128 read unsigned. -/
theorem word_lt (v : BitVec 32) (h0 : IntOp.cmpi .sge v 0#32 = 1#1) (h1 : IntOp.cmpi .slt v 128#32 = 1#1) : v.toNat < 128 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

/-- Two bits whose conjunction is 1 are both 1. -/
theorem andi_one (a b : BitVec 1) (h : IntOp.andi a b = 1#1) : a = 1#1 ∧ b = 1#1 := by
  revert a b; decide

instance : Subsingleton (⟨0, ![]⟩ : Shape).Idx := ⟨fun a b => funext fun k => k.elim0⟩

/-- The first precondition: every character is below 128. -/
theorem chars_lt_of_vocab (x : IVec Cert.KernelIdeal.S16x2048x16 32) (l : IVec Cert.KernelIdeal.S16 32) (f : FVec F Cert.KernelIdeal.S1 .f32)
    (h : Cert.Pre_chars_in_vocab.fn (F := F) x l f = fun _ => 1#1) (j : Cert.KernelIdeal.S16x2048x16.Idx) : (x j).toNat < 128 := by
  have e := congrFun h (fun k => k.elim0)
  obtain ⟨e0, e1⟩ := andi_one _ _ e
  exact word_lt _ (Host.reduce_andi_all _ _ _ _ _ e0 j) (Host.reduce_andi_all _ _ _ _ _ e1 j)

/-- The second precondition: every character is below 128, and the forgetting factor's absolute value is below infinity. -/
theorem of_chars_and_finite (x : IVec Cert.KernelIdeal.S16x2048x16 32) (l : IVec Cert.KernelIdeal.S16 32) (f : FVec F Cert.KernelIdeal.S1 .f32)
    (h : Cert.Pre_chars_and_finite.fn (F := F) x l f = fun _ => 1#1) :
    (∀ j, (x j).toNat < 128) ∧ ∀ j, FloatOps.cmpf .olt (FloatOps.hostAbsf (f j)) (FloatOps.ofBits (F := F) .f32 0x7F800000#32) = 1#1 := by
  have e := congrFun h (fun k => k.elim0)
  obtain ⟨e', e2⟩ := andi_one _ _ e
  obtain ⟨e0, e1⟩ := andi_one _ _ e'
  exact ⟨fun j => word_lt _ (Host.reduce_andi_all _ _ _ _ _ e0 j) (Host.reduce_andi_all _ _ _ _ _ e1 j),
    fun j => Host.reduce_andi_all _ _ _ _ _ e2 j⟩

section
open Cert.KernelIdeal Cert.KernelIdeal.Gen

/-- Characters below 128 in the argument are below 128 in the table the kernel reads. -/
theorem tab_lt (m : (ℓ : Loc nD τ sig) → Buf (Elt F) ℓ)
    (h : ∀ (d : Dev nD) j, ((m ((SparseCore.T d).loc main_arg0) : Vec F S16x2048x16 .i32) j).toNat < 128) (d : Dev nD) (x) : (tabOf m d x).toNat < 128 := by
  rw [tabOf_eq]
  exact h d _

/-- The idealized kernel's frame under the first precondition. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (tab_lt m fun d j => chars_lt_of_vocab _ _ _ (hpre d) j))

/-- The idealized kernel's frame under the second precondition. -/
theorem frame_ideal_finite : Cert.quiescent_KernelIdeal_pre_chars_and_finite := fun m ρ hpre =>
  (θ_run Cert.KernelIdeal.defs _ _).mono (fun _ h => ⟨fun c => ⟨(h.1 c).1, (h.1 c).2.1, (h.1 c).2.2.1⟩, h.2⟩)
    (run_main (F := Ideal) m ρ (tab_lt m fun d j => (of_chars_and_finite _ _ _ (hpre d)).1 j))

/-- The kernel's frame: its text is the idealized kernel's, read at the bits. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ (tab_lt m fun d j => chars_lt_of_vocab _ _ _ (hpre d) j))

end

end Cert.Proof

end
-- ==== Proof.Algebra.lean ====
/-
  One word's code, added up from its last character to its first, is the recurrence the reference runs from the first
  character to the last: over the reals, and so over the extended reals at a finite forgetting factor.
-/
module

public import proofs.«01_k».proof.Proof.Values
public import Idealize.ShloMosaic.PureOps.Ideal
public import Idealize.ShloMosaic.Lib.IdealHost

@[expose] public section

noncomputable section

namespace Cert.Proof

open Idealize.ShloMosaic

/-- The reference's recurrence: column `v` after the first `k` characters, at ideal values. -/
def scan (ff : Ideal .f32) (cs : ℕ → BitVec 32) (v : ℕ) : ℕ → Ideal .f32
  | 0 => 0
  | k + 1 => if cs k ≠ 0#32 then ff * scan ff cs v k + (if (cs k).toNat = v then 1 else 0) else scan ff cs v k

/-- The same three recursions over the reals. -/
def wtR (ff : ℝ) (cs : ℕ → BitVec 32) : ℕ → ℝ
  | 0 => 1
  | k + 1 => wtR ff cs k * (if cs (15 - k) ≠ 0#32 then ff else 1)
def encR (ff : ℝ) (cs : ℕ → BitVec 32) (v : ℕ) : ℕ → ℝ
  | 0 => 0
  | k + 1 => if (cs (15 - k)).toNat = v then encR ff cs v k + (if cs (15 - k) ≠ 0#32 then wtR ff cs k else 0) else encR ff cs v k
def scanR (ff : ℝ) (cs : ℕ → BitVec 32) (v : ℕ) : ℕ → ℝ
  | 0 => 0
  | k + 1 => if cs k ≠ 0#32 then ff * scanR ff cs v k + (if (cs k).toNat = v then 1 else 0) else scanR ff cs v k

/-- At a real factor the weights are the real ones. -/
theorem wt_coe (ff : ℝ) (cs : ℕ → BitVec 32) (k : ℕ) : wt (F := Ideal) (ff : EReal) cs k = ((wtR ff cs k : ℝ) : EReal) := by
  induction k with
  | zero => exact Ideal.ofBits_one_f32.trans EReal.coe_one.symm
  | succ k ih =>
    rw [wt, ih, wtR, Ideal.mulf_def, EReal.coe_mul]
    congr 1
    split
    · rfl
    · exact Ideal.ofBits_one_f32.trans EReal.coe_one.symm

/-- At a real factor the code is the real one. -/
theorem enc_coe (ff : ℝ) (cs : ℕ → BitVec 32) (v k : ℕ) : enc (F := Ideal) (ff : EReal) cs v k = ((encR ff cs v k : ℝ) : EReal) := by
  have h0 : (zeroF : Ideal .f32) = ((0 : ℝ) : EReal) := Ideal.ofBits_zero_f32.trans EReal.coe_zero.symm
  induction k with
  | zero => exact h0
  | succ k ih =>
    rw [enc, encR, ih, wt_coe]
    split
    · rw [Ideal.idxAddf_def, EReal.coe_add]
      congr 1
      split
      · rfl
      · exact h0
    · rfl

/-- At a real factor the recurrence is the real one. -/
theorem scan_coe (ff : ℝ) (cs : ℕ → BitVec 32) (v k : ℕ) : scan (ff : EReal) cs v k = ((scanR ff cs v k : ℝ) : EReal) := by
  induction k with
  | zero => rfl
  | succ k ih =>
    rw [scan, scanR, ih]
    split
    · rw [EReal.coe_add, EReal.coe_mul]
      congr 1
      split <;> rfl
    · rfl

/-- The whole recurrence is the last `k` characters' code plus the weight they leave times the recurrence before them. -/
theorem scanR_split (ff : ℝ) (cs : ℕ → BitVec 32) (v : ℕ) : ∀ k, k ≤ 16 → scanR ff cs v 16 = encR ff cs v k + wtR ff cs k * scanR ff cs v (16 - k)
  | 0, _ => by rw [encR, wtR]; ring
  | k + 1, hk => by
    rw [scanR_split ff cs v k (by omega), show 16 - k = (15 - k) + 1 by omega, show 16 - (k + 1) = 15 - k by omega, scanR, encR, wtR]
    split_ifs <;> ring

/-- At a finite factor the code of all sixteen characters is the reference's recurrence. -/
theorem enc_eq_scan (ff : Ideal .f32) (h0 : ff ≠ (⊥ : EReal)) (h1 : ff ≠ (⊤ : EReal)) (cs : ℕ → BitVec 32) (v : ℕ) : enc ff cs v 16 = scan ff cs v 16 := by
  obtain ⟨r, rfl⟩ : ∃ r : ℝ, (r : EReal) = ff := ⟨EReal.toReal ff, EReal.coe_toReal h1 h0⟩
  rw [enc_coe, scan_coe, scanR_split r cs v 16 le_rfl]
  simp [scanR]

/-- A value whose absolute value is below infinity is finite. -/
theorem finite_of_lt (x : Ideal .f32) (h : FloatOps.cmpf .olt (FloatOps.hostAbsf x) (FloatOps.ofBits (F := Ideal) .f32 0x7F800000#32) = 1#1) :
    x ≠ (⊥ : EReal) ∧ x ≠ (⊤ : EReal) := by
  have ht : Ideal.ofBits .f32 0x7F800000#32 = (⊤ : EReal) := by simp [Ideal.ofBits, Ideal.ieee]
  have hb : ∀ p : Prop, ∀ _ : Decidable p, BitVec.ofBool (decide p) = 1#1 → p := by
    intro p _ e; by_contra hn; rw [decide_eq_false hn] at e; exact absurd e (by decide)
  have h' : max x (-x) < (⊤ : EReal) := by
    have : Ideal.cmp .olt (max x (-x) : EReal) (Ideal.ofBits .f32 0x7F800000#32) = 1#1 := h
    rw [ht] at this
    exact hb _ _ this
  constructor
  · rintro rfl; simp at h'
  · rintro rfl; simp at h'

end Cert.Proof

end
-- ==== Proof.RefRun.lean ====
/-
  The reference's run: its arguments unchanged, its counters at zero, and its result, element by element, the recurrence
  over the sixteen characters of the word.
-/
module

public import proofs.«01_k».proof.Defs
public import proofs.«01_k».proof.Proof.Algebra
public import proofs.«01_k».proof.Proof.Gen.ReferenceIdeal.Run
public import proofs.«01_k».proof.Proof.Gen.Pre_chars_and_finite
public import Idealize.ShloMosaic.Lib.Quiescent
public import Idealize.ShloMosaic.Lib.IdealHost
public import Idealize.ShloMosaic.Lib.Affine
public import Idealize.ShloMosaic.Lib.ValueIdx
public import Idealize.ShloMosaic.Lib.ValueLayout
public import Idealize.ShloMosaic.Lib.DynamicIndex
public import Idealize.ShloMosaic.Lib.Pipeline.Value

@[expose] public section

noncomputable section

namespace Cert.Proof.Ref

open Cert.ReferenceIdeal Cert.ReferenceIdeal.Gen Cert.ReferenceIdeal.Value
open Idealize.ShloMosaic Idealize.ShloMosaic.StableHlo Idealize.ShloMosaic.ValueIdx Idealize.ShloMosaic.Tactic Idealize.ShloMosaic.TcCoe
open Idealize.SL.Sem

variable {F : FTy → Type} [FloatOps F]
variable (m : (ℓ : Loc nD τ sig) → Buf (Elt F) ℓ)

/-! ## The arguments -/

/-- The three arguments. -/
abbrev argRefs : List (Ref sig .tc) := [main_arg0, main_arg1, main_arg2]

/-- The stretch before the loop leaves the arguments. -/
theorem entry_args (c : Dev nD) (a : Ref sig .tc) (ha : a ∈ argRefs) : entryContents preI m c (Proc.devRef .tc a) = m ((c.tc : Thread nD τ).loc a) :=
  after_of_writes_sub hostOps0 _ hostOps0_writes ((by decide : ∀ a ∈ argRefs, a ∉ hostOps0_W) a ha)

/-- Each trip leaves them. -/
theorem atK_args (c : Dev nD) (a : Ref sig .tc) (ha : a ∈ argRefs) : ∀ k, atK m k c (Proc.devRef .tc a) = m ((c.tc : Thread nD τ).loc a)
  | 0 => entry_args m c a ha
  | k + 1 => by
    rw [show atK m (k + 1) c = afterL bodyI (after condOps (atK m k c)) from rfl]
    simp only [afterL_cons, afterL_nil]
    rw [after_of_writes_sub while0Ops0_4 _ while0Ops0_4_writes ((by decide : ∀ a ∈ argRefs, a ∉ while0Ops0_4_W) a ha),
      after_of_writes_sub while0Ops0_3 _ while0Ops0_3_writes ((by decide : ∀ a ∈ argRefs, a ∉ while0Ops0_3_W) a ha),
      after_of_writes_sub while0Ops0_2 _ while0Ops0_2_writes ((by decide : ∀ a ∈ argRefs, a ∉ while0Ops0_2_W) a ha),
      after_of_writes_sub while0Ops0_1 _ while0Ops0_1_writes ((by decide : ∀ a ∈ argRefs, a ∉ while0Ops0_1_W) a ha),
      after_of_writes_sub while0Ops0 _ while0Ops0_writes ((by decide : ∀ a ∈ argRefs, a ∉ while0Ops0_W) a ha),
      after_of_writes_sub condOps _ condOps_writes ((by decide : ∀ a ∈ argRefs, a ∉ condOps_W) a ha)]
    exact atK_args c a ha k

/-- So does the whole run. -/
theorem final_args (c : Dev nD) (a : Ref sig .tc) (ha : a ∈ argRefs) :
    finalContents condOps preI bodyI postI 16 m c (Proc.devRef .tc a) = m ((c.tc : Thread nD τ).loc a) := by
  show after condOps (atK m 16 c) (Proc.devRef .tc a) = _
  rw [after_of_writes_sub condOps _ condOps_writes ((by decide : ∀ a ∈ argRefs, a ∉ condOps_W) a ha)]
  exact atK_args m c a ha 16

/-- The run ends with the arguments unchanged and the result at what sixteen trips leave. -/
theorem run (ρ : Dev nD → PrngReg) : θ_run (defs (F := F)) (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v3_3) = atK m 16 c (Proc.devRef .tc main_v3_3)) :=
  (θ_run defs _ _).mono (fun _ h c => ⟨(h c main_arg0 rfl).trans (final_args m c main_arg0 (by decide)), (h c main_arg1 rfl).trans (final_args m c main_arg1 (by decide)),
    (h c main_arg2 rfl).trans (final_args m c main_arg2 (by decide)), (h c main_v3_3 rfl).trans (cond_keeps (atK m 16 c) main_v3_3 (by decide))⟩) (run_fold m ρ)

/-- The reference's frame, with no precondition. -/
theorem frame : Cert.quiescent_ReferenceIdeal := fun m ρ _ =>
  (θ_run defs _ _).mono (fun r h => ⟨fun c => ⟨(h c).1, (h c).2.1, (h c).2.2.1⟩, sem_eq_zero_of_no_sems rfl r.2⟩) (run (F := Ideal) m ρ)

/-- The reference's frame under the algebraic claim's precondition. -/
theorem frame_finite : Cert.quiescent_ReferenceIdeal_pre_chars_and_finite := fun m ρ _ =>
  (θ_run defs _ _).mono (fun r h => ⟨fun c => ⟨(h c).1, (h c).2.1, (h c).2.2.1⟩, sem_eq_zero_of_no_sems rfl r.2⟩) (run (F := Ideal) m ρ)

/-! ## The value -/

/-- The arguments' contents. -/
abbrev charsOf (c : Dev nD) : IVec S16x2048x16 32 := m ((c.tc : Thread nD τ).loc main_arg0)
abbrev factorOf (c : Dev nD) : FVec F S1 .f32 := m ((c.tc : Thread nD τ).loc main_arg2)

/-- Word `s` of sentence `b`: its sixteen characters. -/
def word (x : IVec S16x2048x16 32) (b : Fin 16) (s : Fin 2048) (n : ℕ) : BitVec 32 := if h : n < 16 then x (ix3 b s ⟨n, h⟩) else 0#32

/-- The loop's entry: the characters with their position first, the factor, and zeros. -/
theorem entry_chars (c : Dev nD) : entryContents preI m c (Proc.devRef .tc main_v3_0)
    = transpose S16x16x2048 [2, 0, 1] (charsOf m c) transposes_S16x2048x16_S16x16x2048_2_0_1 := by
  simp only [entryContents, afterL_cons, afterL_nil]
  after_reads_simp
  rfl
theorem entry_factor (c : Dev nD) : entryContents preI m c (Proc.devRef .tc main_v3_1) = shapeCast S_ (factorOf m c) shapeCasts_S1_S_ := by
  simp only [entryContents, afterL_cons, afterL_nil]
  after_reads_simp
  rfl
theorem entry_zero (c : Dev nD) : entryContents preI m c (Proc.devRef .tc main_v3_3)
    = broadcastInDim S16x2048x128 ![] bcast_S_S16x2048x128 (constant S_ .f32 0x00000000#32 : FVec F S_ .f32) := by
  simp only [entryContents, afterL_cons, afterL_nil]
  after_reads_simp
  rfl

/-- No trip writes the characters or the factor. -/
theorem atK_keep (c : Dev nD) : ∀ k, atK m k c (Proc.devRef .tc main_v3_0) = entryContents preI m c (Proc.devRef .tc main_v3_0)
    ∧ atK m k c (Proc.devRef .tc main_v3_1) = entryContents preI m c (Proc.devRef .tc main_v3_1)
  | 0 => ⟨rfl, rfl⟩
  | k + 1 => by
    rw [show atK m (k + 1) c = afterL bodyI (after condOps (atK m k c)) from rfl]
    exact ⟨(trip_main_v3_0 _).trans ((cond_keeps _ main_v3_0 (by decide)).trans (atK_keep c k).1),
      (trip_main_v3_1 _).trans ((cond_keeps _ main_v3_1 (by decide)).trans (atK_keep c k).2)⟩

/-- Trip `k` reads the words' characters `k`. -/
theorem v4_at (V : Valuation τ sig (Elt F)) (k : ℕ) (hk : k < 16) (hctr : V (Proc.devRef .tc main_v3_2) = fun _ => Scf.iv 0#32 1#32 k) (b : Fin 16) (s : Fin 2048) :
    (res_main_while0b_v4 V : IVec S16x2048 32) (ix2 b s) = (V (Proc.devRef .tc main_v3_0) : IVec S16x16x2048 32) (ix3 ⟨k, hk⟩ b s) := by
  unfold res_main_while0b_v4
  rw [hctr]
  have hiv : (Scf.iv 0#32 1#32 k : BitVec 32) = BitVec.ofNat 32 k := by simp [Scf.iv]
  rw [hiv]
  have hoff : S16x16x2048.Slices ![k, 0, 0] S1x16x2048 := ⟨rfl, fun a => match a with
    | ⟨0, _⟩ => (show k + 1 ≤ 16 by omega) | ⟨1, _⟩ => (show 0 + 16 ≤ 16 by omega) | ⟨2, _⟩ => (show 0 + 2048 ≤ 2048 by omega)⟩
  rw [Host.dynamicSlice_eq_extractStridedSlice _ _ _ ![k, 0, 0] _ hoff (fun a => match a with
    | ⟨0, _⟩ => toInt_ofNat_of_lt (by omega) | ⟨1, _⟩ => rfl | ⟨2, _⟩ => rfl)]
  show extractStridedSlice S1x16x2048 ![k, 0, 0] (V (Proc.devRef .tc main_v3_0) : IVec S16x16x2048 32) hoff (Shape.reshapeEquiv shapeCasts_S1x16x2048_S16x2048 (ix2 b s)) = _
  rw [reshapeEquiv_ix2_1ab]
  refine extractStridedSlice_apply _ _ hoff _ _ fun a => ?_
  match a with
  | ⟨0, _⟩ => rfl
  | ⟨1, _⟩ => exact (Nat.zero_add _).symm
  | ⟨2, _⟩ => exact (Nat.zero_add _).symm

/-- A comparison's bit as a number. -/
theorem bit_eq (x y : BitVec 32) : (((IntOp.cmpi .eq x y).toNat : ℝ) : EReal) = if x = y then 1 else 0 := by
  by_cases h : x = y
  · rw [if_pos h, IntOp.cmpi_eq.2 h]; simp
  · rw [if_neg h]
    have : IntOp.cmpi .eq x y = 0#1 := by
      rcases (by decide : ∀ b : BitVec 1, b = 0#1 ∨ b = 1#1) (IntOp.cmpi .eq x y) with e | e
      · exact e
      · exact absurd (IntOp.cmpi_eq.1 e) h
    rw [this]; simp

/-- A table over words, spread over the columns, at an element. -/
theorem spread_at {α : Type} (x : S16x2048.Idx → α) (b : Fin 16) (s : Fin 2048) (v : Fin 128) :
    broadcastInDim S16x2048x128 ![0, 1, 2] bcast_S16x2048x1_S16x2048x128_0_1_2 (broadcastInDim S16x2048x1 ![0, 1] bcast_S16x2048_S16x2048x1_0_1 x) (ix3 b s v)
      = x (ix2 b s) := by
  rw [broadcastInDim_apply _ _ _ (ix3 b s v) (ix3 b s (0 : Fin 1)) (fun a => match a with | ⟨0, _⟩ => rfl | ⟨1, _⟩ => rfl | ⟨2, _⟩ => rfl),
    broadcastInDim_apply _ _ _ (ix3 b s (0 : Fin 1)) (ix2 b s) (fun a => match a with | ⟨0, _⟩ => rfl | ⟨1, _⟩ => rfl)]

/-- The column numbers, spread over the words, at an element. -/
theorem column_at (b : Fin 16) (s : Fin 2048) (v : Fin 128) :
    broadcastInDim S16x2048x128 ![0, 1, 2] bcast_S1x1x128_S16x2048x128_0_1_2 (iotaInDim S1x1x128 32 2) (ix3 b s v) = BitVec.ofNat 32 v.val := by
  rw [broadcastInDim_apply _ _ _ (ix3 b s v) (ix3 (0 : Fin 1) (0 : Fin 1) v) (fun a => match a with | ⟨0, _⟩ => rfl | ⟨1, _⟩ => rfl | ⟨2, _⟩ => rfl)]
  rfl

/-- A character equals a column number as words when it does as numbers. -/
theorem eq_column (x : BitVec 32) (v : Fin 128) : x = BitVec.ofNat 32 v.val ↔ x.toNat = v.val := by
  have := v.isLt
  have e : (BitVec.ofNat 32 v.val).toNat = v.val := by rw [BitVec.toNat_ofNat]; omega
  rw [← BitVec.toNat_inj, e]

/-- The contents of the factor's buffer and of the result's, as vectors of ideal values. -/
abbrev facIn (V : Valuation τ sig (Elt Ideal)) : S_.Idx → EReal := V (Proc.devRef .tc main_v3_1)
abbrev resIn (V : Valuation τ sig (Elt Ideal)) : S16x2048x128.Idx → EReal := V (Proc.devRef .tc main_v3_3)

/-- One trip at an element, at ideal values: the recurrence's step on the character the trip reads. -/
theorem trip_at (V : Valuation τ sig (Elt Ideal)) (b : Fin 16) (s : Fin 2048) (v : Fin 128) (x : BitVec 32)
    (hx : (res_main_while0b_v4 V : IVec S16x2048 32) (ix2 b s) = x) :
    resIn (afterL bodyI V) (ix3 b s v)
      = if x ≠ 0#32 then facIn V ix0 * resIn V (ix3 b s v) + (if x.toNat = v.val then 1 else 0) else resIn V (ix3 b s v) := by
  have hc := spread_at (cmpi .ne (res_main_while0b_v4 V : IVec S16x2048 32) (broadcastInDim S16x2048 ![] bcast_S_S16x2048 (constantI S_ 32 0#32))) b s v
  have hch := spread_at (res_main_while0b_v4 V : IVec S16x2048 32) b s v
  have hfac := broadcastInDim_scalar_apply bcast_S_S16x2048x128 (facIn V) (ix3 b s v)
  show (afterL bodyI V (Proc.devRef .tc main_v3_3) : S16x2048x128.Idx → EReal) (ix3 b s v) = _
  rw [trip_main_v3_3]
  have hne : cmpi .ne (res_main_while0b_v4 V : IVec S16x2048 32) (broadcastInDim S16x2048 ![] bcast_S_S16x2048 (constantI S_ 32 0#32)) (ix2 b s)
      = IntOp.cmpi .ne x 0#32 := by rw [← hx]; rfl
  refine (congrArg₂ (fun (c : BitVec 1) (e : EReal) => Scalar.select c e (resIn V (ix3 b s v))) (hc.trans hne)
    (congrArg₂ (fun (f e : EReal) => f * resIn V (ix3 b s v) + e) hfac
      ((congrArg₂ (fun y z : BitVec 32 => (((IntOp.cmpi .eq y z).toNat : ℝ) : EReal)) (hch.trans hx) (column_at b s v)).trans (bit_eq _ _)))).trans ?_
  simp only [Scalar.select, eq_column]
  exact if_congr IntOp.cmpi_ne rfl rfl

/-- After `k` trips the result holds the recurrence over each word's first `k` characters. -/
theorem atK_at (m : (ℓ : Loc nD τ sig) → Buf (Elt Ideal) ℓ) (c : Dev nD) (b : Fin 16) (s : Fin 2048) (v : Fin 128) : ∀ k, k ≤ 16 →
    resIn (atK m k c) (ix3 b s v)
      = scan (factorOf m c (ix1 (0 : Fin 1))) (word (charsOf m c) b s) v.val k
  | 0, _ => by
    show (entryContents preI m c (Proc.devRef .tc main_v3_3) : S16x2048x128.Idx → EReal) (ix3 b s v) = _
    rw [entry_zero, broadcastInDim_scalar_apply]
    exact Ideal.ofBits_zero_f32
  | k + 1, hk => by
    have hA := cond_keeps (atK m k c)
    have hx : (res_main_while0b_v4 (after condOps (atK m k c)) : IVec S16x2048 32) (ix2 b s) = word (charsOf m c) b s k := by
      rw [v4_at _ k (by omega) ((hA main_v3_2 (by decide)).trans (atK_ctr m c k)), hA main_v3_0 (by decide), (atK_keep m c k).1, entry_chars,
        word, dif_pos (by omega)]
      exact transpose_apply _ _ _ _ _ fun a => match a with | ⟨0, _⟩ => rfl | ⟨1, _⟩ => rfl | ⟨2, _⟩ => rfl
    have hf : facIn (after condOps (atK m k c)) ix0 = factorOf m c (ix1 (0 : Fin 1)) := by
      show (after condOps (atK m k c) (Proc.devRef .tc main_v3_1) : S_.Idx → EReal) ix0 = _
      rw [hA main_v3_1 (by decide), (atK_keep m c k).2, entry_factor]
      exact congrArg (factorOf m c) (funext fun a => match a with | ⟨0, _⟩ => Subsingleton.elim (α := Fin 1) _ _)
    have hr : resIn (after condOps (atK m k c)) = resIn (atK m k c) := hA main_v3_3 (by decide)
    rw [show atK m (k + 1) c = afterL bodyI (after condOps (atK m k c)) from rfl, trip_at _ b s v _ hx, hf, hr, atK_at m c b s v k (by omega), scan]

end Cert.Proof.Ref

end
-- ==== Proof.Value.lean ====
/-
  The idealized kernel's result is the reference's: element by element, the code summed from the last character to the first
  is the recurrence run from the first to the last.
-/
module

public import proofs.«01_k».proof.Proof.Frames
public import proofs.«01_k».proof.Proof.RefRun

@[expose] public section

noncomputable section

namespace Cert.Proof

open Cert.KernelIdeal Cert.KernelIdeal.Gen
open Idealize.ShloMosaic Idealize.ShloMosaic.StableHlo Idealize.ShloMosaic.ValueIdx Idealize.ShloMosaic.TcCoe
open Idealize.SL.Sem

variable (m : (ℓ : Loc nD τ sig) → Buf (Elt Ideal) ℓ)

/-- The kernel's arguments' contents. -/
abbrev charsK (d : Dev nD) : IVec S16x2048x16 32 := m ((SparseCore.T d).loc main_arg0)
abbrev factorK (d : Dev nD) : FVec Ideal S1 .f32 := m ((SparseCore.T d).loc main_arg2)

/-- Every lane of the call's factor is the factor. -/
theorem ffOf_at (d : Dev nD) (j : S16.Idx) : (ffOf m d : S16.Idx → EReal) j = factorK m d (ix1 (0 : Fin 1)) := by
  rw [ffOf_eq]
  exact broadcastInDim_apply _ _ _ _ (ix1 (0 : Fin 1)) fun a => match a with | ⟨0, _⟩ => rfl

/-- The call's table at a word is the word's characters. -/
theorem tabAt_word (d : Dev nD) (b : Fin 16) (s : Fin 2048) (n : ℕ) (hn : n < 16) :
    tabAt (tabOf m d) b.val n s.val = Ref.word (charsK m d) b s n := by
  rw [tabAt, dif_pos ⟨b.isLt, hn, s.isLt⟩, Ref.word, dif_pos hn, tabOf_eq]
  exact transpose_ix3_021_apply _ _ _ _ _

/-- The word `(b, s)`'s column `v` in the call's flat output. -/
def flatIx (b : Fin 16) (s : Fin 2048) (v : Fin 128) : Fin 4194304 := ⟨262144 * b.val + 128 * s.val + v.val, by omega⟩

/-- The result's element is the flat output's. -/
theorem flat_at (b : Fin 16) (s : Fin 2048) (v : Fin 128) :
    Shape.reshapeEquiv shapeCasts_S4194304_S16x2048x128 (ix3 b s v) = ix1 (flatIx b s v) := by
  refine Shape.reshapeEquiv_eq_of_rowMajor _ ?_
  rw [Shape.rowMajor_val_three, Shape.rowMajor_val_one]
  show 262144 * b.val + 128 * s.val + v.val = (b.val * 2048 + s.val) * 128 + v.val
  omega

/-- The flat output at that element: the code of the word's characters. -/
theorem outVal_flat (ffv : Vec Ideal S16 .f32) (tab : Vec Ideal S16x16x2048 .i32) (b : Fin 16) (s : Fin 2048) (v : Fin 128) :
    ∃ k : Fin 16, outVal ffv tab (ix1 (flatIx b s v)) = enc (F := Ideal) (ffv (lane k)) (fun n => tabAt (F := Ideal) tab b.val n s.val) v.val 16 := by
  have hN : (ix1 (flatIx b s v) (0 : Fin 1)).val = 262144 * b.val + 128 * s.val + v.val := rfl
  refine ⟨⟨(ix1 (flatIx b s v) (0 : Fin 1)).val / 128 % 16, Nat.mod_lt _ (by decide)⟩, ?_⟩
  rw [outVal]
  congr 1
  · funext n
    congr 1
    · rw [hN]; omega
    · rw [hN]; omega
  · rw [hN]; omega

/-- The kernel's result at an element: the recurrence over the word's characters, the factor finite. -/
theorem res_at (d : Dev nD) (h0 : factorK m d (ix1 (0 : Fin 1)) ≠ (⊥ : EReal)) (h1 : factorK m d (ix1 (0 : Fin 1)) ≠ (⊤ : EReal)) (b : Fin 16) (s : Fin 2048) (v : Fin 128) :
    (resOf m d : S16x2048x128.Idx → EReal) (ix3 b s v) = scan (factorK m d (ix1 (0 : Fin 1))) (Ref.word (charsK m d) b s) v.val 16 := by
  obtain ⟨k, hk⟩ := outVal_flat (ffOf m d) (tabOf m d) b s v
  refine (congrArg (outVal (ffOf m d) (tabOf m d)) (flat_at b s v)).trans (hk.trans ?_)
  rw [show ffOf m d (lane k) = factorK m d (ix1 (0 : Fin 1)) from ffOf_at m d _, enc_congr _ _ (Ref.word (charsK m d) b s) _ (fun n hn => tabAt_word m d b s n hn)]
  exact enc_eq_scan _ h0 h1 _ _

/-- The algebraic claim: on characters of the vocabulary and a finite factor the idealized kernel and the reference, run on
the same arguments, end with the same two results: the codes, and the lengths as given. -/
theorem algebraic : Cert.algebraic_KernelIdeal_ReferenceIdeal_pre_chars_and_finite := by
  intro m g m' g' hpre hargs
  refine ⟨fun c => resOf m c, fun c => m ((SparseCore.T c).loc main_arg1), ?_, ?_⟩
  · exact (θ_run defs _ _).mono (fun r h c => ⟨(h.1 c).2.2.2, (h.1 c).2.1, (h.1 c).1, (h.1 c).2.1, (h.1 c).2.2.1⟩)
      (run_main (F := Ideal) m g (tab_lt m fun d j => (of_chars_and_finite _ _ _ (hpre d)).1 j))
  · refine (θ_run Cert.ReferenceIdeal.defs _ _).mono (fun r h c => ⟨(h c).2.2.2.trans ?_, (h c).2.1.trans (hargs c).2.1, (h c).1, (h c).2.1, (h c).2.2.1⟩) (Ref.run (F := Ideal) m' g')
    obtain ⟨h0, h1⟩ := finite_of_lt _ ((of_chars_and_finite _ _ _ (hpre c)).2 (ix1 (0 : Fin 1)))
    funext j
    obtain ⟨b, s, v, rfl⟩ : ∃ b s v, j = ix3 b s v := ⟨_, _, _, eq_ix3 j⟩
    refine (Ref.atK_at m' c b s v 16 le_rfl).trans (Eq.trans ?_ (res_at m c h0 h1 b s v).symm)
    rw [show Ref.charsOf m' c = charsK m c from (hargs c).1, show Ref.factorOf m' c = factorK m c from (hargs c).2.2]

end Cert.Proof

end
-- ==== Proof.lean ====
/-
  The claims, put together: both programs' frames, the idealized kernel's text being the kernel's own, and the idealized
  kernel's two results equal to the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_chars_in_vocab
public import proofs.«01_k».proof.Proof.Gen.Pre_chars_and_finite
public import proofs.«01_k».proof.Proof.Gen.ReferenceIdeal.Run
public import proofs.«01_k».proof.Proof.Frames
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims: each program's frame under its precondition, the two kernels' text the same, and the results equal. -/
theorem claim : Cert.Claim := ⟨Cert.Kernel.Gen.facts, Cert.KernelIdeal.Gen.facts, Cert.ReferenceIdeal.Gen.facts, Cert.Pre_chars_in_vocab.Gen.facts, Cert.Pre_chars_and_finite.Gen.facts,
  frame_kernel, frame_ideal, frame_ideal_finite, Ref.frame, Ref.frame_finite, trivial, algebraic⟩

end Cert.Proof

end
